-- ==== Defs.lean ====
def Pre_Kernel [hPre_pages_in_pool : Cert.Pre_pages_in_pool.Facts] (m : (ℓ : Loc Cert.Kernel.nD Cert.Kernel.τ Cert.Kernel.sig) → Buf (Elt Bits) ℓ) : Prop :=
  ∀ c : Dev Cert.Kernel.nD,
    (Cert.Pre_pages_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_pages_in_pool : Cert.Pre_pages_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_pages_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_in_pool [hPre_pages_in_pool : Cert.Pre_pages_in_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_in_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] [hPre_pages_in_pool : Cert.Pre_pages_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] [hPre_pages_in_pool : Cert.Pre_pages_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_pages_in_pool [hReferenceIdeal : Cert.ReferenceIdeal.Facts] [hPre_pages_in_pool : Cert.Pre_pages_in_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_in_pool m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_on_prompt_result [hKernelIdeal : Cert.KernelIdeal.Facts] [hReferenceIdeal : Cert.ReferenceIdeal.Facts] [hPre_pages_in_pool : Cert.Pre_pages_in_pool.Facts] [hOn_prompt_result : Cert.On_prompt_result.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32768, 1024]⟩ : Shape).Idx, (Cert.On_prompt_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 i = 1#1 → r.2.mem ((c.tc : Thread Cert.KernelIdeal.nD Cert.KernelIdeal.τ).loc Cert.KernelIdeal.main_v28_0) i = v0 c i)
          ∧ (∀ i : (⟨4, ![32, 8, 64, 1]⟩ : Shape).Idx, (Cert.On_prompt_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2 i = 1#1 → r.2.mem ((c.tc : Thread Cert.KernelIdeal.nD Cert.KernelIdeal.τ).loc Cert.KernelIdeal.main_v28_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![32768, 1024]⟩ : Shape).Idx, (Cert.On_prompt_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 i = 1#1 → r.2.mem ((c.tc : Thread Cert.ReferenceIdeal.nD Cert.ReferenceIdeal.τ).loc Cert.ReferenceIdeal.main_v138) i = v0 c i)
          ∧ (∀ i : (⟨4, ![32, 8, 64, 1]⟩ : Shape).Idx, (Cert.On_prompt_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2 i = 1#1 → r.2.mem ((c.tc : Thread Cert.ReferenceIdeal.nD Cert.ReferenceIdeal.τ).loc Cert.ReferenceIdeal.main_v139) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_pages_in_pool : Cert.Pre_pages_in_pool.Facts) (hOn_prompt_result : Cert.On_prompt_result.Facts),
    quiescent_Kernel (hKernel := hKernel) (hPre_pages_in_pool := hPre_pages_in_pool)
    ∧ quiescent_KernelIdeal (hKernelIdeal := hKernelIdeal) (hPre_pages_in_pool := hPre_pages_in_pool)
    ∧ quiescent_ReferenceIdeal (hReferenceIdeal := hReferenceIdeal)
    ∧ quiescent_ReferenceIdeal_pre_pages_in_pool (hReferenceIdeal := hReferenceIdeal) (hPre_pages_in_pool := hPre_pages_in_pool)
    ∧ preserves_Kernel_KernelIdeal
    ∧ algebraic_KernelIdeal_ReferenceIdeal_on_prompt_result (hKernelIdeal := hKernelIdeal) (hReferenceIdeal := hReferenceIdeal) (hPre_pages_in_pool := hPre_pages_in_pool) (hOn_prompt_result := hOn_prompt_result)
-- ==== On_prompt_result.lean ====
abbrev S8x4096x1024 : Shape := ⟨3, ![8, 4096, 1024]⟩
abbrev S8x4096x512 : Shape := ⟨3, ![8, 4096, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32x128 : Shape := ⟨2, ![32, 128]⟩
abbrev S32x512 : Shape := ⟨2, ![32, 512]⟩
abbrev S32x8 : Shape := ⟨2, ![32, 8]⟩
abbrev S1x5120x128x8x64 : Shape := ⟨5, ![1, 5120, 128, 8, 64]⟩
abbrev S1x5120x128x8 : Shape := ⟨4, ![1, 5120, 128, 8]⟩
abbrev S_ : Shape := ⟨0, ![]⟩
abbrev S32768x1024 : Shape := ⟨2, ![32768, 1024]⟩
abbrev S32x8x64x1 : Shape := ⟨4, ![32, 8, 64, 1]⟩

class Facts : Prop where
  bcast_S_S32768x1024 : S_.BroadcastsInDim S32768x1024 (![] : Fin 0 → Fin S32768x1024.rank)
  bcast_S_S32x8x64x1 : S_.BroadcastsInDim S32x8x64x1 (![] : Fin 0 → Fin S32x8x64x1.rank)

variable [Facts]

def fn {F : FTy → Type} [FloatOps F] (main_arg0 : FVec F S8x4096x1024 .f32) (main_arg1 : FVec F S8x4096x512 .bf16) (main_arg2 : FVec F S8x4096x512 .bf16) (main_arg3 : FVec F S1x1024x1024 .f32) (main_arg4 : FVec F S1x1024 .f32) (main_arg5 : FVec F S1x1024 .f32) (main_arg6 : FVec F S1x1024x2816 .f32) (main_arg7 : FVec F S1x1024x2816 .f32) (main_arg8 : FVec F S1x2816x1024 .f32) (main_arg9 : FVec F S1x1024 .f32) (main_arg10 : FVec F S1x1024 .f32) (main_arg11 : IVec S32x128 32) (main_arg12 : FVec F S32x512 .f32) (main_arg13 : FVec F S32x512 .f32) (main_arg14 : FVec F S32x512 .f32) (main_arg15 : FVec F S32x8 .f32) (main_arg16 : FVec F S1x5120x128x8x64 .f32) (main_arg17 : FVec F S1x5120x128x8x64 .f32) (main_arg18 : FVec F S1x5120x128x8 .f32) : IVec S32768x1024 1 × IVec S32x8x64x1 1 :=
  let main_c : IVec S_ 1 := constantI S_ 1 1#1
  let main_v0 : IVec S32768x1024 1 := broadcastInDim S32768x1024 ![] bcast_S_S32768x1024 main_c
  let main_c_0 : IVec S_ 1 := constantI S_ 1 0#1
  let main_v1 : IVec S32x8x64x1 1 := broadcastInDim S32x8x64x1 ![] bcast_S_S32x8x64x1 main_c_0
  (main_v0, main_v1)
-- ==== Pre_pages_in_pool.lean ====
abbrev S8x4096x1024 : Shape := ⟨3, ![8, 4096, 1024]⟩
abbrev S8x4096x512 : Shape := ⟨3, ![8, 4096, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32x128 : Shape := ⟨2, ![32, 128]⟩
abbrev S32x512 : Shape := ⟨2, ![32, 512]⟩
abbrev S32x8 : Shape := ⟨2, ![32, 8]⟩
abbrev S1x5120x128x8x64 : Shape := ⟨5, ![1, 5120, 128, 8, 64]⟩
abbrev S1x5120x128x8 : Shape := ⟨4, ![1, 5120, 128, 8]⟩
abbrev S_ : Shape := ⟨0, ![]⟩

class Facts : Prop where
  bcast_S_S32x128 : S_.BroadcastsInDim S32x128 (![] : Fin 0 → Fin S32x128.rank)

variable [Facts]

def fn {F : FTy → Type} [FloatOps F] (main_arg0 : FVec F S8x4096x1024 .f32) (main_arg1 : FVec F S8x4096x512 .bf16) (main_arg2 : FVec F S8x4096x512 .bf16) (main_arg3 : FVec F S1x1024x1024 .f32) (main_arg4 : FVec F S1x1024 .f32) (main_arg5 : FVec F S1x1024 .f32) (main_arg6 : FVec F S1x1024x2816 .f32) (main_arg7 : FVec F S1x1024x2816 .f32) (main_arg8 : FVec F S1x2816x1024 .f32) (main_arg9 : FVec F S1x1024 .f32) (main_arg10 : FVec F S1x1024 .f32) (main_arg11 : IVec S32x128 32) (main_arg12 : FVec F S32x512 .f32) (main_arg13 : FVec F S32x512 .f32) (main_arg14 : FVec F S32x512 .f32) (main_arg15 : FVec F S32x8 .f32) (main_arg16 : FVec F S1x5120x128x8x64 .f32) (main_arg17 : FVec F S1x5120x128x8x64 .f32) (main_arg18 : FVec F S1x5120x128x8 .f32) : IVec S32x128 1 :=
  let main_c : IVec S_ 32 := constantI S_ 32 0#32
  let main_v0 : IVec S32x128 32 := broadcastInDim S32x128 ![] bcast_S_S32x128 main_c
  let main_v1 : IVec S32x128 1 := cmpi .sge main_arg11 main_v0
  let main_c_0 : IVec S_ 32 := constantI S_ 32 5120#32
  let main_v2 : IVec S32x128 32 := broadcastInDim S32x128 ![] bcast_S_S32x128 main_c_0
  let main_v3 : IVec S32x128 1 := cmpi .slt main_arg11 main_v2
  let main_v4 : IVec S32x128 1 := andi main_v1 main_v3
  main_v4
-- ==== Kernel.lean ====
abbrev S8x4096x1024 : Shape := ⟨3, ![8, 4096, 1024]⟩
abbrev S8x4096x512 : Shape := ⟨3, ![8, 4096, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32x128 : Shape := ⟨2, ![32, 128]⟩
abbrev S32x512 : Shape := ⟨2, ![32, 512]⟩
abbrev S32x8 : Shape := ⟨2, ![32, 8]⟩
abbrev S1x5120x128x8x64 : Shape := ⟨5, ![1, 5120, 128, 8, 64]⟩
abbrev S1x5120x128x8 : Shape := ⟨4, ![1, 5120, 128, 8]⟩
abbrev S1024x1024 : Shape := ⟨2, ![1024, 1024]⟩
abbrev S1024x2816 : Shape := ⟨2, ![1024, 2816]⟩
abbrev S2816x1024 : Shape := ⟨2, ![2816, 1024]⟩
abbrev S1024 : Shape := ⟨1, ![1024]⟩
abbrev S32768x1024 : Shape := ⟨2, ![32768, 1024]⟩
abbrev S32768x512 : Shape := ⟨2, ![32768, 512]⟩
abbrev S5120x128x8x64 : Shape := ⟨4, ![5120, 128, 8, 64]⟩
abbrev S5120x8x64x128 : Shape := ⟨4, ![5120, 8, 64, 128]⟩
abbrev S5120x128x8 : Shape := ⟨3, ![5120, 128, 8]⟩
abbrev S5120x8x128 : Shape := ⟨3, ![5120, 8, 128]⟩
abbrev S96x512 : Shape := ⟨2, ![96, 512]⟩
abbrev S512x96 : Shape := ⟨2, ![512, 96]⟩
abbrev S32x8x1x1 : Shape := ⟨4, ![32, 8, 1, 1]⟩
abbrev S32x8x64x1 : Shape := ⟨4, ![32, 8, 64, 1]⟩
abbrev S512x1024 : Shape := ⟨2, ![512, 1024]⟩
abbrev S512x512 : Shape := ⟨2, ![512, 512]⟩
abbrev S1x8x1x1 : Shape := ⟨4, ![1, 8, 1, 1]⟩
abbrev S1x8x64x128 : Shape := ⟨4, ![1, 8, 64, 128]⟩
abbrev S1x1 : Shape := ⟨2, ![1, 1]⟩
abbrev S1x8x128 : Shape := ⟨3, ![1, 8, 128]⟩
abbrev S1x8x64x1 : Shape := ⟨4, ![1, 8, 64, 1]⟩
abbrev S8x64x128 : Shape := ⟨3, ![8, 64, 128]⟩
abbrev S8x128 : Shape := ⟨2, ![8, 128]⟩
abbrev S128x128 : Shape := ⟨2, ![128, 128]⟩
abbrev S128x256 : Shape := ⟨2, ![128, 256]⟩
abbrev S8x2048 : Shape := ⟨2, ![8, 2048]⟩
abbrev S8x1 : Shape := ⟨2, ![8, 1]⟩
abbrev S8 : Shape := ⟨1, ![8]⟩
abbrev S1x64x128 : Shape := ⟨3, ![1, 64, 128]⟩
abbrev S64x128 : Shape := ⟨2, ![64, 128]⟩
abbrev S1x128 : Shape := ⟨2, ![1, 128]⟩
abbrev S1x1x64x128 : Shape := ⟨4, ![1, 1, 64, 128]⟩
abbrev S1024x512 : Shape := ⟨2, ![1024, 512]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S8x64x1 : Shape := ⟨3, ![8, 64, 1]⟩
abbrev S1x1x1 : Shape := ⟨3, ![1, 1, 1]⟩
abbrev S8x1x1 : Shape := ⟨3, ![8, 1, 1]⟩
abbrev S8x64 : Shape := ⟨2, ![8, 64]⟩

abbrev nBuf : Space → Nat
  | .hbm => 48
  | .vmem => 125
  | .smem => 1
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S1x1024, .f32⟩
  | .hbm, ⟨11, _⟩ => ⟨S32x512, .f32⟩
  | .hbm, ⟨12, _⟩ => ⟨S32x512, .f32⟩
  | .hbm, ⟨13, _⟩ => ⟨S32x512, .f32⟩
  | .hbm, ⟨14, _⟩ => ⟨S32x8, .f32⟩
  | .hbm, ⟨15, _⟩ => ⟨S1x5120x128x8x64, .f32⟩
  | .hbm, ⟨16, _⟩ => ⟨S1x5120x128x8x64, .f32⟩
  | .hbm, ⟨17, _⟩ => ⟨S1x5120x128x8, .f32⟩
  | .hbm, ⟨18, _⟩ => ⟨S1024x1024, .f32⟩
  | .hbm, ⟨19, _⟩ => ⟨S1024x1024, .bf16⟩
  | .hbm, ⟨20, _⟩ => ⟨S1024x2816, .f32⟩
  | .hbm, ⟨21, _⟩ => ⟨S1024x2816, .bf16⟩
  | .hbm, ⟨22, _⟩ => ⟨S1024x2816, .f32⟩
  | .hbm, ⟨23, _⟩ => ⟨S1024x2816, .bf16⟩
  | .hbm, ⟨24, _⟩ => ⟨S2816x1024, .f32⟩
  | .hbm, ⟨25, _⟩ => ⟨S2816x1024, .bf16⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S32768x1024, .f32⟩
  | .hbm, ⟨35, _⟩ => ⟨S32768x512, .bf16⟩
  | .hbm, ⟨36, _⟩ => ⟨S32768x512, .bf16⟩
  | .hbm, ⟨37, _⟩ => ⟨S5120x128x8x64, .f32⟩
  | .hbm, ⟨38, _⟩ => ⟨S5120x8x64x128, .f32⟩
  | .hbm, ⟨39, _⟩ => ⟨S5120x128x8x64, .f32⟩
  | .hbm, ⟨40, _⟩ => ⟨S5120x8x64x128, .f32⟩
  | .hbm, ⟨41, _⟩ => ⟨S5120x128x8, .f32⟩
  | .hbm, ⟨42, _⟩ => ⟨S5120x8x128, .f32⟩
  | .hbm, ⟨43, _⟩ => ⟨S96x512, .f32⟩
  | .hbm, ⟨44, _⟩ => ⟨S512x96, .f32⟩
  | .hbm, ⟨45, _⟩ => ⟨S32x8x1x1, .f32⟩
  | .hbm, ⟨46, _⟩ => ⟨S32768x1024, .f32⟩
  | .hbm, ⟨47, _⟩ => ⟨S32x8x64x1, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S1x1024, .f32⟩
  | .local _ .vmem, ⟨14, _⟩ => ⟨S512x96, .f32⟩
  | .local _ .vmem, ⟨15, _⟩ => ⟨S1x8x1x1, .f32⟩
  | .local _ .vmem, ⟨16, _⟩ => ⟨S1x8x1x1, .f32⟩
  | .local _ .vmem, ⟨17, _⟩ => ⟨S1x8x64x128, .f32⟩
  | .local _ .vmem, ⟨18, _⟩ => ⟨S1x8x64x128, .f32⟩
  | .local _ .vmem, ⟨19, _⟩ => ⟨S1x8x64x128, .f32⟩
  | .local _ .vmem, ⟨20, _⟩ => ⟨S1x8x64x128, .f32⟩
  | .local _ .vmem, ⟨21, _⟩ => ⟨S1x8x64x128, .f32⟩
  | .local _ .vmem, ⟨22, _⟩ => ⟨S1x8x64x128, .f32⟩
  | .local _ .vmem, ⟨23, _⟩ => ⟨S1x8x64x128, .f32⟩
  | .local _ .vmem, ⟨24, _⟩ => ⟨S1x8x64x128, .f32⟩
  | .local _ .vmem, ⟨25, _⟩ => ⟨S1x8x64x128, .f32⟩
  | .local _ .vmem, ⟨26, _⟩ => ⟨S1x8x64x128, .f32⟩
  | .local _ .vmem, ⟨27, _⟩ => ⟨S1x8x64x128, .f32⟩
  | .local _ .vmem, ⟨28, _⟩ => ⟨S1x8x64x128, .f32⟩
  | .local _ .vmem, ⟨29, _⟩ => ⟨S1x8x64x128, .f32⟩
  | .local _ .vmem, ⟨30, _⟩ => ⟨S1x8x64x128, .f32⟩
  | .local _ .vmem, ⟨31, _⟩ => ⟨S1x8x64x128, .f32⟩
  | .local _ .vmem, ⟨32, _⟩ => ⟨S1x8x64x128, .f32⟩
  | .local _ .vmem, ⟨33, _⟩ => ⟨S1x8x64x128, .f32⟩
  | .local _ .vmem, ⟨34, _⟩ => ⟨S1x8x64x128, .f32⟩
  | .local _ .vmem, ⟨35, _⟩ => ⟨S1x8x64x128, .f32⟩
  | .local _ .vmem, ⟨36, _⟩ => ⟨S1x8x64x128, .f32⟩
  | .local _ .vmem, ⟨37, _⟩ => ⟨S1x8x64x128, .f32⟩
  | .local _ .vmem, ⟨38, _⟩ => ⟨S1x8x64x128, .f32⟩
  | .local _ .vmem, ⟨39, _⟩ => ⟨S1x8x64x128, .f32⟩
  | .local _ .vmem, ⟨40, _⟩ => ⟨S1x8x64x128, .f32⟩
  | .local _ .vmem, ⟨41, _⟩ => ⟨S1x8x64x128, .f32⟩
  | .local _ .vmem, ⟨42, _⟩ => ⟨S1x8x64x128, .f32⟩
  | .local _ .vmem, ⟨43, _⟩ => ⟨S1x8x64x128, .f32⟩
  | .local _ .vmem, ⟨44, _⟩ => ⟨S1x8x64x128, .f32⟩
  | .local _ .vmem, ⟨45, _⟩ => ⟨S1x8x64x128, .f32⟩
  | .local _ .vmem, ⟨46, _⟩ => ⟨S1x8x64x128, .f32⟩
  | .local _ .vmem, ⟨47, _⟩ => ⟨S1x8x64x128, .f32⟩
  | .local _ .vmem, ⟨48, _⟩ => ⟨S1x8x64x128, .f32⟩
  | .local _ .vmem, ⟨49, _⟩ => ⟨S1x8x64x128, .f32⟩
  | .local _ .vmem, ⟨50, _⟩ => ⟨S1x8x64x128, .f32⟩
  | .local _ .vmem, ⟨51, _⟩ => ⟨S1x8x64x128, .f32⟩
  | .local _ .vmem, ⟨52, _⟩ => ⟨S1x8x64x128, .f32⟩
  | .local _ .vmem, ⟨53, _⟩ => ⟨S1x8x64x128, .f32⟩
  | .local _ .vmem, ⟨54, _⟩ => ⟨S1x8x64x128, .f32⟩
  | .local _ .vmem, ⟨55, _⟩ => ⟨S1x8x64x128, .f32⟩
  | .local _ .vmem, ⟨56, _⟩ => ⟨S1x8x64x128, .f32⟩
  | .local _ .vmem, ⟨57, _⟩ => ⟨S1x8x64x128, .f32⟩
  | .local _ .vmem, ⟨58, _⟩ => ⟨S1x8x64x128, .f32⟩
  | .local _ .vmem, ⟨59, _⟩ => ⟨S1x8x64x128, .f32⟩
  | .local _ .vmem, ⟨60, _⟩ => ⟨S1x8x64x128, .f32⟩
  | .local _ .vmem, ⟨61, _⟩ => ⟨S1x8x64x128, .f32⟩
  | .local _ .vmem, ⟨62, _⟩ => ⟨S1x8x64x128, .f32⟩
  | .local _ .vmem, ⟨63, _⟩ => ⟨S1x8x64x128, .f32⟩
  | .local _ .vmem, ⟨64, _⟩ => ⟨S1x8x64x128, .f32⟩
  | .local _ .vmem, ⟨65, _⟩ => ⟨S1x8x64x128, .f32⟩
  | .local _ .vmem, ⟨66, _⟩ => ⟨S1x8x64x128, .f32⟩
  | .local _ .vmem, ⟨67, _⟩ => ⟨S1x8x64x128, .f32⟩
  | .local _ .vmem, ⟨68, _⟩ => ⟨S1x8x64x128, .f32⟩
  | .local _ .vmem, ⟨69, _⟩ => ⟨S1x8x64x128, .f32⟩
  | .local _ .vmem, ⟨70, _⟩ => ⟨S1x8x64x128, .f32⟩
  | .local _ .vmem, ⟨71, _⟩ => ⟨S1x8x64x128, .f32⟩
  | .local _ .vmem, ⟨72, _⟩ => ⟨S1x8x64x128, .f32⟩
  | .local _ .vmem, ⟨73, _⟩ => ⟨S1x8x64x128, .f32⟩
  | .local _ .vmem, ⟨74, _⟩ => ⟨S1x8x64x128, .f32⟩
  | .local _ .vmem, ⟨75, _⟩ => ⟨S1x8x64x128, .f32⟩
  | .local _ .vmem, ⟨76, _⟩ => ⟨S1x8x64x128, .f32⟩
  | .local _ .vmem, ⟨77, _⟩ => ⟨S1x8x64x128, .f32⟩
  | .local _ .vmem, ⟨78, _⟩ => ⟨S1x8x64x128, .f32⟩
  | .local _ .vmem, ⟨79, _⟩ => ⟨S1x8x64x128, .f32⟩
  | .local _ .vmem, ⟨80, _⟩ => ⟨S1x8x64x128, .f32⟩
  | .local _ .vmem, ⟨81, _⟩ => ⟨S1x8x128, .f32⟩
  | .local _ .vmem, ⟨82, _⟩ => ⟨S1x8x128, .f32⟩
  | .local _ .vmem, ⟨83, _⟩ => ⟨S1x8x128, .f32⟩
  | .local _ .vmem, ⟨84, _⟩ => ⟨S1x8x128, .f32⟩
  | .local _ .vmem, ⟨85, _⟩ => ⟨S1x8x128, .f32⟩
  | .local _ .vmem, ⟨86, _⟩ => ⟨S1x8x128, .f32⟩
  | .local _ .vmem, ⟨87, _⟩ => ⟨S1x8x128, .f32⟩
  | .local _ .vmem, ⟨88, _⟩ => ⟨S1x8x128, .f32⟩
  | .local _ .vmem, ⟨89, _⟩ => ⟨S1x8x128, .f32⟩
  | .local _ .vmem, ⟨90, _⟩ => ⟨S1x8x128, .f32⟩
  | .local _ .vmem, ⟨91, _⟩ => ⟨S1x8x128, .f32⟩
  | .local _ .vmem, ⟨92, _⟩ => ⟨S1x8x128, .f32⟩
  | .local _ .vmem, ⟨93, _⟩ => ⟨S1x8x128, .f32⟩
  | .local _ .vmem, ⟨94, _⟩ => ⟨S1x8x128, .f32⟩
  | .local _ .vmem, ⟨95, _⟩ => ⟨S1x8x128, .f32⟩
  | .local _ .vmem, ⟨96, _⟩ => ⟨S1x8x128, .f32⟩
  | .local _ .vmem, ⟨97, _⟩ => ⟨S1x8x128, .f32⟩
  | .local _ .vmem, ⟨98, _⟩ => ⟨S1x8x128, .f32⟩
  | .local _ .vmem, ⟨99, _⟩ => ⟨S1x8x128, .f32⟩
  | .local _ .vmem, ⟨100, _⟩ => ⟨S1x8x128, .f32⟩
  | .local _ .vmem, ⟨101, _⟩ => ⟨S1x8x128, .f32⟩
  | .local _ .vmem, ⟨102, _⟩ => ⟨S1x8x128, .f32⟩
  | .local _ .vmem, ⟨103, _⟩ => ⟨S1x8x128, .f32⟩
  | .local _ .vmem, ⟨104, _⟩ => ⟨S1x8x128, .f32⟩
  | .local _ .vmem, ⟨105, _⟩ => ⟨S1x8x128, .f32⟩
  | .local _ .vmem, ⟨106, _⟩ => ⟨S1x8x128, .f32⟩
  | .local _ .vmem, ⟨107, _⟩ => ⟨S1x8x128, .f32⟩
  | .local _ .vmem, ⟨108, _⟩ => ⟨S1x8x128, .f32⟩
  | .local _ .vmem, ⟨109, _⟩ => ⟨S1x8x128, .f32⟩
  | .local _ .vmem, ⟨110, _⟩ => ⟨S1x8x128, .f32⟩
  | .local _ .vmem, ⟨111, _⟩ => ⟨S1x8x128, .f32⟩
  | .local _ .vmem, ⟨112, _⟩ => ⟨S1x8x128, .f32⟩
  | .local _ .vmem, ⟨113, _⟩ => ⟨S512x1024, .f32⟩
  | .local _ .vmem, ⟨114, _⟩ => ⟨S512x1024, .f32⟩
  | .local _ .vmem, ⟨115, _⟩ => ⟨S1x8x64x1, .f32⟩
  | .local _ .vmem, ⟨116, _⟩ => ⟨S1x8x64x1, .f32⟩
  | .local _ .vmem, ⟨117, _⟩ => ⟨S512x1024, .f32⟩
  | .local _ .vmem, ⟨118, _⟩ => ⟨S512x1024, .bf16⟩
  | .local _ .vmem, ⟨119, _⟩ => ⟨S512x1024, .f32⟩
  | .local _ .vmem, ⟨120, _⟩ => ⟨S8x64x128, .f32⟩
  | .local _ .vmem, ⟨121, _⟩ => ⟨S8x128, .f32⟩
  | .local _ .vmem, ⟨122, _⟩ => ⟨S8x128, .f32⟩
  | .local _ .vmem, ⟨123, _⟩ => ⟨S8x64x128, .f32⟩
  | .local _ .vmem, ⟨124, _⟩ => ⟨S8x128, .f32⟩
  | .local _ .smem, ⟨0, _⟩ => ⟨S32x128, .i32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | _, _ => false

abbrev semScoped : Fin 0 → Bool
  | ⟨_, h⟩ => absurd h (Nat.not_lt_zero _)

abbrev dmaSemScoped : Fin 117 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | _ => false

abbrev sig : RefSig :=
  ofTc nBuf bufTy 0 117 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg12 : Ref sig .tc := ⟨.hbm, 11, rfl⟩
abbrev main_arg13 : Ref sig .tc := ⟨.hbm, 12, rfl⟩
abbrev main_arg14 : Ref sig .tc := ⟨.hbm, 13, rfl⟩
abbrev main_arg15 : Ref sig .tc := ⟨.hbm, 14, rfl⟩
abbrev main_arg16 : Ref sig .tc := ⟨.hbm, 15, rfl⟩
abbrev main_arg17 : Ref sig .tc := ⟨.hbm, 16, rfl⟩
abbrev main_arg18 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_arg11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_stg25_0 : Ref sig .tc := ⟨.vmem, 41, rfl⟩
abbrev cc0_stg25_1 : Ref sig .tc := ⟨.vmem, 42, rfl⟩
abbrev cc0_stg26_0 : Ref sig .tc := ⟨.vmem, 43, rfl⟩
abbrev cc0_stg26_1 : Ref sig .tc := ⟨.vmem, 44, rfl⟩
abbrev cc0_stg27_0 : Ref sig .tc := ⟨.vmem, 45, rfl⟩
abbrev cc0_stg27_1 : Ref sig .tc := ⟨.vmem, 46, rfl⟩
abbrev cc0_stg28_0 : Ref sig .tc := ⟨.vmem, 47, rfl⟩
abbrev cc0_stg28_1 : Ref sig .tc := ⟨.vmem, 48, rfl⟩
abbrev cc0_stg29_0 : Ref sig .tc := ⟨.vmem, 49, rfl⟩
abbrev cc0_stg29_1 : Ref sig .tc := ⟨.vmem, 50, rfl⟩
abbrev cc0_stg30_0 : Ref sig .tc := ⟨.vmem, 51, rfl⟩
abbrev cc0_stg30_1 : Ref sig .tc := ⟨.vmem, 52, rfl⟩
abbrev cc0_stg31_0 : Ref sig .tc := ⟨.vmem, 53, rfl⟩
abbrev cc0_stg31_1 : Ref sig .tc := ⟨.vmem, 54, rfl⟩
abbrev cc0_stg32_0 : Ref sig .tc := ⟨.vmem, 55, rfl⟩
abbrev cc0_stg32_1 : Ref sig .tc := ⟨.vmem, 56, rfl⟩
abbrev cc0_stg33_0 : Ref sig .tc := ⟨.vmem, 57, rfl⟩
abbrev cc0_stg33_1 : Ref sig .tc := ⟨.vmem, 58, rfl⟩
abbrev cc0_stg34_0 : Ref sig .tc := ⟨.vmem, 59, rfl⟩
abbrev cc0_stg34_1 : Ref sig .tc := ⟨.vmem, 60, rfl⟩
abbrev cc0_stg35_0 : Ref sig .tc := ⟨.vmem, 61, rfl⟩
abbrev cc0_stg35_1 : Ref sig .tc := ⟨.vmem, 62, rfl⟩
abbrev cc0_stg36_0 : Ref sig .tc := ⟨.vmem, 63, rfl⟩
abbrev cc0_stg36_1 : Ref sig .tc := ⟨.vmem, 64, rfl⟩
abbrev cc0_stg37_0 : Ref sig .tc := ⟨.vmem, 65, rfl⟩
abbrev cc0_stg37_1 : Ref sig .tc := ⟨.vmem, 66, rfl⟩
abbrev cc0_stg38_0 : Ref sig .tc := ⟨.vmem, 67, rfl⟩
abbrev cc0_stg38_1 : Ref sig .tc := ⟨.vmem, 68, rfl⟩
abbrev cc0_stg39_0 : Ref sig .tc := ⟨.vmem, 69, rfl⟩
abbrev cc0_stg39_1 : Ref sig .tc := ⟨.vmem, 70, rfl⟩
abbrev cc0_stg40_0 : Ref sig .tc := ⟨.vmem, 71, rfl⟩
abbrev cc0_stg40_1 : Ref sig .tc := ⟨.vmem, 72, rfl⟩
abbrev cc0_stg41_0 : Ref sig .tc := ⟨.vmem, 73, rfl⟩
abbrev cc0_stg41_1 : Ref sig .tc := ⟨.vmem, 74, rfl⟩
abbrev cc0_stg42_0 : Ref sig .tc := ⟨.vmem, 75, rfl⟩
abbrev cc0_stg42_1 : Ref sig .tc := ⟨.vmem, 76, rfl⟩
abbrev cc0_stg43_0 : Ref sig .tc := ⟨.vmem, 77, rfl⟩
abbrev cc0_stg43_1 : Ref sig .tc := ⟨.vmem, 78, rfl⟩
abbrev cc0_stg44_0 : Ref sig .tc := ⟨.vmem, 79, rfl⟩
abbrev cc0_stg44_1 : Ref sig .tc := ⟨.vmem, 80, rfl⟩
abbrev cc0_stg45_0 : Ref sig .tc := ⟨.vmem, 81, rfl⟩
abbrev cc0_stg45_1 : Ref sig .tc := ⟨.vmem, 82, rfl⟩
abbrev cc0_stg46_0 : Ref sig .tc := ⟨.vmem, 83, rfl⟩
abbrev cc0_stg46_1 : Ref sig .tc := ⟨.vmem, 84, rfl⟩
abbrev cc0_stg47_0 : Ref sig .tc := ⟨.vmem, 85, rfl⟩
abbrev cc0_stg47_1 : Ref sig .tc := ⟨.vmem, 86, rfl⟩
abbrev cc0_stg48_0 : Ref sig .tc := ⟨.vmem, 87, rfl⟩
abbrev cc0_stg48_1 : Ref sig .tc := ⟨.vmem, 88, rfl⟩
abbrev cc0_stg49_0 : Ref sig .tc := ⟨.vmem, 89, rfl⟩
abbrev cc0_stg49_1 : Ref sig .tc := ⟨.vmem, 90, rfl⟩
abbrev cc0_stg50_0 : Ref sig .tc := ⟨.vmem, 91, rfl⟩
abbrev cc0_stg50_1 : Ref sig .tc := ⟨.vmem, 92, rfl⟩
abbrev cc0_stg51_0 : Ref sig .tc := ⟨.vmem, 93, rfl⟩
abbrev cc0_stg51_1 : Ref sig .tc := ⟨.vmem, 94, rfl⟩
abbrev cc0_stg52_0 : Ref sig .tc := ⟨.vmem, 95, rfl⟩
abbrev cc0_stg52_1 : Ref sig .tc := ⟨.vmem, 96, rfl⟩
abbrev cc0_stg53_0 : Ref sig .tc := ⟨.vmem, 97, rfl⟩
abbrev cc0_stg53_1 : Ref sig .tc := ⟨.vmem, 98, rfl⟩
abbrev cc0_stg54_0 : Ref sig .tc := ⟨.vmem, 99, rfl⟩
abbrev cc0_stg54_1 : Ref sig .tc := ⟨.vmem, 100, rfl⟩
abbrev cc0_stg55_0 : Ref sig .tc := ⟨.vmem, 101, rfl⟩
abbrev cc0_stg55_1 : Ref sig .tc := ⟨.vmem, 102, rfl⟩
abbrev cc0_stg56_0 : Ref sig .tc := ⟨.vmem, 103, rfl⟩
abbrev cc0_stg56_1 : Ref sig .tc := ⟨.vmem, 104, rfl⟩
abbrev cc0_stg57_0 : Ref sig .tc := ⟨.vmem, 105, rfl⟩
abbrev cc0_stg57_1 : Ref sig .tc := ⟨.vmem, 106, rfl⟩
abbrev cc0_stg58_0 : Ref sig .tc := ⟨.vmem, 107, rfl⟩
abbrev cc0_stg58_1 : Ref sig .tc := ⟨.vmem, 108, rfl⟩
abbrev cc0_stg59_0 : Ref sig .tc := ⟨.vmem, 109, rfl⟩
abbrev cc0_stg59_1 : Ref sig .tc := ⟨.vmem, 110, rfl⟩
abbrev cc0_stg60_0 : Ref sig .tc := ⟨.vmem, 111, rfl⟩
abbrev cc0_stg60_1 : Ref sig .tc := ⟨.vmem, 112, rfl⟩
abbrev cc0_stg61_0 : Ref sig .tc := ⟨.vmem, 113, rfl⟩
abbrev cc0_stg61_1 : Ref sig .tc := ⟨.vmem, 114, rfl⟩
abbrev cc0_stg62_0 : Ref sig .tc := ⟨.vmem, 115, rfl⟩
abbrev cc0_stg62_1 : Ref sig .tc := ⟨.vmem, 116, rfl⟩
abbrev cc0_scratch0 : Ref sig .tc := ⟨.vmem, 117, rfl⟩
abbrev cc0_scratch1 : Ref sig .tc := ⟨.vmem, 118, rfl⟩
abbrev cc0_scratch2 : Ref sig .tc := ⟨.vmem, 119, rfl⟩
abbrev cc0_scratch3 : Ref sig .tc := ⟨.vmem, 120, rfl⟩
abbrev cc0_scratch4 : Ref sig .tc := ⟨.vmem, 121, rfl⟩
abbrev cc0_scratch5 : Ref sig .tc := ⟨.vmem, 122, rfl⟩
abbrev cc0_scratch6 : Ref sig .tc := ⟨.vmem, 123, rfl⟩
abbrev cc0_scratch7 : Ref sig .tc := ⟨.vmem, 124, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40
abbrev cc0_sem25_0 : DmaSem sig := 41
abbrev cc0_sem25_1 : DmaSem sig := 42
abbrev cc0_sem26_0 : DmaSem sig := 43
abbrev cc0_sem26_1 : DmaSem sig := 44
abbrev cc0_sem27_0 : DmaSem sig := 45
abbrev cc0_sem27_1 : DmaSem sig := 46
abbrev cc0_sem28_0 : DmaSem sig := 47
abbrev cc0_sem28_1 : DmaSem sig := 48
abbrev cc0_sem29_0 : DmaSem sig := 49
abbrev cc0_sem29_1 : DmaSem sig := 50
abbrev cc0_sem30_0 : DmaSem sig := 51
abbrev cc0_sem30_1 : DmaSem sig := 52
abbrev cc0_sem31_0 : DmaSem sig := 53
abbrev cc0_sem31_1 : DmaSem sig := 54
abbrev cc0_sem32_0 : DmaSem sig := 55
abbrev cc0_sem32_1 : DmaSem sig := 56
abbrev cc0_sem33_0 : DmaSem sig := 57
abbrev cc0_sem33_1 : DmaSem sig := 58
abbrev cc0_sem34_0 : DmaSem sig := 59
abbrev cc0_sem34_1 : DmaSem sig := 60
abbrev cc0_sem35_0 : DmaSem sig := 61
abbrev cc0_sem35_1 : DmaSem sig := 62
abbrev cc0_sem36_0 : DmaSem sig := 63
abbrev cc0_sem36_1 : DmaSem sig := 64
abbrev cc0_sem37_0 : DmaSem sig := 65
abbrev cc0_sem37_1 : DmaSem sig := 66
abbrev cc0_sem38_0 : DmaSem sig := 67
abbrev cc0_sem38_1 : DmaSem sig := 68
abbrev cc0_sem39_0 : DmaSem sig := 69
abbrev cc0_sem39_1 : DmaSem sig := 70
abbrev cc0_sem40_0 : DmaSem sig := 71
abbrev cc0_sem40_1 : DmaSem sig := 72
abbrev cc0_sem41_0 : DmaSem sig := 73
abbrev cc0_sem41_1 : DmaSem sig := 74
abbrev cc0_sem42_0 : DmaSem sig := 75
abbrev cc0_sem42_1 : DmaSem sig := 76
abbrev cc0_sem43_0 : DmaSem sig := 77
abbrev cc0_sem43_1 : DmaSem sig := 78
abbrev cc0_sem44_0 : DmaSem sig := 79
abbrev cc0_sem44_1 : DmaSem sig := 80
abbrev cc0_sem45_0 : DmaSem sig := 81
abbrev cc0_sem45_1 : DmaSem sig := 82
abbrev cc0_sem46_0 : DmaSem sig := 83
abbrev cc0_sem46_1 : DmaSem sig := 84
abbrev cc0_sem47_0 : DmaSem sig := 85
abbrev cc0_sem47_1 : DmaSem sig := 86
abbrev cc0_sem48_0 : DmaSem sig := 87
abbrev cc0_sem48_1 : DmaSem sig := 88
abbrev cc0_sem49_0 : DmaSem sig := 89
abbrev cc0_sem49_1 : DmaSem sig := 90
abbrev cc0_sem50_0 : DmaSem sig := 91
abbrev cc0_sem50_1 : DmaSem sig := 92
abbrev cc0_sem51_0 : DmaSem sig := 93
abbrev cc0_sem51_1 : DmaSem sig := 94
abbrev cc0_sem52_0 : DmaSem sig := 95
abbrev cc0_sem52_1 : DmaSem sig := 96
abbrev cc0_sem53_0 : DmaSem sig := 97
abbrev cc0_sem53_1 : DmaSem sig := 98
abbrev cc0_sem54_0 : DmaSem sig := 99
abbrev cc0_sem54_1 : DmaSem sig := 100
abbrev cc0_sem55_0 : DmaSem sig := 101
abbrev cc0_sem55_1 : DmaSem sig := 102
abbrev cc0_sem56_0 : DmaSem sig := 103
abbrev cc0_sem56_1 : DmaSem sig := 104
abbrev cc0_sem57_0 : DmaSem sig := 105
abbrev cc0_sem57_1 : DmaSem sig := 106
abbrev cc0_sem58_0 : DmaSem sig := 107
abbrev cc0_sem58_1 : DmaSem sig := 108
abbrev cc0_sem59_0 : DmaSem sig := 109
abbrev cc0_sem59_1 : DmaSem sig := 110
abbrev cc0_sem60_0 : DmaSem sig := 111
abbrev cc0_sem60_1 : DmaSem sig := 112
abbrev cc0_sem61_0 : DmaSem sig := 113
abbrev cc0_sem61_1 : DmaSem sig := 114
abbrev cc0_sem62_0 : DmaSem sig := 115
abbrev cc0_sem62_1 : DmaSem sig := 116

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_arg11.idx], fun | 0 => main_arg11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_10 : BitVec 32) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v29 : Index := Scalar.indexCast v16
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let v28 : BitVec 32 := Scalar.addi v27 c0_i32_10
  let v30 : Index := Scalar.indexCast v28
  ![v29.toNat, v30.toNat]
def k0_cond1 (i : grid0.Coords) : BitVec 1 :=
  let arg0 : BitVec 32 := BitVec.ofNat 32 (i 0).val
  let c4_i32 : BitVec 32 := 4#32
  let c0_i32_10 : BitVec 32 := 0#32
  let v27 : BitVec 1 := Scalar.cmpi .eq c4_i32 c0_i32_10
  let c1_i32_11 : BitVec 32 := 1#32
  let v28 : BitVec 32 := Scalar.select v27 c1_i32_11 c4_i32
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c0_i32_15 : BitVec 32 := 0#32
  let v37 : BitVec 32 := Scalar.maxsi v36 c0_i32_15
  let c3_i32 : BitVec 32 := 3#32
  let v38 : BitVec 32 := Scalar.minsi v37 c3_i32
  let c0_i32_16 : BitVec 32 := 0#32
  let v39 : BitVec 1 := Scalar.cmpi .ne v38 c0_i32_16
  v39

def k0_cond2 (i : grid0.Coords) : BitVec 1 :=
  let arg0 : BitVec 32 := BitVec.ofNat 32 (i 0).val
  let c4_i32 : BitVec 32 := 4#32
  let c0_i32_10 : BitVec 32 := 0#32
  let v27 : BitVec 1 := Scalar.cmpi .eq c4_i32 c0_i32_10
  let c1_i32_11 : BitVec 32 := 1#32
  let v28 : BitVec 32 := Scalar.select v27 c1_i32_11 c4_i32
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c0_i32_15 : BitVec 32 := 0#32
  let v37 : BitVec 32 := Scalar.maxsi v36 c0_i32_15
  let c3_i32 : BitVec 32 := 3#32
  let v38 : BitVec 32 := Scalar.minsi v37 c3_i32
  let c1_i32_17 : BitVec 32 := 1#32
  let v40 : BitVec 32 := Scalar.subi v38 c1_i32_17
  let c0_i32_18 : BitVec 32 := 0#32
  let v41 : BitVec 1 := Scalar.cmpi .ne v40 c0_i32_18
  v41

def k0_cond3 (i : grid0.Coords) : BitVec 1 :=
  let arg0 : BitVec 32 := BitVec.ofNat 32 (i 0).val
  let c4_i32 : BitVec 32 := 4#32
  let c0_i32_10 : BitVec 32 := 0#32
  let v27 : BitVec 1 := Scalar.cmpi .eq c4_i32 c0_i32_10
  let c1_i32_11 : BitVec 32 := 1#32
  let v28 : BitVec 32 := Scalar.select v27 c1_i32_11 c4_i32
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c0_i32_15 : BitVec 32 := 0#32
  let v37 : BitVec 32 := Scalar.maxsi v36 c0_i32_15
  let c3_i32 : BitVec 32 := 3#32
  let v38 : BitVec 32 := Scalar.minsi v37 c3_i32
  let c1_i32_17 : BitVec 32 := 1#32
  let v40 : BitVec 32 := Scalar.subi v38 c1_i32_17
  let c1_i32_19 : BitVec 32 := 1#32
  let v42 : BitVec 32 := Scalar.subi v40 c1_i32_19
  let c0_i32_20 : BitVec 32 := 0#32
  let v43 : BitVec 1 := Scalar.cmpi .ne v42 c0_i32_20
  v43

def k0_cond4 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c7_i32 : BitVec 32 := 7#32
  let v1188 : BitVec 1 := Scalar.cmpi .eq v9 c7_i32
  let v1189 : BitVec 32 := Scalar.extui v1188
  let c0_i32_811 : BitVec 32 := 0#32
  let v1190 : BitVec 1 := Scalar.cmpi .ne v1189 c0_i32_811
  v1190

def cc0_transform_0 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_1 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_13 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c0_i32_10 : BitVec 32 := 0#32
  let v28 : BitVec 32 := Scalar.addi v27 c0_i32_10
  let v29 : Index := Scalar.indexCast v16
  let v30 : Index := Scalar.indexCast v28
  let v31 : BitVec 32 := pf.at 0 (Rect.unit (s := S32x128) ![v29.toNat, v30.toNat] S1x1.size (k0_off1_inb i 0)) numel1_S1x1
  let c0_i32_11 : BitVec 32 := 0#32
  let c0_i32_12 : BitVec 32 := 0#32
  let c0_i32_13 : BitVec 32 := 0#32
  let c0_i32_14 : BitVec 32 := 0#32
  ![v31.toNat, c0_i32_11.toNat, c0_i32_12.toNat, c0_i32_13.toNat]

def cc0_transform_14 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c1_i32_10 : BitVec 32 := 1#32
  let v28 : BitVec 32 := Scalar.addi v27 c1_i32_10
  let v29 : Index := Scalar.indexCast v16
  let v30 : Index := Scalar.indexCast v28
  let v31 : BitVec 32 := pf.at 0 (Rect.unit (s := S32x128) ![v29.toNat, v30.toNat] S1x1.size (k0_off1_inb i 1)) numel1_S1x1
  let c0_i32_11 : BitVec 32 := 0#32
  let c0_i32_12 : BitVec 32 := 0#32
  let c0_i32_13 : BitVec 32 := 0#32
  let c0_i32_14 : BitVec 32 := 0#32
  ![v31.toNat, c0_i32_11.toNat, c0_i32_12.toNat, c0_i32_13.toNat]

def cc0_transform_15 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c2_i32 : BitVec 32 := 2#32
  let v28 : BitVec 32 := Scalar.addi v27 c2_i32
  let v29 : Index := Scalar.indexCast v16
  let v30 : Index := Scalar.indexCast v28
  let v31 : BitVec 32 := pf.at 0 (Rect.unit (s := S32x128) ![v29.toNat, v30.toNat] S1x1.size (k0_off1_inb i 2)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_16 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c3_i32 : BitVec 32 := 3#32
  let v28 : BitVec 32 := Scalar.addi v27 c3_i32
  let v29 : Index := Scalar.indexCast v16
  let v30 : Index := Scalar.indexCast v28
  let v31 : BitVec 32 := pf.at 0 (Rect.unit (s := S32x128) ![v29.toNat, v30.toNat] S1x1.size (k0_off1_inb i 3)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_17 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c4_i32 : BitVec 32 := 4#32
  let v28 : BitVec 32 := Scalar.addi v27 c4_i32
  let v29 : Index := Scalar.indexCast v16
  let v30 : Index := Scalar.indexCast v28
  let v31 : BitVec 32 := pf.at 0 (Rect.unit (s := S32x128) ![v29.toNat, v30.toNat] S1x1.size (k0_off1_inb i 4)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_18 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c5_i32 : BitVec 32 := 5#32
  let v28 : BitVec 32 := Scalar.addi v27 c5_i32
  let v29 : Index := Scalar.indexCast v16
  let v30 : Index := Scalar.indexCast v28
  let v31 : BitVec 32 := pf.at 0 (Rect.unit (s := S32x128) ![v29.toNat, v30.toNat] S1x1.size (k0_off1_inb i 5)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_19 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c6_i32 : BitVec 32 := 6#32
  let v28 : BitVec 32 := Scalar.addi v27 c6_i32
  let v29 : Index := Scalar.indexCast v16
  let v30 : Index := Scalar.indexCast v28
  let v31 : BitVec 32 := pf.at 0 (Rect.unit (s := S32x128) ![v29.toNat, v30.toNat] S1x1.size (k0_off1_inb i 6)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_20 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c7_i32 : BitVec 32 := 7#32
  let v28 : BitVec 32 := Scalar.addi v27 c7_i32
  let v29 : Index := Scalar.indexCast v16
  let v30 : Index := Scalar.indexCast v28
  let v31 : BitVec 32 := pf.at 0 (Rect.unit (s := S32x128) ![v29.toNat, v30.toNat] S1x1.size (k0_off1_inb i 7)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_21 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c8_i32_10 : BitVec 32 := 8#32
  let v28 : BitVec 32 := Scalar.addi v27 c8_i32_10
  let v29 : Index := Scalar.indexCast v16
  let v30 : Index := Scalar.indexCast v28
  let v31 : BitVec 32 := pf.at 0 (Rect.unit (s := S32x128) ![v29.toNat, v30.toNat] S1x1.size (k0_off1_inb i 8)) numel1_S1x1
  let c0_i32_11 : BitVec 32 := 0#32
  let c0_i32_12 : BitVec 32 := 0#32
  let c0_i32_13 : BitVec 32 := 0#32
  let c0_i32_14 : BitVec 32 := 0#32
  ![v31.toNat, c0_i32_11.toNat, c0_i32_12.toNat, c0_i32_13.toNat]

def cc0_transform_22 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c9_i32 : BitVec 32 := 9#32
  let v28 : BitVec 32 := Scalar.addi v27 c9_i32
  let v29 : Index := Scalar.indexCast v16
  let v30 : Index := Scalar.indexCast v28
  let v31 : BitVec 32 := pf.at 0 (Rect.unit (s := S32x128) ![v29.toNat, v30.toNat] S1x1.size (k0_off1_inb i 9)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_23 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c10_i32 : BitVec 32 := 10#32
  let v28 : BitVec 32 := Scalar.addi v27 c10_i32
  let v29 : Index := Scalar.indexCast v16
  let v30 : Index := Scalar.indexCast v28
  let v31 : BitVec 32 := pf.at 0 (Rect.unit (s := S32x128) ![v29.toNat, v30.toNat] S1x1.size (k0_off1_inb i 10)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_24 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c11_i32 : BitVec 32 := 11#32
  let v28 : BitVec 32 := Scalar.addi v27 c11_i32
  let v29 : Index := Scalar.indexCast v16
  let v30 : Index := Scalar.indexCast v28
  let v31 : BitVec 32 := pf.at 0 (Rect.unit (s := S32x128) ![v29.toNat, v30.toNat] S1x1.size (k0_off1_inb i 11)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_25 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c12_i32 : BitVec 32 := 12#32
  let v28 : BitVec 32 := Scalar.addi v27 c12_i32
  let v29 : Index := Scalar.indexCast v16
  let v30 : Index := Scalar.indexCast v28
  let v31 : BitVec 32 := pf.at 0 (Rect.unit (s := S32x128) ![v29.toNat, v30.toNat] S1x1.size (k0_off1_inb i 12)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_26 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c13_i32 : BitVec 32 := 13#32
  let v28 : BitVec 32 := Scalar.addi v27 c13_i32
  let v29 : Index := Scalar.indexCast v16
  let v30 : Index := Scalar.indexCast v28
  let v31 : BitVec 32 := pf.at 0 (Rect.unit (s := S32x128) ![v29.toNat, v30.toNat] S1x1.size (k0_off1_inb i 13)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_27 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c14_i32 : BitVec 32 := 14#32
  let v28 : BitVec 32 := Scalar.addi v27 c14_i32
  let v29 : Index := Scalar.indexCast v16
  let v30 : Index := Scalar.indexCast v28
  let v31 : BitVec 32 := pf.at 0 (Rect.unit (s := S32x128) ![v29.toNat, v30.toNat] S1x1.size (k0_off1_inb i 14)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_28 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c15_i32 : BitVec 32 := 15#32
  let v28 : BitVec 32 := Scalar.addi v27 c15_i32
  let v29 : Index := Scalar.indexCast v16
  let v30 : Index := Scalar.indexCast v28
  let v31 : BitVec 32 := pf.at 0 (Rect.unit (s := S32x128) ![v29.toNat, v30.toNat] S1x1.size (k0_off1_inb i 15)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_29 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c0_i32_10 : BitVec 32 := 0#32
  let v28 : BitVec 32 := Scalar.addi v27 c0_i32_10
  let v29 : Index := Scalar.indexCast v16
  let v30 : Index := Scalar.indexCast v28
  let v31 : BitVec 32 := pf.at 0 (Rect.unit (s := S32x128) ![v29.toNat, v30.toNat] S1x1.size (k0_off1_inb i 0)) numel1_S1x1
  let c0_i32_11 : BitVec 32 := 0#32
  let c0_i32_12 : BitVec 32 := 0#32
  let c0_i32_13 : BitVec 32 := 0#32
  let c0_i32_14 : BitVec 32 := 0#32
  ![v31.toNat, c0_i32_11.toNat, c0_i32_12.toNat, c0_i32_13.toNat]

def cc0_transform_30 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c1_i32_10 : BitVec 32 := 1#32
  let v28 : BitVec 32 := Scalar.addi v27 c1_i32_10
  let v29 : Index := Scalar.indexCast v16
  let v30 : Index := Scalar.indexCast v28
  let v31 : BitVec 32 := pf.at 0 (Rect.unit (s := S32x128) ![v29.toNat, v30.toNat] S1x1.size (k0_off1_inb i 1)) numel1_S1x1
  let c0_i32_11 : BitVec 32 := 0#32
  let c0_i32_12 : BitVec 32 := 0#32
  let c0_i32_13 : BitVec 32 := 0#32
  let c0_i32_14 : BitVec 32 := 0#32
  ![v31.toNat, c0_i32_11.toNat, c0_i32_12.toNat, c0_i32_13.toNat]

def cc0_transform_31 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c2_i32 : BitVec 32 := 2#32
  let v28 : BitVec 32 := Scalar.addi v27 c2_i32
  let v29 : Index := Scalar.indexCast v16
  let v30 : Index := Scalar.indexCast v28
  let v31 : BitVec 32 := pf.at 0 (Rect.unit (s := S32x128) ![v29.toNat, v30.toNat] S1x1.size (k0_off1_inb i 2)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_32 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c3_i32 : BitVec 32 := 3#32
  let v28 : BitVec 32 := Scalar.addi v27 c3_i32
  let v29 : Index := Scalar.indexCast v16
  let v30 : Index := Scalar.indexCast v28
  let v31 : BitVec 32 := pf.at 0 (Rect.unit (s := S32x128) ![v29.toNat, v30.toNat] S1x1.size (k0_off1_inb i 3)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_33 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c4_i32 : BitVec 32 := 4#32
  let v28 : BitVec 32 := Scalar.addi v27 c4_i32
  let v29 : Index := Scalar.indexCast v16
  let v30 : Index := Scalar.indexCast v28
  let v31 : BitVec 32 := pf.at 0 (Rect.unit (s := S32x128) ![v29.toNat, v30.toNat] S1x1.size (k0_off1_inb i 4)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_34 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c5_i32 : BitVec 32 := 5#32
  let v28 : BitVec 32 := Scalar.addi v27 c5_i32
  let v29 : Index := Scalar.indexCast v16
  let v30 : Index := Scalar.indexCast v28
  let v31 : BitVec 32 := pf.at 0 (Rect.unit (s := S32x128) ![v29.toNat, v30.toNat] S1x1.size (k0_off1_inb i 5)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_35 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c6_i32 : BitVec 32 := 6#32
  let v28 : BitVec 32 := Scalar.addi v27 c6_i32
  let v29 : Index := Scalar.indexCast v16
  let v30 : Index := Scalar.indexCast v28
  let v31 : BitVec 32 := pf.at 0 (Rect.unit (s := S32x128) ![v29.toNat, v30.toNat] S1x1.size (k0_off1_inb i 6)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_36 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c7_i32 : BitVec 32 := 7#32
  let v28 : BitVec 32 := Scalar.addi v27 c7_i32
  let v29 : Index := Scalar.indexCast v16
  let v30 : Index := Scalar.indexCast v28
  let v31 : BitVec 32 := pf.at 0 (Rect.unit (s := S32x128) ![v29.toNat, v30.toNat] S1x1.size (k0_off1_inb i 7)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_37 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c8_i32_10 : BitVec 32 := 8#32
  let v28 : BitVec 32 := Scalar.addi v27 c8_i32_10
  let v29 : Index := Scalar.indexCast v16
  let v30 : Index := Scalar.indexCast v28
  let v31 : BitVec 32 := pf.at 0 (Rect.unit (s := S32x128) ![v29.toNat, v30.toNat] S1x1.size (k0_off1_inb i 8)) numel1_S1x1
  let c0_i32_11 : BitVec 32 := 0#32
  let c0_i32_12 : BitVec 32 := 0#32
  let c0_i32_13 : BitVec 32 := 0#32
  let c0_i32_14 : BitVec 32 := 0#32
  ![v31.toNat, c0_i32_11.toNat, c0_i32_12.toNat, c0_i32_13.toNat]

def cc0_transform_38 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c9_i32 : BitVec 32 := 9#32
  let v28 : BitVec 32 := Scalar.addi v27 c9_i32
  let v29 : Index := Scalar.indexCast v16
  let v30 : Index := Scalar.indexCast v28
  let v31 : BitVec 32 := pf.at 0 (Rect.unit (s := S32x128) ![v29.toNat, v30.toNat] S1x1.size (k0_off1_inb i 9)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_39 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c10_i32 : BitVec 32 := 10#32
  let v28 : BitVec 32 := Scalar.addi v27 c10_i32
  let v29 : Index := Scalar.indexCast v16
  let v30 : Index := Scalar.indexCast v28
  let v31 : BitVec 32 := pf.at 0 (Rect.unit (s := S32x128) ![v29.toNat, v30.toNat] S1x1.size (k0_off1_inb i 10)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_40 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c11_i32 : BitVec 32 := 11#32
  let v28 : BitVec 32 := Scalar.addi v27 c11_i32
  let v29 : Index := Scalar.indexCast v16
  let v30 : Index := Scalar.indexCast v28
  let v31 : BitVec 32 := pf.at 0 (Rect.unit (s := S32x128) ![v29.toNat, v30.toNat] S1x1.size (k0_off1_inb i 11)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_41 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c12_i32 : BitVec 32 := 12#32
  let v28 : BitVec 32 := Scalar.addi v27 c12_i32
  let v29 : Index := Scalar.indexCast v16
  let v30 : Index := Scalar.indexCast v28
  let v31 : BitVec 32 := pf.at 0 (Rect.unit (s := S32x128) ![v29.toNat, v30.toNat] S1x1.size (k0_off1_inb i 12)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_42 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c13_i32 : BitVec 32 := 13#32
  let v28 : BitVec 32 := Scalar.addi v27 c13_i32
  let v29 : Index := Scalar.indexCast v16
  let v30 : Index := Scalar.indexCast v28
  let v31 : BitVec 32 := pf.at 0 (Rect.unit (s := S32x128) ![v29.toNat, v30.toNat] S1x1.size (k0_off1_inb i 13)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_43 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c14_i32 : BitVec 32 := 14#32
  let v28 : BitVec 32 := Scalar.addi v27 c14_i32
  let v29 : Index := Scalar.indexCast v16
  let v30 : Index := Scalar.indexCast v28
  let v31 : BitVec 32 := pf.at 0 (Rect.unit (s := S32x128) ![v29.toNat, v30.toNat] S1x1.size (k0_off1_inb i 14)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_44 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c15_i32 : BitVec 32 := 15#32
  let v28 : BitVec 32 := Scalar.addi v27 c15_i32
  let v29 : Index := Scalar.indexCast v16
  let v30 : Index := Scalar.indexCast v28
  let v31 : BitVec 32 := pf.at 0 (Rect.unit (s := S32x128) ![v29.toNat, v30.toNat] S1x1.size (k0_off1_inb i 15)) numel1_S1x1
  let c0_i32_10 : BitVec 32 := 0#32
  let c0_i32_11 : BitVec 32 := 0#32
  let c0_i32_12 : BitVec 32 := 0#32
  let c0_i32_13 : BitVec 32 := 0#32
  ![v31.toNat, c0_i32_10.toNat, c0_i32_11.toNat, c0_i32_12.toNat]

def cc0_transform_45 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c0_i32_10 : BitVec 32 := 0#32
  let v28 : BitVec 32 := Scalar.addi v27 c0_i32_10
  let v29 : Index := Scalar.indexCast v16
  let v30 : Index := Scalar.indexCast v28
  let v31 : BitVec 32 := pf.at 0 (Rect.unit (s := S32x128) ![v29.toNat, v30.toNat] S1x1.size (k0_off1_inb i 0)) numel1_S1x1
  let c0_i32_11 : BitVec 32 := 0#32
  let c0_i32_12 : BitVec 32 := 0#32
  let c0_i32_13 : BitVec 32 := 0#32
  ![v31.toNat, c0_i32_11.toNat, c0_i32_12.toNat]

def cc0_transform_46 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c1_i32_10 : BitVec 32 := 1#32
  let v28 : BitVec 32 := Scalar.addi v27 c1_i32_10
  let v29 : Index := Scalar.indexCast v16
  let v30 : Index := Scalar.indexCast v28
  let v31 : BitVec 32 := pf.at 0 (Rect.unit (s := S32x128) ![v29.toNat, v30.toNat] S1x1.size (k0_off1_inb i 1)) numel1_S1x1
  let c0_i32_11 : BitVec 32 := 0#32
  let c0_i32_12 : BitVec 32 := 0#32
  let c0_i32_13 : BitVec 32 := 0#32
  ![v31.toNat, c0_i32_11.toNat, c0_i32_12.toNat]

def cc0_transform_47 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c2_i32 : BitVec 32 := 2#32
  let v28 : BitVec 32 := Scalar.addi v27 c2_i32
  let v29 : Index := Scalar.indexCast v16
  let v30 : Index := Scalar.indexCast v28
  let v31 : BitVec 32 := pf.at 0 (Rect.unit (s := S32x128) ![v29.toNat, v30.toNat] S1x1.size (k0_off1_inb i 2)) numel1_S1x1
  let c0_i32_10 : BitVec 32 := 0#32
  let c0_i32_11 : BitVec 32 := 0#32
  let c0_i32_12 : BitVec 32 := 0#32
  ![v31.toNat, c0_i32_10.toNat, c0_i32_11.toNat]

def cc0_transform_48 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c3_i32 : BitVec 32 := 3#32
  let v28 : BitVec 32 := Scalar.addi v27 c3_i32
  let v29 : Index := Scalar.indexCast v16
  let v30 : Index := Scalar.indexCast v28
  let v31 : BitVec 32 := pf.at 0 (Rect.unit (s := S32x128) ![v29.toNat, v30.toNat] S1x1.size (k0_off1_inb i 3)) numel1_S1x1
  let c0_i32_10 : BitVec 32 := 0#32
  let c0_i32_11 : BitVec 32 := 0#32
  let c0_i32_12 : BitVec 32 := 0#32
  ![v31.toNat, c0_i32_10.toNat, c0_i32_11.toNat]

def cc0_transform_49 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c4_i32 : BitVec 32 := 4#32
  let v28 : BitVec 32 := Scalar.addi v27 c4_i32
  let v29 : Index := Scalar.indexCast v16
  let v30 : Index := Scalar.indexCast v28
  let v31 : BitVec 32 := pf.at 0 (Rect.unit (s := S32x128) ![v29.toNat, v30.toNat] S1x1.size (k0_off1_inb i 4)) numel1_S1x1
  let c0_i32_10 : BitVec 32 := 0#32
  let c0_i32_11 : BitVec 32 := 0#32
  let c0_i32_12 : BitVec 32 := 0#32
  ![v31.toNat, c0_i32_10.toNat, c0_i32_11.toNat]

def cc0_transform_50 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c5_i32 : BitVec 32 := 5#32
  let v28 : BitVec 32 := Scalar.addi v27 c5_i32
  let v29 : Index := Scalar.indexCast v16
  let v30 : Index := Scalar.indexCast v28
  let v31 : BitVec 32 := pf.at 0 (Rect.unit (s := S32x128) ![v29.toNat, v30.toNat] S1x1.size (k0_off1_inb i 5)) numel1_S1x1
  let c0_i32_10 : BitVec 32 := 0#32
  let c0_i32_11 : BitVec 32 := 0#32
  let c0_i32_12 : BitVec 32 := 0#32
  ![v31.toNat, c0_i32_10.toNat, c0_i32_11.toNat]

def cc0_transform_51 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c6_i32 : BitVec 32 := 6#32
  let v28 : BitVec 32 := Scalar.addi v27 c6_i32
  let v29 : Index := Scalar.indexCast v16
  let v30 : Index := Scalar.indexCast v28
  let v31 : BitVec 32 := pf.at 0 (Rect.unit (s := S32x128) ![v29.toNat, v30.toNat] S1x1.size (k0_off1_inb i 6)) numel1_S1x1
  let c0_i32_10 : BitVec 32 := 0#32
  let c0_i32_11 : BitVec 32 := 0#32
  let c0_i32_12 : BitVec 32 := 0#32
  ![v31.toNat, c0_i32_10.toNat, c0_i32_11.toNat]

def cc0_transform_52 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c7_i32 : BitVec 32 := 7#32
  let v28 : BitVec 32 := Scalar.addi v27 c7_i32
  let v29 : Index := Scalar.indexCast v16
  let v30 : Index := Scalar.indexCast v28
  let v31 : BitVec 32 := pf.at 0 (Rect.unit (s := S32x128) ![v29.toNat, v30.toNat] S1x1.size (k0_off1_inb i 7)) numel1_S1x1
  let c0_i32_10 : BitVec 32 := 0#32
  let c0_i32_11 : BitVec 32 := 0#32
  let c0_i32_12 : BitVec 32 := 0#32
  ![v31.toNat, c0_i32_10.toNat, c0_i32_11.toNat]

def cc0_transform_53 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c8_i32_10 : BitVec 32 := 8#32
  let v28 : BitVec 32 := Scalar.addi v27 c8_i32_10
  let v29 : Index := Scalar.indexCast v16
  let v30 : Index := Scalar.indexCast v28
  let v31 : BitVec 32 := pf.at 0 (Rect.unit (s := S32x128) ![v29.toNat, v30.toNat] S1x1.size (k0_off1_inb i 8)) numel1_S1x1
  let c0_i32_11 : BitVec 32 := 0#32
  let c0_i32_12 : BitVec 32 := 0#32
  let c0_i32_13 : BitVec 32 := 0#32
  ![v31.toNat, c0_i32_11.toNat, c0_i32_12.toNat]

def cc0_transform_54 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c9_i32 : BitVec 32 := 9#32
  let v28 : BitVec 32 := Scalar.addi v27 c9_i32
  let v29 : Index := Scalar.indexCast v16
  let v30 : Index := Scalar.indexCast v28
  let v31 : BitVec 32 := pf.at 0 (Rect.unit (s := S32x128) ![v29.toNat, v30.toNat] S1x1.size (k0_off1_inb i 9)) numel1_S1x1
  let c0_i32_10 : BitVec 32 := 0#32
  let c0_i32_11 : BitVec 32 := 0#32
  let c0_i32_12 : BitVec 32 := 0#32
  ![v31.toNat, c0_i32_10.toNat, c0_i32_11.toNat]

def cc0_transform_55 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c10_i32 : BitVec 32 := 10#32
  let v28 : BitVec 32 := Scalar.addi v27 c10_i32
  let v29 : Index := Scalar.indexCast v16
  let v30 : Index := Scalar.indexCast v28
  let v31 : BitVec 32 := pf.at 0 (Rect.unit (s := S32x128) ![v29.toNat, v30.toNat] S1x1.size (k0_off1_inb i 10)) numel1_S1x1
  let c0_i32_10 : BitVec 32 := 0#32
  let c0_i32_11 : BitVec 32 := 0#32
  let c0_i32_12 : BitVec 32 := 0#32
  ![v31.toNat, c0_i32_10.toNat, c0_i32_11.toNat]

def cc0_transform_56 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c11_i32 : BitVec 32 := 11#32
  let v28 : BitVec 32 := Scalar.addi v27 c11_i32
  let v29 : Index := Scalar.indexCast v16
  let v30 : Index := Scalar.indexCast v28
  let v31 : BitVec 32 := pf.at 0 (Rect.unit (s := S32x128) ![v29.toNat, v30.toNat] S1x1.size (k0_off1_inb i 11)) numel1_S1x1
  let c0_i32_10 : BitVec 32 := 0#32
  let c0_i32_11 : BitVec 32 := 0#32
  let c0_i32_12 : BitVec 32 := 0#32
  ![v31.toNat, c0_i32_10.toNat, c0_i32_11.toNat]

def cc0_transform_57 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c12_i32 : BitVec 32 := 12#32
  let v28 : BitVec 32 := Scalar.addi v27 c12_i32
  let v29 : Index := Scalar.indexCast v16
  let v30 : Index := Scalar.indexCast v28
  let v31 : BitVec 32 := pf.at 0 (Rect.unit (s := S32x128) ![v29.toNat, v30.toNat] S1x1.size (k0_off1_inb i 12)) numel1_S1x1
  let c0_i32_10 : BitVec 32 := 0#32
  let c0_i32_11 : BitVec 32 := 0#32
  let c0_i32_12 : BitVec 32 := 0#32
  ![v31.toNat, c0_i32_10.toNat, c0_i32_11.toNat]

def cc0_transform_58 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c13_i32 : BitVec 32 := 13#32
  let v28 : BitVec 32 := Scalar.addi v27 c13_i32
  let v29 : Index := Scalar.indexCast v16
  let v30 : Index := Scalar.indexCast v28
  let v31 : BitVec 32 := pf.at 0 (Rect.unit (s := S32x128) ![v29.toNat, v30.toNat] S1x1.size (k0_off1_inb i 13)) numel1_S1x1
  let c0_i32_10 : BitVec 32 := 0#32
  let c0_i32_11 : BitVec 32 := 0#32
  let c0_i32_12 : BitVec 32 := 0#32
  ![v31.toNat, c0_i32_10.toNat, c0_i32_11.toNat]

def cc0_transform_59 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c14_i32 : BitVec 32 := 14#32
  let v28 : BitVec 32 := Scalar.addi v27 c14_i32
  let v29 : Index := Scalar.indexCast v16
  let v30 : Index := Scalar.indexCast v28
  let v31 : BitVec 32 := pf.at 0 (Rect.unit (s := S32x128) ![v29.toNat, v30.toNat] S1x1.size (k0_off1_inb i 14)) numel1_S1x1
  let c0_i32_10 : BitVec 32 := 0#32
  let c0_i32_11 : BitVec 32 := 0#32
  let c0_i32_12 : BitVec 32 := 0#32
  ![v31.toNat, c0_i32_10.toNat, c0_i32_11.toNat]

def cc0_transform_60 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c15_i32 : BitVec 32 := 15#32
  let v28 : BitVec 32 := Scalar.addi v27 c15_i32
  let v29 : Index := Scalar.indexCast v16
  let v30 : Index := Scalar.indexCast v28
  let v31 : BitVec 32 := pf.at 0 (Rect.unit (s := S32x128) ![v29.toNat, v30.toNat] S1x1.size (k0_off1_inb i 15)) numel1_S1x1
  let c0_i32_10 : BitVec 32 := 0#32
  let c0_i32_11 : BitVec 32 := 0#32
  let c0_i32_12 : BitVec 32 := 0#32
  ![v31.toNat, c0_i32_10.toNat, c0_i32_11.toNat]

def cc0_transform_61 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_62 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x8x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x8x64x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x8x64x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x8x64x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x8x64x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x8x64x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x8x64x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x8x64x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x8x64x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x8x64x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x8x64x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x8x64x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x8x64x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x8x64x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x8x64x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x8x64x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x8x64x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x8x64x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x8x64x128 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x8x64x128 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x8x64x128 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x8x64x128 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x8x64x128 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x8x64x128 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S1x8x64x128 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S1x8x64x128 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S1x8x128 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x8x128 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x8x128 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S1x8x128 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S1x8x128 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S1x8x128 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S1x8x128 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S1x8x128 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S1x8x128 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev stage0_54 : Fin 2 → Memref sig .tc .vmem S1x8x128 .f32 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true]

abbrev stage0_55 : Fin 2 → Memref sig .tc .vmem S1x8x128 .f32 := fun | 0 => Memref.whole cc0_stg55_0 | 1 => Memref.whole cc0_stg55_1 | ⟨_ + 2, h⟩ => absurd h (Nat.not_lt.2 (Nat.le_add_left _ _))
abbrev sem0_55 : Fin 2 → DmaSem sig := fun | 0 => cc0_sem55_0 | 1 => cc0_sem55_1 | ⟨_ + 2, h⟩ => absurd h (Nat.not_lt.2 (Nat.le_add_left _ _))
abbrev reads0_55 : Fin grid0.rank → Bool := ![true]

abbrev stage0_56 : Fin 2 → Memref sig .tc .vmem S1x8x128 .f32 := fun | 0 => Memref.whole cc0_stg56_0 | 1 => Memref.whole cc0_stg56_1 | ⟨_ + 2, h⟩ => absurd h (Nat.not_lt.2 (Nat.le_add_left _ _))
abbrev sem0_56 : Fin 2 → DmaSem sig := fun | 0 => cc0_sem56_0 | 1 => cc0_sem56_1 | ⟨_ + 2, h⟩ => absurd h (Nat.not_lt.2 (Nat.le_add_left _ _))
abbrev reads0_56 : Fin grid0.rank → Bool := ![true]

abbrev stage0_57 : Fin 2 → Memref sig .tc .vmem S1x8x128 .f32 := fun | 0 => Memref.whole cc0_stg57_0 | 1 => Memref.whole cc0_stg57_1 | ⟨_ + 2, h⟩ => absurd h (Nat.not_lt.2 (Nat.le_add_left _ _))
abbrev sem0_57 : Fin 2 → DmaSem sig := fun | 0 => cc0_sem57_0 | 1 => cc0_sem57_1 | ⟨_ + 2, h⟩ => absurd h (Nat.not_lt.2 (Nat.le_add_left _ _))
abbrev reads0_57 : Fin grid0.rank → Bool := ![true]

abbrev stage0_58 : Fin 2 → Memref sig .tc .vmem S1x8x128 .f32 := fun | 0 => Memref.whole cc0_stg58_0 | 1 => Memref.whole cc0_stg58_1 | ⟨_ + 2, h⟩ => absurd h (Nat.not_lt.2 (Nat.le_add_left _ _))
abbrev sem0_58 : Fin 2 → DmaSem sig := fun | 0 => cc0_sem58_0 | 1 => cc0_sem58_1 | ⟨_ + 2, h⟩ => absurd h (Nat.not_lt.2 (Nat.le_add_left _ _))
abbrev reads0_58 : Fin grid0.rank → Bool := ![true]

abbrev stage0_59 : Fin 2 → Memref sig .tc .vmem S1x8x128 .f32 := fun | 0 => Memref.whole cc0_stg59_0 | 1 => Memref.whole cc0_stg59_1 | ⟨_ + 2, h⟩ => absurd h (Nat.not_lt.2 (Nat.le_add_left _ _))
abbrev sem0_59 : Fin 2 → DmaSem sig := fun | 0 => cc0_sem59_0 | 1 => cc0_sem59_1 | ⟨_ + 2, h⟩ => absurd h (Nat.not_lt.2 (Nat.le_add_left _ _))
abbrev reads0_59 : Fin grid0.rank → Bool := ![true]

abbrev stage0_60 : Fin 2 → Memref sig .tc .vmem S1x8x128 .f32 := fun | 0 => Memref.whole cc0_stg60_0 | 1 => Memref.whole cc0_stg60_1 | ⟨_ + 2, h⟩ => absurd h (Nat.not_lt.2 (Nat.le_add_left _ _))
abbrev sem0_60 : Fin 2 → DmaSem sig := fun | 0 => cc0_sem60_0 | 1 => cc0_sem60_1 | ⟨_ + 2, h⟩ => absurd h (Nat.not_lt.2 (Nat.le_add_left _ _))
abbrev reads0_60 : Fin grid0.rank → Bool := ![true]

abbrev stage0_61 : Fin 2 → Memref sig .tc .vmem S512x1024 .f32 := fun | 0 => Memref.whole cc0_stg61_0 | 1 => Memref.whole cc0_stg61_1 | ⟨_ + 2, h⟩ => absurd h (Nat.not_lt.2 (Nat.le_add_left _ _))
abbrev sem0_61 : Fin 2 → DmaSem sig := fun | 0 => cc0_sem61_0 | 1 => cc0_sem61_1 | ⟨_ + 2, h⟩ => absurd h (Nat.not_lt.2 (Nat.le_add_left _ _))
abbrev reads0_61 : Fin grid0.rank → Bool := ![true]

abbrev stage0_62 : Fin 2 → Memref sig .tc .vmem S1x8x64x1 .f32 := fun | 0 => Memref.whole cc0_stg62_0 | 1 => Memref.whole cc0_stg62_1 | ⟨_ + 2, h⟩ => absurd h (Nat.not_lt.2 (Nat.le_add_left _ _))
abbrev sem0_62 : Fin 2 → DmaSem sig := fun | 0 => cc0_sem62_0 | 1 => cc0_sem62_1 | ⟨_ + 2, h⟩ => absurd h (Nat.not_lt.2 (Nat.le_add_left _ _))
abbrev reads0_62 : Fin grid0.rank → Bool := ![true]
-- ==== ReferenceIdeal.lean ====
abbrev S8x4096x1024 : Shape := ⟨3, ![8, 4096, 1024]⟩
abbrev S8x4096x512 : Shape := ⟨3, ![8, 4096, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32x128 : Shape := ⟨2, ![32, 128]⟩
abbrev S32x512 : Shape := ⟨2, ![32, 512]⟩
abbrev S32x8 : Shape := ⟨2, ![32, 8]⟩
abbrev S1x5120x128x8x64 : Shape := ⟨5, ![1, 5120, 128, 8, 64]⟩
abbrev S1x5120x128x8 : Shape := ⟨4, ![1, 5120, 128, 8]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32x1x8x64 : Shape := ⟨4, ![32, 1, 8, 64]⟩
abbrev S32x1x8 : Shape := ⟨3, ![32, 1, 8]⟩
abbrev S5120x128x8x64 : Shape := ⟨4, ![5120, 128, 8, 64]⟩
abbrev S5120x128x8 : Shape := ⟨3, ![5120, 128, 8]⟩
abbrev S32x128x1 : Shape := ⟨3, ![32, 128, 1]⟩
abbrev S32x128x128x8x64 : Shape := ⟨5, ![32, 128, 128, 8, 64]⟩
abbrev S32x16384x8x64 : Shape := ⟨4, ![32, 16384, 8, 64]⟩
abbrev S32x128x128x8 : Shape := ⟨4, ![32, 128, 128, 8]⟩
abbrev S32x16384x8 : Shape := ⟨3, ![32, 16384, 8]⟩
abbrev S32x16385x8x64 : Shape := ⟨4, ![32, 16385, 8, 64]⟩
abbrev S32x16385x8 : Shape := ⟨3, ![32, 16385, 8]⟩
abbrev S32x8x16385 : Shape := ⟨3, ![32, 8, 16385]⟩
abbrev S32x8x1x16385 : Shape := ⟨4, ![32, 8, 1, 16385]⟩
abbrev S32x8x1 : Shape := ⟨3, ![32, 8, 1]⟩
abbrev S32x8x1x1 : Shape := ⟨4, ![32, 8, 1, 1]⟩
abbrev S16385 : Shape := ⟨1, ![16385]⟩
abbrev S1 : Shape := ⟨1, ![1]⟩
abbrev S1x16385 : Shape := ⟨2, ![1, 16385]⟩
abbrev S1x1 : Shape := ⟨2, ![1, 1]⟩
abbrev S32x8x64x1 : Shape := ⟨4, ![32, 8, 64, 1]⟩
abbrev S32768x1024 : Shape := ⟨2, ![32768, 1024]⟩

abbrev nBuf : Space → Nat
  | .hbm => 196
  | .vmem => 0
  | .smem => 0
  | _ => 0

abbrev hbmTy0_0 (i : Nat) : BufTy := match i % 128 with
  | 0 => ⟨S8x4096x1024, .f32⟩
  | 1 => ⟨S8x4096x512, .bf16⟩
  | 2 => ⟨S8x4096x512, .bf16⟩
  | 3 => ⟨S1x1024x1024, .f32⟩
  | 4 => ⟨S1x1024, .f32⟩
  | 5 => ⟨S1x1024, .f32⟩
  | 6 => ⟨S1x1024x2816, .f32⟩
  | 7 => ⟨S1x1024x2816, .f32⟩
  | 8 => ⟨S1x2816x1024, .f32⟩
  | 9 => ⟨S1x1024, .f32⟩
  | 10 => ⟨S1x1024, .f32⟩
  | 11 => ⟨S32x128, .i32⟩
  | 12 => ⟨S32x512, .f32⟩
  | 13 => ⟨S32x512, .f32⟩
  | 14 => ⟨S32x512, .f32⟩
  | 15 => ⟨S32x8, .f32⟩
  | 16 => ⟨S1x5120x128x8x64, .f32⟩
  | 17 => ⟨S1x5120x128x8x64, .f32⟩
  | 18 => ⟨S1x5120x128x8, .f32⟩
  | 19 => ⟨S1024x1024, .f32⟩
  | 20 => ⟨S1024, .f32⟩
  | 21 => ⟨S1024, .f32⟩
  | 22 => ⟨S1024x2816, .f32⟩
  | 23 => ⟨S1024x2816, .f32⟩
  | 24 => ⟨S2816x1024, .f32⟩
  | 25 => ⟨S1024, .f32⟩
  | 26 => ⟨S1024, .f32⟩
  | 27 => ⟨S8x4096x512, .f32⟩
  | 28 => ⟨S8x4096x512, .f32⟩
  | 29 => ⟨S8x4096x1024, .f32⟩
  | 30 => ⟨S8x4096x1024, .f32⟩
  | 31 => ⟨S_, .f32⟩
  | 32 => ⟨S8x4096x1024, .f32⟩
  | 33 => ⟨S8x4096x1024, .f32⟩
  | 34 => ⟨S8x4096x1024, .f32⟩
  | 35 => ⟨S_, .f32⟩
  | 36 => ⟨S8x4096, .f32⟩
  | 37 => ⟨S8x4096x1, .f32⟩
  | 38 => ⟨S_, .f32⟩
  | 39 => ⟨S8x4096x1, .f32⟩
  | 40 => ⟨S8x4096x1, .f32⟩
  | 41 => ⟨S8x4096x1024, .f32⟩
  | 42 => ⟨S8x4096x1024, .f32⟩
  | 43 => ⟨S8x4096x1024, .f32⟩
  | 44 => ⟨S_, .f32⟩
  | 45 => ⟨S8x4096, .f32⟩
  | 46 => ⟨S8x4096x1, .f32⟩
  | 47 => ⟨S_, .f32⟩
  | 48 => ⟨S8x4096x1, .f32⟩
  | 49 => ⟨S8x4096x1, .f32⟩
  | 50 => ⟨S8x4096x1024, .f32⟩
  | 51 => ⟨S8x4096x1024, .f32⟩
  | 52 => ⟨S_, .f32⟩
  | 53 => ⟨S8x4096x1, .f32⟩
  | 54 => ⟨S8x4096x1, .f32⟩
  | 55 => ⟨S8x4096x1, .f32⟩
  | 56 => ⟨S8x4096x1024, .f32⟩
  | 57 => ⟨S8x4096x1024, .f32⟩
  | 58 => ⟨S1x1x1024, .f32⟩
  | 59 => ⟨S8x4096x1024, .f32⟩
  | 60 => ⟨S8x4096x1024, .f32⟩
  | 61 => ⟨S1x1x1024, .f32⟩
  | 62 => ⟨S8x4096x1024, .f32⟩
  | 63 => ⟨S8x4096x1024, .f32⟩
  | 64 => ⟨S8x4096x2816, .f32⟩
  | 65 => ⟨S8x4096x2816, .f32⟩
  | 66 => ⟨S8x4096x2816, .f32⟩
  | 67 => ⟨S_, .f32⟩
  | 68 => ⟨S8x4096x2816, .f32⟩
  | 69 => ⟨S8x4096x2816, .f32⟩
  | 70 => ⟨S_, .f32⟩
  | 71 => ⟨S8x4096x2816, .f32⟩
  | 72 => ⟨S8x4096x2816, .f32⟩
  | 73 => ⟨S8x4096x2816, .f32⟩
  | 74 => ⟨S8x4096x2816, .f32⟩
  | 75 => ⟨S8x4096x2816, .f32⟩
  | 76 => ⟨S8x4096x1024, .f32⟩
  | 77 => ⟨S_, .f32⟩
  | 78 => ⟨S8x4096x1024, .f32⟩
  | 79 => ⟨S8x4096x1024, .f32⟩
  | 80 => ⟨S8x4096x1024, .f32⟩
  | 81 => ⟨S_, .f32⟩
  | 82 => ⟨S8x4096, .f32⟩
  | 83 => ⟨S8x4096x1, .f32⟩
  | 84 => ⟨S_, .f32⟩
  | 85 => ⟨S8x4096x1, .f32⟩
  | 86 => ⟨S8x4096x1, .f32⟩
  | 87 => ⟨S8x4096x1024, .f32⟩
  | 88 => ⟨S8x4096x1024, .f32⟩
  | 89 => ⟨S8x4096x1024, .f32⟩
  | 90 => ⟨S_, .f32⟩
  | 91 => ⟨S8x4096, .f32⟩
  | 92 => ⟨S8x4096x1, .f32⟩
  | 93 => ⟨S_, .f32⟩
  | 94 => ⟨S8x4096x1, .f32⟩
  | 95 => ⟨S8x4096x1, .f32⟩
  | 96 => ⟨S8x4096x1024, .f32⟩
  | 97 => ⟨S8x4096x1024, .f32⟩
  | 98 => ⟨S_, .f32⟩
  | 99 => ⟨S8x4096x1, .f32⟩
  | 100 => ⟨S8x4096x1, .f32⟩
  | 101 => ⟨S8x4096x1, .f32⟩
  | 102 => ⟨S8x4096x1024, .f32⟩
  | 103 => ⟨S8x4096x1024, .f32⟩
  | 104 => ⟨S1x1x1024, .f32⟩
  | 105 => ⟨S8x4096x1024, .f32⟩
  | 106 => ⟨S8x4096x1024, .f32⟩
  | 107 => ⟨S1x1x1024, .f32⟩
  | 108 => ⟨S8x4096x1024, .f32⟩
  | 109 => ⟨S8x4096x1024, .f32⟩
  | 110 => ⟨S32x1x8x64, .f32⟩
  | 111 => ⟨S32x1x8x64, .f32⟩
  | 112 => ⟨S32x1x8x64, .f32⟩
  | 113 => ⟨S32x1x8, .f32⟩
  | 114 => ⟨S5120x128x8x64, .f32⟩
  | 115 => ⟨S5120x128x8x64, .f32⟩
  | 116 => ⟨S5120x128x8, .f32⟩
  | 117 => ⟨S_, .i32⟩
  | 118 => ⟨S32x128, .i32⟩
  | 119 => ⟨S32x128, .i1⟩
  | 120 => ⟨S_, .i32⟩
  | 121 => ⟨S32x128, .i32⟩
  | 122 => ⟨S32x128, .i32⟩
  | 123 => ⟨S32x128, .i32⟩
  | 124 => ⟨S32x128x1, .i32⟩
  | 125 => ⟨S32x128x128x8x64, .f32⟩
  | 126 => ⟨S32x16384x8x64, .f32⟩
  | 127 => ⟨S_, .i32⟩
  | _ => ⟨S8x4096x1024, .f32⟩

abbrev hbmTy0_1 (i : Nat) : BufTy := match i % 128 with
  | 0 => ⟨S32x128, .i32⟩
  | 1 => ⟨S32x128, .i1⟩
  | 2 => ⟨S_, .i32⟩
  | 3 => ⟨S32x128, .i32⟩
  | 4 => ⟨S32x128, .i32⟩
  | 5 => ⟨S32x128, .i32⟩
  | 6 => ⟨S32x128x1, .i32⟩
  | 7 => ⟨S32x128x128x8x64, .f32⟩
  | 8 => ⟨S32x16384x8x64, .f32⟩
  | 9 => ⟨S_, .i32⟩
  | 10 => ⟨S32x128, .i32⟩
  | 11 => ⟨S32x128, .i1⟩
  | 12 => ⟨S_, .i32⟩
  | 13 => ⟨S32x128, .i32⟩
  | 14 => ⟨S32x128, .i32⟩
  | 15 => ⟨S32x128, .i32⟩
  | 16 => ⟨S32x128x1, .i32⟩
  | 17 => ⟨S32x128x128x8, .f32⟩
  | 18 => ⟨S32x16384x8, .f32⟩
  | 19 => ⟨S32x16385x8x64, .f32⟩
  | 20 => ⟨S32x16385x8x64, .f32⟩
  | 21 => ⟨S32x16385x8, .f32⟩
  | 22 => ⟨S_, .f32⟩
  | 23 => ⟨S_, .f32⟩
  | 24 => ⟨S32x16385x8, .f32⟩
  | 25 => ⟨S32x8x16385, .f32⟩
  | 26 => ⟨S32x8x1x16385, .f32⟩
  | 27 => ⟨S_, .f32⟩
  | 28 => ⟨S32x8x1x16385, .f32⟩
  | 29 => ⟨S32x8x1x16385, .f32⟩
  | 30 => ⟨S32x8x1, .f32⟩
  | 31 => ⟨S32x8x1x1, .f32⟩
  | 32 => ⟨S32x8x1x16385, .f32⟩
  | 33 => ⟨S32x8x1x16385, .f32⟩
  | 34 => ⟨S32x8x1x16385, .f32⟩
  | 35 => ⟨S32x8x1x16385, .f32⟩
  | 36 => ⟨S16385, .i32⟩
  | 37 => ⟨S1, .i32⟩
  | 38 => ⟨S_, .i32⟩
  | 39 => ⟨S1, .i32⟩
  | 40 => ⟨S1, .i32⟩
  | 41 => ⟨S1x16385, .i32⟩
  | 42 => ⟨S1x1, .i32⟩
  | 43 => ⟨S1x16385, .i32⟩
  | 44 => ⟨S1x16385, .i1⟩
  | 45 => ⟨S_, .f32⟩
  | 46 => ⟨S_, .f32⟩
  | 47 => ⟨S32x8x1x16385, .i1⟩
  | 48 => ⟨S32x8x1x16385, .f32⟩
  | 49 => ⟨S32x8x1x16385, .f32⟩
  | 50 => ⟨S_, .f32⟩
  | 51 => ⟨S32x8x1, .f32⟩
  | 52 => ⟨S_, .f32⟩
  | 53 => ⟨S32x8x1, .f32⟩
  | 54 => ⟨S32x8x1, .f32⟩
  | 55 => ⟨S32x8x1x1, .f32⟩
  | 56 => ⟨S32x8x1x16385, .f32⟩
  | 57 => ⟨S32x8x1x16385, .f32⟩
  | 58 => ⟨S32x8x1x16385, .f32⟩
  | 59 => ⟨S_, .f32⟩
  | 60 => ⟨S32x8x1, .f32⟩
  | 61 => ⟨S32x8x1x1, .f32⟩
  | 62 => ⟨S32x8x1x16385, .f32⟩
  | 63 => ⟨S32x8x1x16385, .f32⟩
  | 64 => ⟨S32x8x64x1, .f32⟩
  | 65 => ⟨S32x1x8x64, .f32⟩
  | 66 => ⟨S32768x1024, .f32⟩
  | 67 => ⟨S32x8x64x1, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_5 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_6 : Ref sig .tc := ⟨.hbm, 81, rfl⟩
abbrev main_v47 : Ref sig .tc := ⟨.hbm, 82, rfl⟩
abbrev main_v48 : Ref sig .tc := ⟨.hbm, 83, rfl⟩
abbrev main_cst_7 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_8 : Ref sig .tc := ⟨.hbm, 90, rfl⟩
abbrev main_v54 : Ref sig .tc := ⟨.hbm, 91, rfl⟩
abbrev main_v55 : Ref sig .tc := ⟨.hbm, 92, rfl⟩
abbrev main_cst_9 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_10 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c : Ref sig .tc := ⟨.hbm, 117, rfl⟩
abbrev main_v78 : Ref sig .tc := ⟨.hbm, 118, rfl⟩
abbrev main_v79 : Ref sig .tc := ⟨.hbm, 119, rfl⟩
abbrev main_c_11 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_c_12 : Ref sig .tc := ⟨.hbm, 127, rfl⟩
abbrev main_v86 : Ref sig .tc := ⟨.hbm, 128, rfl⟩
abbrev main_v87 : Ref sig .tc := ⟨.hbm, 129, rfl⟩
abbrev main_c_13 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_14 : Ref sig .tc := ⟨.hbm, 137, rfl⟩
abbrev main_v94 : Ref sig .tc := ⟨.hbm, 138, rfl⟩
abbrev main_v95 : Ref sig .tc := ⟨.hbm, 139, rfl⟩
abbrev main_c_15 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_call1_call0_cst : Ref sig .tc := ⟨.hbm, 150, rfl⟩
abbrev main_call1_call0_v0 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_16 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_c_17 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_18 : Ref sig .tc := ⟨.hbm, 173, rfl⟩
abbrev main_call2_v0 : Ref sig .tc := ⟨.hbm, 174, rfl⟩
abbrev main_call2_v1 : Ref sig .tc := ⟨.hbm, 175, rfl⟩
abbrev main_call2_v2 : Ref sig .tc := ⟨.hbm, 176, rfl⟩
abbrev main_v124 : Ref sig .tc := ⟨.hbm, 177, rfl⟩
abbrev main_cst_19 : Ref sig .tc := ⟨.hbm, 178, rfl⟩
abbrev main_v125 : Ref sig .tc := ⟨.hbm, 179, rfl⟩
abbrev main_cst_20 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_21 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩

abbrev nD : Nat := 1
abbrev τ : Topo := Topo.v7x

variable {F : FTy → Type} [FloatOps F]
-- ==== Proof.Finish.Parts.lean ====
module

public import proofs.«01_k».proof.Proof.Gen.KernelIdeal

/-! # What one grid point computes, as functions of the blocks it reads

The attention half folds a chunk of sixteen pages of the cache into the running state (a column of scores' maxima, a
column of sums, the weighted values and the summed log decays). The prompt half is the output projection with a layer
norm, the gated feed-forward part in column blocks, and a second layer norm. -/

@[expose] public section

set_option maxRecDepth 16384

noncomputable section

namespace Cert.Finish

open Idealize.ShloMosaic Idealize.ShloMosaic.TcCoe Idealize.SL.Sem
open Cert.KernelIdeal Cert.KernelIdeal.Facts₀ Cert.KernelIdeal.Facts

variable {F : FTy → Type} [FloatOps F]

theorem slices_scan (r : ℕ) (k : ℕ) (hr : r + 8 ≤ 128) (hk : k + 128 ≤ 256) : S128x256.Slices ![r, k] S8x128 := by
  refine ⟨rfl, fun a => ?_⟩
  fin_cases a
  · exact hr
  · exact hk

theorem slices_alpha (h : ℕ) (hh : h < 8) : S8x1.Slices ![h, 0] S1x1 := by
  refine ⟨rfl, fun a => ?_⟩
  fin_cases a
  · exact hh
  · exact Nat.le_refl 1

theorem slices_p (h k : ℕ) (hh : h < 8) (hk : k + 128 ≤ 2048) : S8x2048.Slices ![h, k] S1x128 := by
  refine ⟨rfl, fun a => ?_⟩
  fin_cases a
  · exact hh
  · exact hk

/-- Ones where the row is at most the column, and everywhere from column 128 on: times a row of log decays, the sums up
    to each position and the whole row's sum. -/
def scanW : FVec F S128x256 .bf16 :=
  truncf .bf16 (select (ori (cmpi .sle (iota .tc S128x256 32 [0] iota_S128x256_d0_w32) (iota .tc S128x256 32 [1] iota_S128x256_d1_w32))
      (cmpi .sge (iota .tc S128x256 32 [1] iota_S128x256_d1_w32) (broadcast S128x256 128#32)))
    (broadcast S128x256 (Scalar.ofBits (F := F) .f32 0x3F800000#32)) (broadcast S128x256 (Scalar.ofBits (F := F) .f32 0x00000000#32)))
    bitsLt_bf16_f32

/-- The sixteen pages' log decays one under the other. -/
def pages (L : Fin 16 → Vec F S1x8x128 .f32) : FVec F S128x128 .f32 :=
  concatenate S128x128 0 [⟨S8x128, shapeCast S8x128 (L 0) shapeCasts_S1x8x128_S8x128⟩, ⟨S8x128, shapeCast S8x128 (L 1) shapeCasts_S1x8x128_S8x128⟩, ⟨S8x128, shapeCast S8x128 (L 2) shapeCasts_S1x8x128_S8x128⟩, ⟨S8x128, shapeCast S8x128 (L 3) shapeCasts_S1x8x128_S8x128⟩, ⟨S8x128, shapeCast S8x128 (L 4) shapeCasts_S1x8x128_S8x128⟩, ⟨S8x128, shapeCast S8x128 (L 5) shapeCasts_S1x8x128_S8x128⟩, ⟨S8x128, shapeCast S8x128 (L 6) shapeCasts_S1x8x128_S8x128⟩, ⟨S8x128, shapeCast S8x128 (L 7) shapeCasts_S1x8x128_S8x128⟩, ⟨S8x128, shapeCast S8x128 (L 8) shapeCasts_S1x8x128_S8x128⟩, ⟨S8x128, shapeCast S8x128 (L 9) shapeCasts_S1x8x128_S8x128⟩, ⟨S8x128, shapeCast S8x128 (L 10) shapeCasts_S1x8x128_S8x128⟩, ⟨S8x128, shapeCast S8x128 (L 11) shapeCasts_S1x8x128_S8x128⟩, ⟨S8x128, shapeCast S8x128 (L 12) shapeCasts_S1x8x128_S8x128⟩, ⟨S8x128, shapeCast S8x128 (L 13) shapeCasts_S1x8x128_S8x128⟩, ⟨S8x128, shapeCast S8x128 (L 14) shapeCasts_S1x8x128_S8x128⟩, ⟨S8x128, shapeCast S8x128 (L 15) shapeCasts_S1x8x128_S8x128⟩]
    concatenates_S8x128_S8x128_S8x128_S8x128_S8x128_S8x128_S8x128_S8x128_S8x128_S8x128_S8x128_S8x128_S8x128_S8x128_S8x128_S8x128_S128x128_d0

/-- A word as the sum of three shorter ones, each multiplied by the ones. -/
def scan3 (a : FVec F S128x128 .f32) : FVec F S128x256 .f32 :=
  have hi : FVec F S128x128 .bf16 := truncf .bf16 a bitsLt_bf16_f32
  have r1 : FVec F S128x128 .f32 := subf a (extf .f32 hi bitsLt_bf16_f32)
  have mid : FVec F S128x128 .bf16 := truncf .bf16 r1 bitsLt_bf16_f32
  have lo : FVec F S128x128 .bf16 := truncf .bf16 (subf r1 (extf .f32 mid bitsLt_bf16_f32)) bitsLt_bf16_f32
  addf (addf (matmul dot_S128x128_S128x256_S128x256_1_0_0_1_n_n none hi scanW (constant S128x256 .f32 0x00000000#32))
      (matmul dot_S128x128_S128x256_S128x256_1_0_0_1_n_n none mid scanW (constant S128x256 .f32 0x00000000#32)))
    (matmul dot_S128x128_S128x256_S128x256_1_0_0_1_n_n none lo scanW (constant S128x256 .f32 0x00000000#32))

/-- The summed log decay before page `n` of the chunk, at every lane. -/
def offs (g : Vec F S8x128 .f32) (sc : FVec F S128x256 .f32) : (n : ℕ) → n ≤ 16 → FVec F S8x128 .f32
  | 0, _ => g
  | n + 1, h => addf (offs g sc n (Nat.le_of_succ_le h)) (extractStridedSlice S8x128 ![8 * n, 128] sc (slices_scan _ _ (by omega) (by omega)))

/-- The scores of one page: the products of the query and the keys less the summed log decay. -/
def score (g : Vec F S8x128 .f32) (sc : FVec F S128x256 .f32) (n : ℕ) (hn : n < 16) (k : Vec F S1x8x64x128 .f32) (q : Vec F S8x64x128 .f32) :
    FVec F S8x128 .f32 :=
  subf (multiReduction .add [1] S8x128 (mulf (shapeCast S8x64x128 k shapeCasts_S1x8x64x128_S8x64x128) q) 0x00000000#32
      reduces_S8x64x128_S8x128 (.inl rfl) rfl)
    (addf (extractStridedSlice S8x128 ![8 * n, 0] sc (slices_scan _ _ (by omega) (by omega))) (offs g sc n (Nat.le_of_lt hn)))

/-- Sixteen pages' scores side by side. -/
def beside (s : Fin 16 → FVec F S8x128 .f32) : FVec F S8x2048 .f32 :=
  concatenate S8x2048 1 [⟨S8x128, s 0⟩, ⟨S8x128, s 1⟩, ⟨S8x128, s 2⟩, ⟨S8x128, s 3⟩, ⟨S8x128, s 4⟩, ⟨S8x128, s 5⟩, ⟨S8x128, s 6⟩, ⟨S8x128, s 7⟩, ⟨S8x128, s 8⟩, ⟨S8x128, s 9⟩, ⟨S8x128, s 10⟩, ⟨S8x128, s 11⟩, ⟨S8x128, s 12⟩, ⟨S8x128, s 13⟩, ⟨S8x128, s 14⟩, ⟨S8x128, s 15⟩]
    concatenates_S8x128_S8x128_S8x128_S8x128_S8x128_S8x128_S8x128_S8x128_S8x128_S8x128_S8x128_S8x128_S8x128_S8x128_S8x128_S8x128_S8x2048_d1

/-- The running maximum of the scores. -/
def mNew (m : Vec F S8x1 .f32) (s : FVec F S8x2048 .f32) : FVec F S8x1 .f32 :=
  maximumf m (shapeCast S8x1 (multiReduction .maximumf [1] S8 s 0xFF800000#32 reduces_S8x2048_S8 (.inl rfl) rfl) shapeCasts_S8_S8x1)

/-- The chunk's weights, relative to the running maximum. -/
def weights (m : FVec F S8x1 .f32) (s : FVec F S8x2048 .f32) : FVec F S8x2048 .f32 :=
  exp (subf s (broadcastTo S8x2048 m broadcasts_S8x1_S8x2048))

/-- What the sums so far are rescaled by. -/
def rescale (m m' : FVec F S8x1 .f32) : FVec F S8x1 .f32 := exp (subf m m')

/-- The running sum of the weights. -/
def lNew (al : FVec F S8x1 .f32) (l : Vec F S8x1 .f32) (p : FVec F S8x2048 .f32) : FVec F S8x1 .f32 :=
  addf (mulf al l) (shapeCast S8x1 (multiReduction .add [1] S8 p 0x00000000#32 reduces_S8x2048_S8 (.inl rfl) rfl) shapeCasts_S8_S8x1)

/-- A column at every lane, as the state keeps it. -/
def lanes (x : FVec F S8x1 .f32) : FVec F S8x128 .f32 :=
  shapeCast S8x128 (broadcastTo S8x128 (shapeCast S8x1 x shapeCasts_S8x1_S8x1) broadcasts_S8x1_S8x128) shapeCasts_S8x128_S8x128

/-- Head `h`'s weighted values after `n` of the chunk's pages. -/
def accs (h : ℕ) (hh : h < 8) (al : FVec F S8x1 .f32) (p : FVec F S8x2048 .f32) (a : Vec F S1x64x128 .f32) (V : Fin 16 → Vec F S1x1x64x128 .f32) :
    (n : ℕ) → n ≤ 16 → FVec F S64x128 .f32
  | 0, _ => mulf (broadcastTo S64x128 (extractStridedSlice S1x1 ![h, 0] al (slices_alpha h hh)) broadcasts_S1x1_S64x128)
      (shapeCast S64x128 a shapeCasts_S1x64x128_S64x128)
  | n + 1, hn => addf (accs h hh al p a V n (Nat.le_of_succ_le hn))
      (mulf (broadcastTo S64x128 (extractStridedSlice S1x128 ![h, 128 * n] p (slices_p _ _ hh (by omega))) broadcasts_S1x128_S64x128)
        (shapeCast S64x128 (V ⟨n, hn⟩) shapeCasts_S1x1x64x128_S64x128))

/-- One column of the query, key and value columns: the one of sequence `b`. -/
def column (w : BitVec 32) (x : Vec F S512x96 .f32) : FVec F S8x64x1 .f32 :=
  shapeCast S8x64x1 (shapeCast S512x1 (multiReduction .add [1] S512
      (select (cmpi .eq (iota .tc S512x96 32 [1] iota_S512x96_d1_w32) (broadcast S512x96 w)) (shapeCast S512x96 x shapeCasts_S512x96_S512x96)
        (broadcast S512x96 (Scalar.ofBits (F := F) .f32 0x00000000#32)))
      0x00000000#32 reduces_S512x96_S512 (.inl rfl) rfl) shapeCasts_S512_S512x1) shapeCasts_S512x1_S8x64x1

/-- The scaled query at every lane. -/
def queryLanes (x : FVec F S8x64x1 .f32) : FVec F S8x64x128 .f32 :=
  shapeCast S8x64x128 (broadcastTo S8x64x128 (shapeCast S8x64x1
      (mulf x (broadcast S8x64x1 (Scalar.ofBits (F := F) .f32 0x3E000000#32))) shapeCasts_S8x64x1_S8x64x1) broadcasts_S8x64x1_S8x64x128)
    shapeCasts_S8x64x128_S8x64x128

def constLanes (w : BitVec 32) : FVec F S8x128 .f32 :=
  shapeCast S8x128 (broadcast S8x128 (Scalar.ofBits (F := F) .f32 w)) shapeCasts_S8x128_S8x128

def zeroAcc : FVec F S8x64x128 .f32 :=
  shapeCast S8x64x128 (broadcast S8x64x128 (Scalar.ofBits (F := F) .f32 0x00000000#32)) shapeCasts_S8x64x128_S8x64x128

/-- A column of eight heads as a stack of eight. -/
def stack (x : Vec F S8x1 .f32) : FVec F S8x1x1 .f32 :=
  concatenate S8x1x1 0 [⟨S1x1x1, shapeCast S1x1x1 (extractStridedSlice S1x1 ![0, 0] x slices_S8x1_o0_0_S1x1) shapeCasts_S1x1_S1x1x1⟩, ⟨S1x1x1, shapeCast S1x1x1 (extractStridedSlice S1x1 ![1, 0] x slices_S8x1_o1_0_S1x1) shapeCasts_S1x1_S1x1x1⟩, ⟨S1x1x1, shapeCast S1x1x1 (extractStridedSlice S1x1 ![2, 0] x slices_S8x1_o2_0_S1x1) shapeCasts_S1x1_S1x1x1⟩, ⟨S1x1x1, shapeCast S1x1x1 (extractStridedSlice S1x1 ![3, 0] x slices_S8x1_o3_0_S1x1) shapeCasts_S1x1_S1x1x1⟩, ⟨S1x1x1, shapeCast S1x1x1 (extractStridedSlice S1x1 ![4, 0] x slices_S8x1_o4_0_S1x1) shapeCasts_S1x1_S1x1x1⟩, ⟨S1x1x1, shapeCast S1x1x1 (extractStridedSlice S1x1 ![5, 0] x slices_S8x1_o5_0_S1x1) shapeCasts_S1x1_S1x1x1⟩, ⟨S1x1x1, shapeCast S1x1x1 (extractStridedSlice S1x1 ![6, 0] x slices_S8x1_o6_0_S1x1) shapeCasts_S1x1_S1x1x1⟩, ⟨S1x1x1, shapeCast S1x1x1 (extractStridedSlice S1x1 ![7, 0] x slices_S8x1_o7_0_S1x1) shapeCasts_S1x1_S1x1x1⟩]
    concatenates_S1x1x1_S1x1x1_S1x1x1_S1x1x1_S1x1x1_S1x1x1_S1x1x1_S1x1x1_S8x1x1_d0

/-- The new token's score. -/
def tokScore (q : Vec F S8x64x1 .f32) (k : FVec F S8x64x1 .f32) (g : Vec F S8x1 .f32) (lf : Vec F S1x8x1x1 .f32) : FVec F S8x1x1 .f32 :=
  subf (shapeCast S8x1x1 (multiReduction .add [1] S8x1 (mulf q k) 0x00000000#32 reduces_S8x64x1_S8x1 (.inl rfl) rfl) shapeCasts_S8x1_S8x1x1)
    (addf (stack g) (shapeCast S8x1x1 lf shapeCasts_S1x8x1x1_S8x1x1))

/-- The sequence's attention output: the state and the new token joined, divided by the sum of the weights. -/
def tokOut (s m l : FVec F S8x1x1 .f32) (a : Vec F S8x64x128 .f32) (v : FVec F S8x64x1 .f32) : FVec F S1x8x64x1 .f32 :=
  have m' : FVec F S8x1x1 .f32 := maximumf m s
  have al : FVec F S8x1x1 .f32 := exp (subf m m')
  have p : FVec F S8x1x1 .f32 := exp (subf s m')
  shapeCast S1x8x64x1 (divf (addf
      (mulf (broadcastTo S8x64x1 al broadcasts_S8x1x1_S8x64x1)
        (shapeCast S8x64x1 (multiReduction .add [2] S8x64 a 0x00000000#32 reduces_S8x64x128_S8x64 (.inl rfl) rfl) shapeCasts_S8x64_S8x64x1))
      (mulf (broadcastTo S8x64x1 p broadcasts_S8x1x1_S8x64x1) v))
    (broadcastTo S8x64x1 (addf (mulf al l) p) broadcasts_S8x1x1_S8x64x1)) shapeCasts_S8x64x1_S1x8x64x1

/-- The layer norm of 512 rows. -/
def layerNorm (z : FVec F S512x1024 .f32) (g b : Vec F S1x1024 .f32) : FVec F S512x1024 .f32 :=
  have mu : FVec F S512x1 .f32 := divf (shapeCast S512x1 (multiReduction .add [1] S512 z 0x00000000#32 reduces_S512x1024_S512 (.inl rfl) rfl) shapeCasts_S512_S512x1)
    (broadcast S512x1 (Scalar.ofBits (F := F) .f32 0x44800000#32))
  have d : FVec F S512x1024 .f32 := subf z (broadcastTo S512x1024 mu broadcasts_S512x1_S512x1024)
  have var : FVec F S512x1 .f32 := divf (shapeCast S512x1 (multiReduction .add [1] S512 (mulf d d) 0x00000000#32 reduces_S512x1024_S512 (.inl rfl) rfl) shapeCasts_S512_S512x1)
    (broadcast S512x1 (Scalar.ofBits (F := F) .f32 0x44800000#32))
  have r : FVec F S512x1 .f32 := rsqrt (addf var (broadcast S512x1 (Scalar.ofBits (F := F) .f32 0x3727C5AC#32)))
  addf (mulf (mulf d (broadcastTo S512x1024 r broadcasts_S512x1_S512x1024))
      (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

/-- A residual, scaled, and an update. -/
def residual (x u : FVec F S512x1024 .f32) : FVec F S512x1024 .f32 :=
  addf (mulf (broadcast S512x1024 (Scalar.ofBits (F := F) .f32 0x3F9837F0#32)) x) u

/-- The output projection: the attention's and the pooling's columns by the two halves of the weights. -/
def mix (a : Vec F S512x512 .bf16) (wa : Vec F S512x1024 .bf16) (p : Vec F S512x512 .bf16) (wp : Vec F S512x1024 .bf16) : FVec F S512x1024 .f32 :=
  addf (matmul dot_S512x512_S512x1024_S512x1024_1_0_0_1_n_n none (shapeCast S512x512 a shapeCasts_S512x512_S512x512)
      (shapeCast S512x1024 wa shapeCasts_S512x1024_S512x1024) (constant S512x1024 .f32 0x00000000#32))
    (matmul dot_S512x512_S512x1024_S512x1024_1_0_0_1_n_n none (shapeCast S512x512 p shapeCasts_S512x512_S512x512)
      (shapeCast S512x1024 wp shapeCasts_S512x1024_S512x1024) (constant S512x1024 .f32 0x00000000#32))

/-- The gated hidden columns, 512 of them. -/
def gated512 (x : Vec F S512x1024 .bf16) (wg wu : Vec F S1024x512 .bf16) : FVec F S512x512 .bf16 :=
  have gate : FVec F S512x512 .f32 := matmul dot_S512x1024_S1024x512_S512x512_1_0_0_1_n_n none x (shapeCast S1024x512 wg shapeCasts_S1024x512_S1024x512) (constant S512x512 .f32 0x00000000#32)
  have up : FVec F S512x512 .f32 := matmul dot_S512x1024_S1024x512_S512x512_1_0_0_1_n_n none x (shapeCast S1024x512 wu shapeCasts_S1024x512_S1024x512) (constant S512x512 .f32 0x00000000#32)
  truncf .bf16 (mulf (mulf gate (logistic gate)) up) bitsLt_bf16_f32

/-- 512 hidden columns' part of the feed-forward output. -/
def part512 (x : Vec F S512x1024 .bf16) (wg wu : Vec F S1024x512 .bf16) (wd : Vec F S512x1024 .bf16) : FVec F S512x1024 .f32 :=
  matmul dot_S512x512_S512x1024_S512x1024_1_0_0_1_n_n none (gated512 x wg wu) (shapeCast S512x1024 wd shapeCasts_S512x1024_S512x1024) (constant S512x1024 .f32 0x00000000#32)

/-- The gated hidden columns, 256 of them. -/
def gated256 (x : Vec F S512x1024 .bf16) (wg wu : Vec F S1024x256 .bf16) : FVec F S512x256 .bf16 :=
  have gate : FVec F S512x256 .f32 := matmul dot_S512x1024_S1024x256_S512x256_1_0_0_1_n_n none x (shapeCast S1024x256 wg shapeCasts_S1024x256_S1024x256) (constant S512x256 .f32 0x00000000#32)
  have up : FVec F S512x256 .f32 := matmul dot_S512x1024_S1024x256_S512x256_1_0_0_1_n_n none x (shapeCast S1024x256 wu shapeCasts_S1024x256_S1024x256) (constant S512x256 .f32 0x00000000#32)
  truncf .bf16 (mulf (mulf gate (logistic gate)) up) bitsLt_bf16_f32

/-- 256 hidden columns' part of the feed-forward output. -/
def part256 (x : Vec F S512x1024 .bf16) (wg wu : Vec F S1024x256 .bf16) (wd : Vec F S256x1024 .bf16) : FVec F S512x1024 .f32 :=
  matmul dot_S512x256_S256x1024_S512x1024_1_0_0_1_n_n none (gated256 x wg wu) (shapeCast S256x1024 wd shapeCasts_S256x1024_S256x1024) (constant S512x1024 .f32 0x00000000#32)

end Cert.Finish

end
-- ==== Proof.Finish.Prog.lean ====
module

public import proofs.«01_k».proof.Proof.Finish.Parts

/-! # One grid point as a program of loads and stores

The body of the call, cut into its steps: the chunk of sixteen pages that every point folds in, and the step of the
prompt tile that the point's remainder by four selects. -/

@[expose] public section

set_option maxRecDepth 16384

noncomputable section

namespace Cert.Finish

open Idealize.ShloMosaic Idealize.ShloMosaic.TcCoe Idealize.SL.Sem
open Cert.KernelIdeal Cert.KernelIdeal.Facts₀ Cert.KernelIdeal.Facts

variable {F : FTy → Type} [FloatOps F]

/-- The memrefs that a grid point's body is called with. -/
structure Mems where
  x : Memref sig .tc .vmem S512x1024 .f32
  a : Memref sig .tc .vmem S512x512 .bf16
  p : Memref sig .tc .vmem S512x512 .bf16
  wo : Memref sig .tc .vmem S1024x1024 .bf16
  g1 : Memref sig .tc .vmem S1x1024 .f32
  b1 : Memref sig .tc .vmem S1x1024 .f32
  wg : Memref sig .tc .vmem S1024x2816 .bf16
  wu : Memref sig .tc .vmem S1024x2816 .bf16
  wd : Memref sig .tc .vmem S2816x1024 .bf16
  g2 : Memref sig .tc .vmem S1x1024 .f32
  b2 : Memref sig .tc .vmem S1x1024 .f32
  qkv : Memref sig .tc .vmem S512x96 .f32
  lfn : Memref sig .tc .vmem S1x8x1x1 .f32
  k : Fin 16 → Memref sig .tc .vmem S1x8x64x128 .f32
  v : Fin 16 → Memref sig .tc .vmem S1x8x64x128 .f32
  lf : Fin 16 → Memref sig .tc .vmem S1x8x128 .f32
  y : Memref sig .tc .vmem S512x1024 .f32
  so : Memref sig .tc .vmem S1x8x64x1 .f32
  x1 : Memref sig .tc .vmem S512x1024 .f32
  x1b : Memref sig .tc .vmem S512x1024 .bf16
  ffn : Memref sig .tc .vmem S512x1024 .f32
  qb : Memref sig .tc .vmem S8x64x128 .f32
  m : Memref sig .tc .vmem S8x128 .f32
  l : Memref sig .tc .vmem S8x128 .f32
  acc : Memref sig .tc .vmem S8x64x128 .f32
  g : Memref sig .tc .vmem S8x128 .f32
  hx1b : x1b.IsWhole

/-- Programs of loads and stores. -/
abbrev PP (F : FTy → Type) [FloatOps F] : Type → Type 1 := Prog (TpuEff nD τ sig (Elt F) Λ₀ .tc)

/-- The load of a rectangle. -/
abbrev ldv {s : Shape} {e : EltTy} (m : Memref sig .tc .vmem s e) (r : Rect s) (h : 0 < r.shape.numel) : PP F (r.shape.Idx → Elt F e) :=
  Prog.lift (.load m r.toLoadRect (View.loadsAt_vmem h))

/-- The store of a rectangle of 32-bit words. -/
abbrev stv {s : Shape} (m : Memref sig .tc .vmem s .f32) (r : Rect s) (w : r.shape.Idx → Elt F .f32) (h : 0 < r.shape.numel) (hs : ∀ a, r.stride a = 1) : PP F PUnit :=
  Prog.lift (.store m r w Finset.univ (View.stores_vmem_bits_univ h rfl) (.inl rfl))

/-- The results of `n` programs run in order. -/
def collect {α : Type} : (n : ℕ) → (Fin n → PP F α) → PP F (Fin n → α)
  | 0, _ => pure Fin.elim0
  | n + 1, f => do
    let a ← f 0
    let bs ← collect n (fun i => f i.succ)
    pure (Fin.cons a bs)

/-- `n` programs run in order. -/
def inOrder : (n : ℕ) → (Fin n → PP F PUnit) → PP F PUnit
  | 0, _ => pure ⟨⟩
  | n + 1, f => do
    f 0
    inOrder n (fun i => f i.succ)

theorem inb_head (h : ℕ) (hh : h < 8) : ∀ a, (![h, 0, 0] : Fin 3 → Nat) a + S1x64x128.size a ≤ S8x64x128.size a := by
  intro a; fin_cases a
  · exact hh
  · exact Nat.le_refl 64
  · exact Nat.le_refl 128

theorem inb_vhead (h : ℕ) (hh : h < 8) : ∀ a, (![0, h, 0, 0] : Fin 4 → Nat) a + S1x1x64x128.size a ≤ S1x8x64x128.size a := by
  intro a; fin_cases a
  · exact Nat.le_refl 1
  · exact hh
  · exact Nat.le_refl 64
  · exact Nat.le_refl 128

theorem inb_cols512 (c : ℕ) (hc : c + 512 ≤ 2816) : ∀ a, (![0, c] : Fin 2 → Nat) a + S1024x512.size a ≤ S1024x2816.size a := by
  intro a; fin_cases a
  · exact Nat.le_refl 1024
  · exact hc

theorem inb_rows512 (c : ℕ) (hc : c + 512 ≤ 2816) : ∀ a, (![c, 0] : Fin 2 → Nat) a + S512x1024.size a ≤ S2816x1024.size a := by
  intro a; fin_cases a
  · exact hc
  · exact Nat.le_refl 1024

abbrev rLf : Rect S1x8x128 := Rect.unit (s := S1x8x128) ![0, 0, 0] S1x8x128.size inb_S1x8x128_S1x8x128_0_0_0
abbrev rK : Rect S1x8x64x128 := Rect.unit (s := S1x8x64x128) ![0, 0, 0, 0] S1x8x64x128.size inb_S1x8x64x128_S1x8x64x128_0_0_0_0
abbrev rQ : Rect S8x64x128 := Rect.unit (s := S8x64x128) ![0, 0, 0] S8x64x128.size inb_S8x64x128_S8x64x128_0_0_0
abbrev rM : Rect S8x128 := Rect.unit (s := S8x128) ![0, 0] S8x128.size inb_S8x128_S8x128_0_0
abbrev rM1 : Rect S8x128 := Rect.unit (s := S8x128) ![0, 0] S8x1.size inb_S8x128_S8x1_0_0
abbrev rQ1 : Rect S8x64x128 := Rect.unit (s := S8x64x128) ![0, 0, 0] S8x64x1.size inb_S8x64x128_S8x64x1_0_0_0
abbrev rHead (h : ℕ) (hh : h < 8) : Rect S8x64x128 := Rect.unit (s := S8x64x128) ![h, 0, 0] S1x64x128.size (inb_head h hh)
abbrev rVHead (h : ℕ) (hh : h < 8) : Rect S1x8x64x128 := Rect.unit (s := S1x8x64x128) ![0, h, 0, 0] S1x1x64x128.size (inb_vhead h hh)
abbrev rX : Rect S512x1024 := Rect.unit (s := S512x1024) ![0, 0] S512x1024.size inb_S512x1024_S512x1024_0_0
abbrev rA : Rect S512x512 := Rect.unit (s := S512x512) ![0, 0] S512x512.size inb_S512x512_S512x512_0_0
abbrev rWoA : Rect S1024x1024 := Rect.unit (s := S1024x1024) ![0, 0] S512x1024.size inb_S1024x1024_S512x1024_0_0
abbrev rWoP : Rect S1024x1024 := Rect.unit (s := S1024x1024) ![512, 0] S512x1024.size inb_S1024x1024_S512x1024_512_0
abbrev rG : Rect S1x1024 := Rect.unit (s := S1x1024) ![0, 0] S1x1024.size inb_S1x1024_S1x1024_0_0
abbrev rQkv : Rect S512x96 := Rect.unit (s := S512x96) ![0, 0] S512x96.size inb_S512x96_S512x96_0_0
abbrev rLfn : Rect S1x8x1x1 := Rect.unit (s := S1x8x1x1) ![0, 0, 0, 0] S1x8x1x1.size inb_S1x8x1x1_S1x8x1x1_0_0_0_0
abbrev rSo : Rect S1x8x64x1 := Rect.unit (s := S1x8x64x1) ![0, 0, 0, 0] S1x8x64x1.size inb_S1x8x64x1_S1x8x64x1_0_0_0_0
abbrev rCols (c : ℕ) (hc : c + 512 ≤ 2816) : Rect S1024x2816 := Rect.unit (s := S1024x2816) ![0, c] S1024x512.size (inb_cols512 c hc)
abbrev rRows (c : ℕ) (hc : c + 512 ≤ 2816) : Rect S2816x1024 := Rect.unit (s := S2816x1024) ![c, 0] S512x1024.size (inb_rows512 c hc)
abbrev rCols' : Rect S1024x2816 := Rect.unit (s := S1024x2816) ![0, 2560] S1024x256.size inb_S1024x2816_S1024x256_0_2560
abbrev rRows' : Rect S2816x1024 := Rect.unit (s := S2816x1024) ![2560, 0] S256x1024.size inb_S2816x1024_S256x1024_2560_0

/-- Head `h`'s weighted values, the chunk folded in. -/
def headStep (M : Mems) (al : FVec F S8x1 .f32) (p : FVec F S8x2048 .f32) (h : Fin 8) : PP F PUnit := do
  let a ← ldv M.acc (rHead h.val h.isLt) h_S1x64x128
  let V ← collect 16 fun i => ldv (M.v i) (rVHead h.val h.isLt) h_S1x1x64x128
  let _ ← ldv (F := F) M.acc (rHead h.val h.isLt) h_S1x64x128
  stv M.acc (rHead h.val h.isLt) (shapeCast S1x64x128 (accs h.val h.isLt al p a V 16 (Nat.le_refl 16)) shapeCasts_S64x128_S1x64x128) h_S1x64x128 (fun _ => rfl)

/-- A chunk of sixteen pages folded into the attention state. -/
def chunk (M : Mems) : PP F PUnit := do
  let L ← collect 16 fun i => ldv (M.lf i) rLf h_S1x8x128
  let g ← ldv M.g rM h_S8x128
  let KQ ← collect 16 fun i => do
    let k ← ldv (M.k i) rK h_S1x8x64x128
    let q ← ldv M.qb rQ h_S8x64x128
    pure (k, q)
  let _ ← ldv (F := F) M.g rM h_S8x128
  stv M.g rM (shapeCast S8x128 (offs g (scan3 (pages L)) 16 (Nat.le_refl 16)) shapeCasts_S8x128_S8x128) h_S8x128 (fun _ => rfl)
  let m ← ldv M.m rM1 h_S8x1
  let l ← ldv M.l rM1 h_S8x1
  let _ ← ldv (F := F) M.m rM h_S8x128
  stv M.m rM (lanes (mNew m (beside fun i => score g (scan3 (pages L)) i.val i.isLt (KQ i).1 (KQ i).2))) h_S8x128 (fun _ => rfl)
  let _ ← ldv (F := F) M.l rM h_S8x128
  stv M.l rM (lanes (lNew (rescale m (mNew m (beside fun i => score g (scan3 (pages L)) i.val i.isLt (KQ i).1 (KQ i).2))) l
    (weights (mNew m (beside fun i => score g (scan3 (pages L)) i.val i.isLt (KQ i).1 (KQ i).2)) (beside fun i => score g (scan3 (pages L)) i.val i.isLt (KQ i).1 (KQ i).2)))) h_S8x128 (fun _ => rfl)
  inOrder 8 (headStep M (rescale m (mNew m (beside fun i => score g (scan3 (pages L)) i.val i.isLt (KQ i).1 (KQ i).2)))
    (weights (mNew m (beside fun i => score g (scan3 (pages L)) i.val i.isLt (KQ i).1 (KQ i).2)) (beside fun i => score g (scan3 (pages L)) i.val i.isLt (KQ i).1 (KQ i).2)))

/-- 512 hidden columns' part of the feed-forward output. -/
def ffnPart (M : Mems) (c : ℕ) (hc : c + 512 ≤ 2816) : PP F (FVec F S512x1024 .f32) := do
  let x ← ldv M.x1b rX h_S512x1024
  let wg ← ldv M.wg (rCols c hc) h_S1024x512
  let wu ← ldv M.wu (rCols c hc) h_S1024x512
  let wd ← ldv M.wd (rRows c hc) h_S512x1024
  pure (part512 x wg wu wd)

/-- The last 256 hidden columns' part. -/
def ffnLast (M : Mems) : PP F (FVec F S512x1024 .f32) := do
  let x ← ldv M.x1b rX h_S512x1024
  let wg ← ldv M.wg rCols' h_S1024x256
  let wu ← ldv M.wu rCols' h_S1024x256
  let wd ← ldv M.wd rRows' h_S256x1024
  pure (part256 x wg wu wd)

/-- The feed-forward output, begun. -/
def ffnSet (M : Mems) (z : FVec F S512x1024 .f32) : PP F PUnit := do
  let _ ← ldv (F := F) M.ffn rX h_S512x1024
  stv M.ffn rX (shapeCast S512x1024 z shapeCasts_S512x1024_S512x1024) h_S512x1024 (fun _ => rfl)

/-- A part of the feed-forward output, added. -/
def ffnAdd (M : Mems) (z : FVec F S512x1024 .f32) : PP F PUnit := do
  let f ← ldv M.ffn rX h_S512x1024
  let _ ← ldv (F := F) M.ffn rX h_S512x1024
  stv M.ffn rX (shapeCast S512x1024 (addf f z : FVec F S512x1024 .f32) shapeCasts_S512x1024_S512x1024) h_S512x1024 (fun _ => rfl)

/-- The attention state of a sequence, begun. -/
def start (M : Mems) (w : BitVec 32) : PP F PUnit := do
  let x ← ldv M.qkv rQkv h_S512x96
  let _ ← ldv (F := F) M.qb rQ h_S8x64x128
  stv M.qb rQ (queryLanes (column w x)) h_S8x64x128 (fun _ => rfl)
  let _ ← ldv (F := F) M.m rM h_S8x128
  stv M.m rM (constLanes 0xF149F2CA#32) h_S8x128 (fun _ => rfl)
  let _ ← ldv (F := F) M.l rM h_S8x128
  stv M.l rM (constLanes 0x00000000#32) h_S8x128 (fun _ => rfl)
  let _ ← ldv (F := F) M.acc rQ h_S8x64x128
  stv M.acc rQ zeroAcc h_S8x64x128 (fun _ => rfl)
  let _ ← ldv (F := F) M.g rM h_S8x128
  stv M.g rM (constLanes 0x00000000#32) h_S8x128 (fun _ => rfl)

/-- The output projection and the first layer norm of a prompt tile. -/
def mixNorm (M : Mems) : PP F PUnit := do
  let x ← ldv M.x rX h_S512x1024
  let a ← ldv M.a rA h_S512x512
  let wa ← ldv M.wo rWoA h_S512x1024
  let p ← ldv M.p rA h_S512x512
  let wp ← ldv M.wo rWoP h_S512x1024
  let g ← ldv M.g1 rG h_S1x1024
  let b ← ldv M.b1 rG h_S1x1024
  let _ ← ldv (F := F) M.x1 rX h_S512x1024
  stv M.x1 rX (shapeCast S512x1024 (layerNorm (residual (shapeCast S512x1024 x shapeCasts_S512x1024_S512x1024) (mix a wa p wp)) g b) shapeCasts_S512x1024_S512x1024) h_S512x1024 (fun _ => rfl)
  let _ ← ldv (F := F) M.x1b rX h_S512x1024
  Prog.lift (.store M.x1b rX (shapeCast S512x1024 (truncf .bf16 (layerNorm (residual (shapeCast S512x1024 x shapeCasts_S512x1024_S512x1024) (mix a wa p wp)) g b) bitsLt_bf16_f32 : FVec F S512x1024 .bf16) shapeCasts_S512x1024_S512x1024) Finset.univ
    (View.stores_vmem h_S512x1024 (M.hx1b.storeExact_slice rfl _ packedbf16_S512x1024_S512x1024_0_0) (fun _ => rfl)) (.inl rfl))

/-- The second layer norm of a prompt tile. -/
def finishTile (M : Mems) : PP F PUnit := do
  let x ← ldv M.x1 rX h_S512x1024
  let f ← ldv M.ffn rX h_S512x1024
  let g ← ldv M.g2 rG h_S1x1024
  let b ← ldv M.b2 rG h_S1x1024
  let _ ← ldv (F := F) M.y rX h_S512x1024
  stv M.y rX (layerNorm (residual x f) g b) h_S512x1024 (fun _ => rfl)

/-- The new token joined to the attention state, and the sequence's output. -/
def newToken (M : Mems) (w : BitVec 32) : PP F PUnit := do
  let xk ← ldv M.qkv rQkv h_S512x96
  let xv ← ldv M.qkv rQkv h_S512x96
  let g ← ldv M.g rM1 h_S8x1
  let lf ← ldv M.lfn rLfn h_S1x8x1x1
  let q ← ldv M.qb rQ1 h_S8x64x1
  let m ← ldv M.m rM1 h_S8x1
  let l ← ldv M.l rM1 h_S8x1
  let a ← ldv M.acc rQ h_S8x64x128
  let _ ← ldv (F := F) M.so rSo h_S1x8x64x1
  stv M.so rSo (tokOut (tokScore q (column (Scalar.addi 32#32 w) xk) g lf) (stack m) (stack l) a (column (Scalar.addi 64#32 w) xv)) h_S1x8x64x1 (fun _ => rfl)

end Cert.Finish

end
-- ==== Proof.Finish.Runs.lean ====
module

public import proofs.«01_k».proof.Proof.Finish.Prog
public import proofs.«01_k».proof.Proof.Gen.KernelIdeal.Launch
public import Idealize.ShloMosaic.Lib.Pipeline.FrameBody
public import Idealize.ShloMosaic.Lib.Tactic

/-! # Running a grid point's program over what its memrefs hold

`Runs σ p a σ'`: from memrefs holding `σ` the program `p` returns `a` and leaves them holding `σ'`. -/

@[expose] public section

set_option maxRecDepth 16384

noncomputable section

namespace Cert.Finish

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The assertions of the proof. -/
abbrev SP (F : FTy → Type) [FloatOps F] := sProp (MT nD τ sig Unit (Elt F) ℕ (UR sig nD τ) ℕ)

/-- What every memref of a grid point holds. -/
structure St (F : FTy → Type) [FloatOps F] where
  x : Vec F S512x1024 .f32
  a : Vec F S512x512 .bf16
  p : Vec F S512x512 .bf16
  wo : Vec F S1024x1024 .bf16
  g1 : Vec F S1x1024 .f32
  b1 : Vec F S1x1024 .f32
  wg : Vec F S1024x2816 .bf16
  wu : Vec F S1024x2816 .bf16
  wd : Vec F S2816x1024 .bf16
  g2 : Vec F S1x1024 .f32
  b2 : Vec F S1x1024 .f32
  qkv : Vec F S512x96 .f32
  lfn : Vec F S1x8x1x1 .f32
  k : Fin 16 → Vec F S1x8x64x128 .f32
  v : Fin 16 → Vec F S1x8x64x128 .f32
  lf : Fin 16 → Vec F S1x8x128 .f32
  y : Vec F S512x1024 .f32
  so : Vec F S1x8x64x1 .f32
  x1 : Vec F S512x1024 .f32
  x1b : Vec F S512x1024 .bf16
  ffn : Vec F S512x1024 .f32
  qb : Vec F S8x64x128 .f32
  m : Vec F S8x128 .f32
  l : Vec F S8x128 .f32
  acc : Vec F S8x64x128 .f32
  g : Vec F S8x128 .f32

/-- The memrefs hold `σ`. -/
def Own (c : Dev nD) (M : Mems) (σ : St F) : SP F :=
  iprop(owns (c : Thread nD τ) M.x fullShare σ.x
    ∗ owns (c : Thread nD τ) M.a fullShare σ.a
    ∗ owns (c : Thread nD τ) M.p fullShare σ.p
    ∗ owns (c : Thread nD τ) M.wo fullShare σ.wo
    ∗ owns (c : Thread nD τ) M.g1 fullShare σ.g1
    ∗ owns (c : Thread nD τ) M.b1 fullShare σ.b1
    ∗ owns (c : Thread nD τ) M.wg fullShare σ.wg
    ∗ owns (c : Thread nD τ) M.wu fullShare σ.wu
    ∗ owns (c : Thread nD τ) M.wd fullShare σ.wd
    ∗ owns (c : Thread nD τ) M.g2 fullShare σ.g2
    ∗ owns (c : Thread nD τ) M.b2 fullShare σ.b2
    ∗ owns (c : Thread nD τ) M.qkv fullShare σ.qkv
    ∗ owns (c : Thread nD τ) M.lfn fullShare σ.lfn
    ∗ (bigSep Finset.univ fun i : Fin 16 => owns (c : Thread nD τ) (M.k i) fullShare (σ.k i))
    ∗ (bigSep Finset.univ fun i : Fin 16 => owns (c : Thread nD τ) (M.v i) fullShare (σ.v i))
    ∗ (bigSep Finset.univ fun i : Fin 16 => owns (c : Thread nD τ) (M.lf i) fullShare (σ.lf i))
    ∗ owns (c : Thread nD τ) M.y fullShare σ.y
    ∗ owns (c : Thread nD τ) M.so fullShare σ.so
    ∗ owns (c : Thread nD τ) M.x1 fullShare σ.x1
    ∗ owns (c : Thread nD τ) M.x1b fullShare σ.x1b
    ∗ owns (c : Thread nD τ) M.ffn fullShare σ.ffn
    ∗ owns (c : Thread nD τ) M.qb fullShare σ.qb
    ∗ owns (c : Thread nD τ) M.m fullShare σ.m
    ∗ owns (c : Thread nD τ) M.l fullShare σ.l
    ∗ owns (c : Thread nD τ) M.acc fullShare σ.acc
    ∗ owns (c : Thread nD τ) M.g fullShare σ.g)

section Focus

variable {P P' A A' R R' : SP F}

theorem last_ : A ⊢ iprop(A ∗ (A' -∗ A')) := by
  iintro H
  isplitl [H]; · iexact H
  iintro H'; iexact H'

theorem here : iprop(A ∗ R) ⊢ iprop(A ∗ (A' -∗ A' ∗ R)) := by
  iintro ⟨H, HR⟩
  isplitl [H]; · iexact H
  iintro H'
  isplitl [H']; · iexact H'
  iexact HR

theorem there (h : R ⊢ iprop(A ∗ (A' -∗ R'))) : iprop(P ∗ R) ⊢ iprop(A ∗ (A' -∗ P ∗ R')) := by
  iintro ⟨HP, HR⟩
  ihave HR' := h $$ HR
  icases HR' with ⟨HA, HW⟩
  isplitl [HA]; · iexact HA
  iintro HA'
  isplitl [HP]; · iexact HP
  iapply HW; iexact HA'

theorem inside (h : P ⊢ iprop(A ∗ (A -∗ P))) : iprop(P ∗ R) ⊢ iprop(A ∗ (A -∗ P ∗ R)) := by
  iintro ⟨HP, HR⟩
  ihave HP' := h $$ HP
  icases HP' with ⟨HA, HW⟩
  isplitl [HA]; · iexact HA
  iintro HA'
  isplitl [HA' HW]; · iapply HW; iexact HA'
  iexact HR

theorem oneOf {n : ℕ} (Φ : Fin n → SP F) (i : Fin n) : bigSep Finset.univ Φ ⊢ iprop(Φ i ∗ (Φ i -∗ bigSep Finset.univ Φ)) := by
  rw [show bigSep Finset.univ Φ = iprop(Φ i ∗ bigSep (Finset.univ.erase i) Φ) from BI.bigSep_univ_split i]
  exact here

end Focus

section Foc

variable (c : Dev nD) (M : Mems) (σ : St F)

theorem foc_x (Y : Vec F S512x1024 .f32) : Own c M σ ⊢ iprop(owns (c : Thread nD τ) M.x fullShare σ.x ∗ (owns (c : Thread nD τ) M.x fullShare Y -∗ Own c M { σ with x := Y })) :=
  here

theorem foc_a (Y : Vec F S512x512 .bf16) : Own c M σ ⊢ iprop(owns (c : Thread nD τ) M.a fullShare σ.a ∗ (owns (c : Thread nD τ) M.a fullShare Y -∗ Own c M { σ with a := Y })) :=
  there here

theorem foc_p (Y : Vec F S512x512 .bf16) : Own c M σ ⊢ iprop(owns (c : Thread nD τ) M.p fullShare σ.p ∗ (owns (c : Thread nD τ) M.p fullShare Y -∗ Own c M { σ with p := Y })) :=
  there (there here)

theorem foc_wo (Y : Vec F S1024x1024 .bf16) : Own c M σ ⊢ iprop(owns (c : Thread nD τ) M.wo fullShare σ.wo ∗ (owns (c : Thread nD τ) M.wo fullShare Y -∗ Own c M { σ with wo := Y })) :=
  there (there (there here))

theorem foc_g1 (Y : Vec F S1x1024 .f32) : Own c M σ ⊢ iprop(owns (c : Thread nD τ) M.g1 fullShare σ.g1 ∗ (owns (c : Thread nD τ) M.g1 fullShare Y -∗ Own c M { σ with g1 := Y })) :=
  there (there (there (there here)))

theorem foc_b1 (Y : Vec F S1x1024 .f32) : Own c M σ ⊢ iprop(owns (c : Thread nD τ) M.b1 fullShare σ.b1 ∗ (owns (c : Thread nD τ) M.b1 fullShare Y -∗ Own c M { σ with b1 := Y })) :=
  there (there (there (there (there here))))

theorem foc_wg (Y : Vec F S1024x2816 .bf16) : Own c M σ ⊢ iprop(owns (c : Thread nD τ) M.wg fullShare σ.wg ∗ (owns (c : Thread nD τ) M.wg fullShare Y -∗ Own c M { σ with wg := Y })) :=
  there (there (there (there (there (there here)))))

theorem foc_wu (Y : Vec F S1024x2816 .bf16) : Own c M σ ⊢ iprop(owns (c : Thread nD τ) M.wu fullShare σ.wu ∗ (owns (c : Thread nD τ) M.wu fullShare Y -∗ Own c M { σ with wu := Y })) :=
  there (there (there (there (there (there (there here))))))

theorem foc_wd (Y : Vec F S2816x1024 .bf16) : Own c M σ ⊢ iprop(owns (c : Thread nD τ) M.wd fullShare σ.wd ∗ (owns (c : Thread nD τ) M.wd fullShare Y -∗ Own c M { σ with wd := Y })) :=
  there (there (there (there (there (there (there (there here)))))))

theorem foc_g2 (Y : Vec F S1x1024 .f32) : Own c M σ ⊢ iprop(owns (c : Thread nD τ) M.g2 fullShare σ.g2 ∗ (owns (c : Thread nD τ) M.g2 fullShare Y -∗ Own c M { σ with g2 := Y })) :=
  there (there (there (there (there (there (there (there (there here))))))))

theorem foc_b2 (Y : Vec F S1x1024 .f32) : Own c M σ ⊢ iprop(owns (c : Thread nD τ) M.b2 fullShare σ.b2 ∗ (owns (c : Thread nD τ) M.b2 fullShare Y -∗ Own c M { σ with b2 := Y })) :=
  there (there (there (there (there (there (there (there (there (there here)))))))))

theorem foc_qkv (Y : Vec F S512x96 .f32) : Own c M σ ⊢ iprop(owns (c : Thread nD τ) M.qkv fullShare σ.qkv ∗ (owns (c : Thread nD τ) M.qkv fullShare Y -∗ Own c M { σ with qkv := Y })) :=
  there (there (there (there (there (there (there (there (there (there (there here))))))))))

theorem foc_lfn (Y : Vec F S1x8x1x1 .f32) : Own c M σ ⊢ iprop(owns (c : Thread nD τ) M.lfn fullShare σ.lfn ∗ (owns (c : Thread nD τ) M.lfn fullShare Y -∗ Own c M { σ with lfn := Y })) :=
  there (there (there (there (there (there (there (there (there (there (there (there here)))))))))))

theorem foc_k (i : Fin 16) : Own c M σ ⊢ iprop(owns (c : Thread nD τ) (M.k i) fullShare (σ.k i) ∗ (owns (c : Thread nD τ) (M.k i) fullShare (σ.k i) -∗ Own c M σ)) :=
  there (there (there (there (there (there (there (there (there (there (there (there (there (inside (oneOf _ i))))))))))))))

theorem foc_v (i : Fin 16) : Own c M σ ⊢ iprop(owns (c : Thread nD τ) (M.v i) fullShare (σ.v i) ∗ (owns (c : Thread nD τ) (M.v i) fullShare (σ.v i) -∗ Own c M σ)) :=
  there (there (there (there (there (there (there (there (there (there (there (there (there (there (inside (oneOf _ i)))))))))))))))

theorem foc_lf (i : Fin 16) : Own c M σ ⊢ iprop(owns (c : Thread nD τ) (M.lf i) fullShare (σ.lf i) ∗ (owns (c : Thread nD τ) (M.lf i) fullShare (σ.lf i) -∗ Own c M σ)) :=
  there (there (there (there (there (there (there (there (there (there (there (there (there (there (there (inside (oneOf _ i))))))))))))))))

theorem foc_y (Y : Vec F S512x1024 .f32) : Own c M σ ⊢ iprop(owns (c : Thread nD τ) M.y fullShare σ.y ∗ (owns (c : Thread nD τ) M.y fullShare Y -∗ Own c M { σ with y := Y })) :=
  there (there (there (there (there (there (there (there (there (there (there (there (there (there (there (there here)))))))))))))))

theorem foc_so (Y : Vec F S1x8x64x1 .f32) : Own c M σ ⊢ iprop(owns (c : Thread nD τ) M.so fullShare σ.so ∗ (owns (c : Thread nD τ) M.so fullShare Y -∗ Own c M { σ with so := Y })) :=
  there (there (there (there (there (there (there (there (there (there (there (there (there (there (there (there (there here))))))))))))))))

theorem foc_x1 (Y : Vec F S512x1024 .f32) : Own c M σ ⊢ iprop(owns (c : Thread nD τ) M.x1 fullShare σ.x1 ∗ (owns (c : Thread nD τ) M.x1 fullShare Y -∗ Own c M { σ with x1 := Y })) :=
  there (there (there (there (there (there (there (there (there (there (there (there (there (there (there (there (there (there here)))))))))))))))))

theorem foc_x1b (Y : Vec F S512x1024 .bf16) : Own c M σ ⊢ iprop(owns (c : Thread nD τ) M.x1b fullShare σ.x1b ∗ (owns (c : Thread nD τ) M.x1b fullShare Y -∗ Own c M { σ with x1b := Y })) :=
  there (there (there (there (there (there (there (there (there (there (there (there (there (there (there (there (there (there (there here))))))))))))))))))

theorem foc_ffn (Y : Vec F S512x1024 .f32) : Own c M σ ⊢ iprop(owns (c : Thread nD τ) M.ffn fullShare σ.ffn ∗ (owns (c : Thread nD τ) M.ffn fullShare Y -∗ Own c M { σ with ffn := Y })) :=
  there (there (there (there (there (there (there (there (there (there (there (there (there (there (there (there (there (there (there (there here)))))))))))))))))))

theorem foc_qb (Y : Vec F S8x64x128 .f32) : Own c M σ ⊢ iprop(owns (c : Thread nD τ) M.qb fullShare σ.qb ∗ (owns (c : Thread nD τ) M.qb fullShare Y -∗ Own c M { σ with qb := Y })) :=
  there (there (there (there (there (there (there (there (there (there (there (there (there (there (there (there (there (there (there (there (there here))))))))))))))))))))

theorem foc_m (Y : Vec F S8x128 .f32) : Own c M σ ⊢ iprop(owns (c : Thread nD τ) M.m fullShare σ.m ∗ (owns (c : Thread nD τ) M.m fullShare Y -∗ Own c M { σ with m := Y })) :=
  there (there (there (there (there (there (there (there (there (there (there (there (there (there (there (there (there (there (there (there (there (there here)))))))))))))))))))))

theorem foc_l (Y : Vec F S8x128 .f32) : Own c M σ ⊢ iprop(owns (c : Thread nD τ) M.l fullShare σ.l ∗ (owns (c : Thread nD τ) M.l fullShare Y -∗ Own c M { σ with l := Y })) :=
  there (there (there (there (there (there (there (there (there (there (there (there (there (there (there (there (there (there (there (there (there (there (there here))))))))))))))))))))))

theorem foc_acc (Y : Vec F S8x64x128 .f32) : Own c M σ ⊢ iprop(owns (c : Thread nD τ) M.acc fullShare σ.acc ∗ (owns (c : Thread nD τ) M.acc fullShare Y -∗ Own c M { σ with acc := Y })) :=
  there (there (there (there (there (there (there (there (there (there (there (there (there (there (there (there (there (there (there (there (there (there (there (there here)))))))))))))))))))))))

theorem foc_g (Y : Vec F S8x128 .f32) : Own c M σ ⊢ iprop(owns (c : Thread nD τ) M.g fullShare σ.g ∗ (owns (c : Thread nD τ) M.g fullShare Y -∗ Own c M { σ with g := Y })) :=
  there (there (there (there (there (there (there (there (there (there (there (there (there (there (there (there (there (there (there (there (there (there (there (there (there last_))))))))))))))))))))))))

end Foc

theorem read_slice_write {sh : Shape} {e : EltTy} {sp : Space} (m : Memref sig .tc sp sh e) (r : Rect sh) (f : m.view.ty.Contents (Elt F)) (w : r.shape.Idx → Elt F e) :
    m.view.read (Elt F) ((m.access r).write (Elt F) f w Finset.univ) = r.overlay (m.view.read (Elt F) f) w := by
  funext j
  by_cases hj : j ∈ r.set
  · obtain ⟨i, rfl⟩ := r.exists_idx_of_mem hj
    change _ = r.overlay _ w (r.emb i)
    rw [Rect.overlay_emb]
    exact View.read_slice_write_emb r f w (Finset.mem_univ i)
  · rw [Rect.overlay_of_not_mem _ _ _ hj]
    exact View.read_slice_write_of_not_mem r f w Finset.univ (by rw [Rect.map_emb_univ]; exact hj)

/-- The rule for running a program at the start of the machine's own. -/
abbrev WP (c : Dev nD) {α : Type} (p : PP F α) (Q : α → SP F) : SP F :=
  wp frame (wpE (defs₀ (F := F)) Variants.none (c : Thread nD τ) none) Set.univ p Q

theorem wp_read (c : Dev nD) {s : Shape} {e : EltTy} (m : Memref sig .tc .vmem s e) (r : Rect s) {hl : m.view.LoadsAt r.toLoadRect}
    (q : PosShare TreeShare) (X : s.Idx → Elt F e) (Q : (r.shape.Idx → Elt F e) → SP F) :
    iprop(owns (c : Thread nD τ) m q X ∗ (owns (c : Thread nD τ) m q X -∗ Q (fun i => X (r.emb i))))
      ⊢ WP c (Prog.lift (.load m r.toLoadRect hl)) Q := by
  iintro ⟨H, HQ⟩
  ihave H' := (show owns (c : Thread nD τ) m q X ⊢ iprop(∃ g, ⌜m.view.read (Elt F) g = X⌝ ∗ m.view.loc (c : Thread nD τ) ↦[m.view.set]{q} g) from .rfl) $$ H
  icases H' with ⟨%g, %hg, H⟩
  ihave H' := (wp_load_rect (defs := defs₀ (F := F)) Variants.none (c : Thread nD τ) none (Γ := .empty) Set.univ (m := m) (r := r) (hl := hl) (Q := Q) (k := fun x => .ret x)
    (S := m.view.set) (q := q) (f := g) (m.view.set_slice_subset r)) $$ H
  iapply H'
  iintro H
  iapply (le_wp_ret frame (wpE (defs₀ (F := F)) Variants.none (c : Thread nD τ) none) Set.univ _ Q)
  have hx : (m.access r).read (Elt F) g = fun i => X (r.emb i) := by subst hg; rfl
  rw [hx]
  iapply HQ
  have ho : (m.view.loc (c : Thread nD τ) ↦[m.view.set]{q} g : SP F) ⊢ owns (c : Thread nD τ) m q X := by
    rw [← hg]; exact owns_intro (c : Thread nD τ) m q g
  iapply ho
  iexact H

theorem wp_write (c : Dev nD) {s : Shape} {e : EltTy} (m : Memref sig .tc .vmem s e) (r : Rect s) (w : r.shape.Idx → Elt F e)
    {hx : (m.access r).Stores Finset.univ} {hm : (Finset.univ : Finset r.shape.Idx) = Finset.univ ∨ ∀ a, r.stride a = 1}
    (X : s.Idx → Elt F e) (Q : PUnit → SP F) :
    iprop(owns (c : Thread nD τ) m fullShare X ∗ (owns (c : Thread nD τ) m fullShare (r.overlay X w) -∗ Q ⟨⟩))
      ⊢ WP c (Prog.lift (.store m r w Finset.univ hx hm)) Q := by
  iintro ⟨H, HQ⟩
  ihave H' := (show owns (c : Thread nD τ) m fullShare X ⊢ iprop(∃ g, ⌜m.view.read (Elt F) g = X⌝ ∗ m.view.loc (c : Thread nD τ) ↦[m.view.set]{fullShare} g) from .rfl) $$ H
  icases H' with ⟨%g, %hg, H⟩
  ihave H' := (wp_store (defs := defs₀ (F := F)) Variants.none (c : Thread nD τ) none (Γ := .empty) Set.univ (m := m) (r := r) (w := w) (Mk := Finset.univ) (hx := hx) (hm := hm) (Q := Q) (k := fun x => .ret x)
    (S := m.view.set) (f := g) (by rw [View.setOn_univ]; exact m.view.set_slice_subset r)) $$ H
  iapply H'
  iintro H
  iapply (le_wp_ret frame (wpE (defs₀ (F := F)) Variants.none (c : Thread nD τ) none) Set.univ _ Q)
  iapply HQ
  have ho : (m.view.loc (c : Thread nD τ) ↦[m.view.set]{fullShare} ((m.access r).write (Elt F) g w Finset.univ) : SP F)
      ⊢ owns (c : Thread nD τ) m fullShare (r.overlay X w) := by
    rw [← hg, ← read_slice_write m r g w]; exact owns_intro (c : Thread nD τ) m fullShare _
  iapply ho
  iexact H

/-- From `σ` the program returns `a` and leaves `σ'`. -/
def Runs (c : Dev nD) (M : Mems) (σ : St F) {α : Type} (p : PP F α) (a : α) (σ' : St F) : Prop :=
  ∀ Q : α → SP F, iprop(Own c M σ ∗ (Own c M σ' -∗ Q a)) ⊢ WP c p Q

namespace Runs

variable {c : Dev nD} {M : Mems} {σ σ' σ'' : St F} {α β : Type}

theorem ret (a : α) : Runs c M σ (pure a) a σ := fun Q => by
  iintro ⟨H, HQ⟩
  iapply (le_wp_ret frame (wpE (defs₀ (F := F)) Variants.none (c : Thread nD τ) none) Set.univ a Q)
  iapply HQ; iexact H

theorem bind {p : PP F α} {k : α → PP F β} {a : α} {b : β} (h : Runs c M σ p a σ') (h' : Runs c M σ' (k a) b σ'') :
    Runs c M σ (p >>= k) b σ'' := fun Q => by
  refine BIBase.Entails.trans ?_ (Entails.of_eq (wp_bind frame (wpE (defs₀ (F := F)) Variants.none (c : Thread nD τ) none) Set.univ p k Q).symm)
  iintro ⟨H, HQ⟩
  have hp := h (fun a => WP c (k a) Q)
  have hk := h' Q
  iapply hp
  isplitl [H]; · iexact H
  iintro H
  iapply hk
  isplitl [H]; · iexact H
  iexact HQ

theorem load {s : Shape} {e : EltTy} {m : Memref sig .tc .vmem s e} {r : Rect s} {h : 0 < r.shape.numel} {X : s.Idx → Elt F e}
    (hf : Own c M σ ⊢ iprop(owns (c : Thread nD τ) m fullShare X ∗ (owns (c : Thread nD τ) m fullShare X -∗ Own c M σ))) :
    Runs c M σ (ldv m r h) (fun i => X (r.emb i)) σ := fun Q => by
  refine BIBase.Entails.trans ?_ (wp_read c m r fullShare X Q)
  iintro ⟨H, HQ⟩
  ihave H' := hf $$ H
  icases H' with ⟨HX, HW⟩
  isplitl [HX]; · iexact HX
  iintro HX
  iapply HQ; iapply HW; iexact HX

theorem store {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1} {X : s.Idx → Elt F e}
    (hf : Own c M σ ⊢ iprop(owns (c : Thread nD τ) m fullShare X ∗ (owns (c : Thread nD τ) m fullShare (r.overlay X w) -∗ Own c M σ'))) :
    Runs c M σ (Prog.lift (.store m r w Finset.univ hx hm)) ⟨⟩ σ' := fun Q => by
  refine BIBase.Entails.trans ?_ (wp_write c m r w X Q)
  iintro ⟨H, HQ⟩
  ihave H' := hf $$ H
  icases H' with ⟨HX, HW⟩
  isplitl [HX]; · iexact HX
  iintro HX
  iapply HQ; iapply HW; iexact HX

end Runs

theorem unit_emb {s : Shape} {off : Fin s.rank → ℕ} (h0 : ∀ a, off a = 0) (inb : ∀ a, off a + s.size a ≤ s.size a) (i : s.Idx) :
    (Rect.unit (s := s) off s.size inb).emb i = i := by
  funext a
  apply Fin.ext
  show off a + 1 * (i a).val = (i a).val
  rw [h0 a, one_mul, zero_add]

theorem overlay_whole {s : Shape} {α : Type} {off : Fin s.rank → ℕ} (h0 : ∀ a, off a = 0) (inb : ∀ a, off a + s.size a ≤ s.size a) (X w : s.Idx → α) :
    (Rect.unit (s := s) off s.size inb).overlay X w = w := by
  funext j
  have h := Rect.overlay_emb (Rect.unit (s := s) off s.size inb) X w j
  rwa [unit_emb h0] at h

theorem zero2 : ∀ a, (![0, 0] : Fin 2 → ℕ) a = 0 := by decide
theorem zero3 : ∀ a, (![0, 0, 0] : Fin 3 → ℕ) a = 0 := by decide
theorem zero4 : ∀ a, (![0, 0, 0, 0] : Fin 4 → ℕ) a = 0 := by decide

namespace Runs

variable {c : Dev nD} {M : Mems} {σ σ' σ'' : St F} {α β : Type}

theorem loadW {s : Shape} {e : EltTy} {m : Memref sig .tc .vmem s e} {off : Fin s.rank → ℕ} (h0 : ∀ a, off a = 0) {inb : ∀ a, off a + s.size a ≤ s.size a}
    {h : 0 < (Rect.unit (s := s) off s.size inb).shape.numel} {X : s.Idx → Elt F e}
    (hf : Own c M σ ⊢ iprop(owns (c : Thread nD τ) m fullShare X ∗ (owns (c : Thread nD τ) m fullShare X -∗ Own c M σ))) :
    Runs c M σ (ldv m (Rect.unit (s := s) off s.size inb) h) X σ := by
  have h' := Runs.load (r := Rect.unit (s := s) off s.size inb) (h := h) hf
  have e : (fun i => X ((Rect.unit (s := s) off s.size inb).emb i)) = X := funext fun i => congrArg X (unit_emb h0 inb i)
  rwa [e] at h'

theorem storeW {s : Shape} {e : EltTy} {m : Memref sig .tc .vmem s e} {off : Fin s.rank → ℕ} (h0 : ∀ a, off a = 0) {inb : ∀ a, off a + s.size a ≤ s.size a}
    {w : s.Idx → Elt F e}
    {hx : (m.access (Rect.unit (s := s) off s.size inb)).Stores Finset.univ}
    {hm : (Finset.univ : Finset (Rect.unit (s := s) off s.size inb).shape.Idx) = Finset.univ ∨ ∀ a, (Rect.unit (s := s) off s.size inb).stride a = 1} {X : s.Idx → Elt F e}
    (hf : Own c M σ ⊢ iprop(owns (c : Thread nD τ) m fullShare X ∗ (owns (c : Thread nD τ) m fullShare w -∗ Own c M σ'))) :
    Runs c M σ (Prog.lift (.store m (Rect.unit (s := s) off s.size inb) w Finset.univ hx hm)) ⟨⟩ σ' :=
  Runs.store (X := X) (by rw [overlay_whole h0]; exact hf)

theorem collect {n : ℕ} {f : Fin n → PP F α} {g : Fin n → α} (h : ∀ i, Runs c M σ (f i) (g i) σ) : Runs c M σ (Cert.Finish.collect n f) g σ := by
  induction n with
  | zero => rw [show g = Fin.elim0 from funext fun i => i.elim0]; exact ret _
  | succ n ih =>
    have e : g = Fin.cons (g 0) (fun i => g i.succ) := (Fin.cons_self_tail g).symm
    rw [e]
    exact bind (h 0) (bind (ih fun i => h i.succ) (ret _))

theorem inOrder {n : ℕ} {f : Fin n → PP F PUnit} (s : ℕ → St F) (h : ∀ i : Fin n, Runs c M (s i.val) (f i) ⟨⟩ (s (i.val + 1))) :
    Runs c M (s 0) (Cert.Finish.inOrder n f) ⟨⟩ (s n) := by
  induction n generalizing s with
  | zero => exact ret _
  | succ n ih => exact bind (h 0) (ih (fun k => s (k + 1)) fun i => h i.succ)

end Runs

end Cert.Finish

end
-- ==== Proof.Finish.ProgEq.lean ====
module

public import proofs.«01_k».proof.Proof.Finish.Prog
public import Idealize.ShloMosaic.Lib.Pipeline.Regions

/-! # The printed body is the structured program -/

@[expose] public section

set_option maxRecDepth 65536

noncomputable section

namespace Cert.Finish

open Idealize.ShloMosaic Idealize.ShloMosaic.TcCoe Idealize.SL.Sem
open Cert.KernelIdeal Cert.KernelIdeal.Facts₀ Cert.KernelIdeal.Facts

variable {F : FTy → Type} [FloatOps F]

/-- The chunk's number in its sequence: the grid coordinate's remainder by eight. -/
def chunkW (i : grid0.Coords) : BitVec 32 :=
  have a : BitVec 32 := BitVec.ofNat 32 (i 0).val
  have n : BitVec 32 := Scalar.select (Scalar.cmpi .eq 8#32 0#32) 1#32 8#32
  have r : BitVec 32 := Scalar.remsi a n
  Scalar.select (Scalar.andi (Scalar.xori (Scalar.cmpi .slt r 0#32) (Scalar.cmpi .slt n 0#32)) (Scalar.cmpi .ne r 0#32)) (Scalar.addi r n) r

/-- The sequence's number: the grid coordinate divided by eight. -/
def seqW (i : grid0.Coords) : BitVec 32 :=
  have a : BitVec 32 := BitVec.ofNat 32 (i 0).val
  have q : BitVec 32 := Scalar.divsi a 8#32
  have s : BitVec 32 := Scalar.subi (Scalar.extui (Scalar.cmpi .sgt a 0#32)) (Scalar.extui (Scalar.cmpi .slt a 0#32))
  have u : BitVec 32 := Scalar.subi (Scalar.extui (Scalar.cmpi .sgt 8#32 0#32)) (Scalar.extui (Scalar.cmpi .slt 8#32 0#32))
  Scalar.select (Scalar.andi (Scalar.cmpi .ne s u) (Scalar.cmpi .ne (Scalar.remsi a 8#32) 0#32)) (Scalar.subi q 1#32) q

/-- Whether the chunk is its sequence's first. -/
def startB (i : grid0.Coords) : BitVec 1 := Scalar.cmpi .ne (Scalar.extui (Scalar.cmpi .eq (chunkW i) 0#32) : BitVec 32) 0#32

/-- One grid point's body, given the step of a tile's first point. -/
def bodyOf (i : grid0.Coords) (M : Mems) (b0 : PP F PUnit) : PP F PUnit := do
  if h1 : k0_cond1 i = 1#1 then do
    if h2 : k0_cond2 i = 1#1 then do
      if h3 : k0_cond3 i = 1#1 then do
        chunk (F := F) M
        let z ← ffnPart M 2048 (by omega)
        ffnAdd (F := F) M z
        let z ← ffnLast M
        ffnAdd (F := F) M z
        finishTile (F := F) M
        if h4 : k0_cond4 i = 1#1 then do
          newToken (F := F) M (seqW i)
          pure ⟨⟩
        else do
          pure ⟨⟩
        pure ⟨⟩
      else do
        chunk (F := F) M
        let z ← ffnPart M 1024 (by omega)
        ffnAdd (F := F) M z
        let z ← ffnPart M 1536 (by omega)
        ffnAdd (F := F) M z
        pure ⟨⟩
      pure ⟨⟩
    else do
      chunk (F := F) M
      let z ← ffnPart M 0 (by omega)
      ffnSet (F := F) M z
      let z ← ffnPart M 512 (by omega)
      ffnAdd (F := F) M z
      pure ⟨⟩
    pure ⟨⟩
  else b0

/-- A tile's first point: at a sequence's first chunk the attention state is begun. -/
def first (i : grid0.Coords) (M : Mems) : PP F PUnit :=
  if startB i = 1#1 then do
    start (F := F) M (seqW i)
    chunk (F := F) M
    mixNorm (F := F) M
  else do
    chunk (F := F) M
    mixNorm (F := F) M

def body (i : grid0.Coords) (M : Mems) : PP F PUnit := bodyOf i M (first i M)

theorem first_eq (i : grid0.Coords) (arg1 : Memref sig .tc .smem S32x128 .i32) (harg1 : arg1.IsWhole) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x96 .f32) (harg13 : arg13.IsWhole) (arg14 : Memref sig .tc .vmem S1x8x1x1 .f32) (harg14 : arg14.IsWhole) (arg15 : Memref sig .tc .vmem S1x8x64x128 .f32) (harg15 : arg15.IsWhole) (arg16 : Memref sig .tc .vmem S1x8x64x128 .f32) (harg16 : arg16.IsWhole) (arg17 : Memref sig .tc .vmem S1x8x64x128 .f32) (harg17 : arg17.IsWhole) (arg18 : Memref sig .tc .vmem S1x8x64x128 .f32) (harg18 : arg18.IsWhole) (arg19 : Memref sig .tc .vmem S1x8x64x128 .f32) (harg19 : arg19.IsWhole) (arg20 : Memref sig .tc .vmem S1x8x64x128 .f32) (harg20 : arg20.IsWhole) (arg21 : Memref sig .tc .vmem S1x8x64x128 .f32) (harg21 : arg21.IsWhole) (arg22 : Memref sig .tc .vmem S1x8x64x128 .f32) (harg22 : arg22.IsWhole) (arg23 : Memref sig .tc .vmem S1x8x64x128 .f32) (harg23 : arg23.IsWhole) (arg24 : Memref sig .tc .vmem S1x8x64x128 .f32) (harg24 : arg24.IsWhole) (arg25 : Memref sig .tc .vmem S1x8x64x128 .f32) (harg25 : arg25.IsWhole) (arg26 : Memref sig .tc .vmem S1x8x64x128 .f32) (harg26 : arg26.IsWhole) (arg27 : Memref sig .tc .vmem S1x8x64x128 .f32) (harg27 : arg27.IsWhole) (arg28 : Memref sig .tc .vmem S1x8x64x128 .f32) (harg28 : arg28.IsWhole) (arg29 : Memref sig .tc .vmem S1x8x64x128 .f32) (harg29 : arg29.IsWhole) (arg30 : Memref sig .tc .vmem S1x8x64x128 .f32) (harg30 : arg30.IsWhole) (arg31 : Memref sig .tc .vmem S1x8x64x128 .f32) (harg31 : arg31.IsWhole) (arg32 : Memref sig .tc .vmem S1x8x64x128 .f32) (harg32 : arg32.IsWhole) (arg33 : Memref sig .tc .vmem S1x8x64x128 .f32) (harg33 : arg33.IsWhole) (arg34 : Memref sig .tc .vmem S1x8x64x128 .f32) (harg34 : arg34.IsWhole) (arg35 : Memref sig .tc .vmem S1x8x64x128 .f32) (harg35 : arg35.IsWhole) (arg36 : Memref sig .tc .vmem S1x8x64x128 .f32) (harg36 : arg36.IsWhole) (arg37 : Memref sig .tc .vmem S1x8x64x128 .f32) (harg37 : arg37.IsWhole) (arg38 : Memref sig .tc .vmem S1x8x64x128 .f32) (harg38 : arg38.IsWhole) (arg39 : Memref sig .tc .vmem S1x8x64x128 .f32) (harg39 : arg39.IsWhole) (arg40 : Memref sig .tc .vmem S1x8x64x128 .f32) (harg40 : arg40.IsWhole) (arg41 : Memref sig .tc .vmem S1x8x64x128 .f32) (harg41 : arg41.IsWhole) (arg42 : Memref sig .tc .vmem S1x8x64x128 .f32) (harg42 : arg42.IsWhole) (arg43 : Memref sig .tc .vmem S1x8x64x128 .f32) (harg43 : arg43.IsWhole) (arg44 : Memref sig .tc .vmem S1x8x64x128 .f32) (harg44 : arg44.IsWhole) (arg45 : Memref sig .tc .vmem S1x8x64x128 .f32) (harg45 : arg45.IsWhole) (arg46 : Memref sig .tc .vmem S1x8x64x128 .f32) (harg46 : arg46.IsWhole) (arg47 : Memref sig .tc .vmem S1x8x128 .f32) (harg47 : arg47.IsWhole) (arg48 : Memref sig .tc .vmem S1x8x128 .f32) (harg48 : arg48.IsWhole) (arg49 : Memref sig .tc .vmem S1x8x128 .f32) (harg49 : arg49.IsWhole) (arg50 : Memref sig .tc .vmem S1x8x128 .f32) (harg50 : arg50.IsWhole) (arg51 : Memref sig .tc .vmem S1x8x128 .f32) (harg51 : arg51.IsWhole) (arg52 : Memref sig .tc .vmem S1x8x128 .f32) (harg52 : arg52.IsWhole) (arg53 : Memref sig .tc .vmem S1x8x128 .f32) (harg53 : arg53.IsWhole) (arg54 : Memref sig .tc .vmem S1x8x128 .f32) (harg54 : arg54.IsWhole) (arg55 : Memref sig .tc .vmem S1x8x128 .f32) (harg55 : arg55.IsWhole) (arg56 : Memref sig .tc .vmem S1x8x128 .f32) (harg56 : arg56.IsWhole) (arg57 : Memref sig .tc .vmem S1x8x128 .f32) (harg57 : arg57.IsWhole) (arg58 : Memref sig .tc .vmem S1x8x128 .f32) (harg58 : arg58.IsWhole) (arg59 : Memref sig .tc .vmem S1x8x128 .f32) (harg59 : arg59.IsWhole) (arg60 : Memref sig .tc .vmem S1x8x128 .f32) (harg60 : arg60.IsWhole) (arg61 : Memref sig .tc .vmem S1x8x128 .f32) (harg61 : arg61.IsWhole) (arg62 : Memref sig .tc .vmem S1x8x128 .f32) (harg62 : arg62.IsWhole) (arg63 : Memref sig .tc .vmem S512x1024 .f32) (harg63 : arg63.IsWhole) (arg64 : Memref sig .tc .vmem S1x8x64x1 .f32) (harg64 : arg64.IsWhole) (arg65 : Memref sig .tc .vmem S512x1024 .f32) (harg65 : arg65.IsWhole) (arg66 : Memref sig .tc .vmem S512x1024 .bf16) (harg66 : arg66.IsWhole) (arg67 : Memref sig .tc .vmem S512x1024 .f32) (harg67 : arg67.IsWhole) (arg68 : Memref sig .tc .vmem S8x64x128 .f32) (harg68 : arg68.IsWhole) (arg69 : Memref sig .tc .vmem S8x128 .f32) (harg69 : arg69.IsWhole) (arg70 : Memref sig .tc .vmem S8x128 .f32) (harg70 : arg70.IsWhole) (arg71 : Memref sig .tc .vmem S8x64x128 .f32) (harg71 : arg71.IsWhole) (arg72 : Memref sig .tc .vmem S8x128 .f32) (harg72 : arg72.IsWhole) :
    (do
      let ⟨v44, v46, v48, v50, v52, v54, v56, v58, v60, v62, v63⟩ : Σ' (v44 : FVec F S8x128 .f32) (v46 : FVec F S8x128 .f32) (v48 : FVec F S8x128 .f32) (v50 : FVec F S8x128 .f32) (v52 : FVec F S8x128 .f32) (v54 : FVec F S8x128 .f32) (v56 : FVec F S8x128 .f32) (v58 : FVec F S8x128 .f32) (v60 : FVec F S8x128 .f32) (v62 : FVec F S8x128 .f32), Vec F S1x8x128 .f32 ← k0_part100 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 (chunkW i) (seqW i)
      let ⟨v97, v98⟩ : Σ' (v97 : FVec F S128x256 .f32), Vec F S8x128 .f32 ← k0_part101 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v44 v46 v48 v50 v52 v54 v56 v58 v60 v62 v63
      let ⟨v106, v116, v126, v128, v130⟩ : Σ' (v106 : FVec F S8x128 .f32) (v116 : FVec F S8x128 .f32) (v126 : FVec F S8x128 .f32) (v128 : FVec F S8x128 .f32), FVec F S8x64x128 .f32 ← k0_part102 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v97 v98
      let ⟨v136, v146, v156, v158, v163, v164⟩ : Σ' (v136 : FVec F S8x128 .f32) (v146 : FVec F S8x128 .f32) (v156 : FVec F S8x128 .f32) (v158 : FVec F S8x128 .f32) (v163 : FVec F S8x128 .f32), FVec F S8x128 .f32 ← k0_part103 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v97 v128 v130
      let ⟨v166, v176, v186, v196, v198⟩ : Σ' (v166 : FVec F S8x128 .f32) (v176 : FVec F S8x128 .f32) (v186 : FVec F S8x128 .f32) (v196 : FVec F S8x128 .f32), FVec F S8x128 .f32 ← k0_part104 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v97 v158 v163 v164
      let ⟨v206, v216, v226, v228, v230⟩ : Σ' (v206 : FVec F S8x128 .f32) (v216 : FVec F S8x128 .f32) (v226 : FVec F S8x128 .f32) (v228 : FVec F S8x128 .f32), FVec F S8x64x128 .f32 ← k0_part105 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v97 v198
      let ⟨v262, v263, v266⟩ : Σ' (v262 : FVec F S8x2048 .f32) (v263 : Vec F S8x1 .f32), FVec F S8x1 .f32 ← k0_part106 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v97 v106 v116 v126 v136 v146 v156 v166 v176 v186 v196 v206 v216 v226 v228 v230
      let ⟨v269, v271, v303, v304⟩ : Σ' (v269 : FVec F S8x2048 .f32) (v271 : FVec F S8x1 .f32) (v303 : FVec F S64x128 .f32), FVec F S1x128 .f32 ← k0_part107 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v262 v263 v266
      let ⟨v339, v340⟩ : Σ' (v339 : FVec F S64x128 .f32), FVec F S1x128 .f32 ← k0_part108 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v303 v304
      let ⟨v375, v376⟩ : Σ' (v375 : FVec F S64x128 .f32), FVec F S1x128 .f32 ← k0_part109 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v339 v340
      let ⟨v407, v410, v411⟩ : Σ' (v407 : FVec F S64x128 .f32) (v410 : FVec F S64x128 .f32), FVec F S64x128 .f32 ← k0_part110 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v271 v375 v376
      let ⟨v443, v446, v447⟩ : Σ' (v443 : FVec F S64x128 .f32) (v446 : FVec F S64x128 .f32), FVec F S64x128 .f32 ← k0_part111 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v407 v410 v411
      let ⟨v479, v482, v483⟩ : Σ' (v479 : FVec F S64x128 .f32) (v482 : FVec F S64x128 .f32), FVec F S64x128 .f32 ← k0_part112 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v443 v446 v447
      let ⟨v517, v518⟩ : Σ' (v517 : FVec F S64x128 .f32), FVec F S1x128 .f32 ← k0_part113 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v271 v479 v482 v483
      let ⟨v553, v554⟩ : Σ' (v553 : FVec F S64x128 .f32), FVec F S1x128 .f32 ← k0_part114 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v517 v518
      let ⟨v589, v590⟩ : Σ' (v589 : FVec F S64x128 .f32), FVec F S1x128 .f32 ← k0_part115 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v553 v554
      let ⟨v621, v624, v625⟩ : Σ' (v621 : FVec F S64x128 .f32) (v624 : FVec F S64x128 .f32), FVec F S64x128 .f32 ← k0_part116 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v271 v589 v590
      let ⟨v657, v660, v661⟩ : Σ' (v657 : FVec F S64x128 .f32) (v660 : FVec F S64x128 .f32), FVec F S64x128 .f32 ← k0_part117 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v621 v624 v625
      let ⟨v693, v696, v697⟩ : Σ' (v693 : FVec F S64x128 .f32) (v696 : FVec F S64x128 .f32), FVec F S64x128 .f32 ← k0_part118 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v657 v660 v661
      let ⟨v731, v732⟩ : Σ' (v731 : FVec F S64x128 .f32), FVec F S1x128 .f32 ← k0_part119 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v271 v693 v696 v697
      let ⟨v767, v768⟩ : Σ' (v767 : FVec F S64x128 .f32), FVec F S1x128 .f32 ← k0_part120 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v731 v732
      let v803 : FVec F S64x128 .f32 ← k0_part121 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v767 v768
      let ⟨v835, v838, v839⟩ : Σ' (v835 : FVec F S64x128 .f32) (v838 : FVec F S64x128 .f32), FVec F S64x128 .f32 ← k0_part122 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v271 v803
      let ⟨v871, v874, v875⟩ : Σ' (v871 : FVec F S64x128 .f32) (v874 : FVec F S64x128 .f32), FVec F S64x128 .f32 ← k0_part123 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v835 v838 v839
      let v911 : FVec F S1x1 .f32 ← k0_part124 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v271 v871 v874 v875
      let ⟨v945, v946⟩ : Σ' (v945 : FVec F S64x128 .f32), FVec F S1x128 .f32 ← k0_part125 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v911
      let ⟨v981, v982⟩ : Σ' (v981 : FVec F S64x128 .f32), FVec F S1x128 .f32 ← k0_part126 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v945 v946
      let ⟨v1015, v1017⟩ : Σ' (v1015 : FVec F S1x1 .f32), FVec F S64x128 .f32 ← k0_part127 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v271 v981 v982
      let ⟨v1049, v1052, v1053⟩ : Σ' (v1049 : FVec F S64x128 .f32) (v1052 : FVec F S64x128 .f32), FVec F S64x128 .f32 ← k0_part128 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v1015 v1017
      let ⟨v1085, v1088, v1089⟩ : Σ' (v1085 : FVec F S64x128 .f32) (v1088 : FVec F S64x128 .f32), FVec F S64x128 .f32 ← k0_part129 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v1049 v1052 v1053
      let ⟨v1120, v1122, v1123⟩ : Σ' (v1120 : FVec F S512x1024 .f32) (v1122 : FVec F S512x512 .bf16), Vec F S512x1024 .bf16 ← k0_part130 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v269 v1085 v1088 v1089
      let v1162 : FVec F S512x1024 .bf16 ← k0_part131 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 v1120 v1122 v1123
      let v1163 : Vec F S512x1024 .bf16 ← Prog.lift (.load arg66 (Rect.unit (s := S512x1024) ![0, 0] S512x1024.size inb_S512x1024_S512x1024_0_0).toLoadRect (View.loadsAt_vmem h_S512x1024))
      have v1164 : FVec F S512x1024 .bf16 := shapeCast S512x1024 v1163 shapeCasts_S512x1024_S512x1024
      have v1165 : FVec F S512x1024 .bf16 := shapeCast S512x1024 v1162 shapeCasts_S512x1024_S512x1024
      Prog.lift (.store arg66 (Rect.unit (s := S512x1024) ![0, 0] S512x1024.size inb_S512x1024_S512x1024_0_0) v1165 Finset.univ (View.stores_vmem h_S512x1024 (harg66.storeExact_slice rfl _ packedbf16_S512x1024_S512x1024_0_0) (fun _ => rfl)) (.inl rfl))
      pure ⟨⟩ : PP F PUnit) = first (F := F) i { x := arg2, a := arg3, p := arg4, wo := arg5, g1 := arg6, b1 := arg7, wg := arg8, wu := arg9, wd := arg10, g2 := arg11, b2 := arg12, qkv := arg13, lfn := arg14, k := ![arg15, arg16, arg17, arg18, arg19, arg20, arg21, arg22, arg23, arg24, arg25, arg26, arg27, arg28, arg29, arg30], v := ![arg31, arg32, arg33, arg34, arg35, arg36, arg37, arg38, arg39, arg40, arg41, arg42, arg43, arg44, arg45, arg46], lf := ![arg47, arg48, arg49, arg50, arg51, arg52, arg53, arg54, arg55, arg56, arg57, arg58, arg59, arg60, arg61, arg62], y := arg63, so := arg64, x1 := arg65, x1b := arg66, ffn := arg67, qb := arg68, m := arg69, l := arg70, acc := arg71, g := arg72, hx1b := harg66 : Mems } := by
  by_cases h : startB i = 1#1
  · have h' : Scalar.cmpi .ne (Scalar.extui (Scalar.cmpi .eq (chunkW i) 0#32) : BitVec 32) 0#32 = 1#1 := h
    rw [first, if_pos h]
    simp only [k0_part100]
    rw [dif_pos h']
    change _ = _
    chain_rfl
  · have h' : ¬ Scalar.cmpi .ne (Scalar.extui (Scalar.cmpi .eq (chunkW i) 0#32) : BitVec 32) 0#32 = 1#1 := h
    rw [first, if_neg h]
    simp only [k0_part100]
    rw [dif_neg h']
    change _ = _
    chain_rfl

theorem body_eq (i : grid0.Coords) (arg1 : Memref sig .tc .smem S32x128 .i32) (harg1 : arg1.IsWhole) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x96 .f32) (harg13 : arg13.IsWhole) (arg14 : Memref sig .tc .vmem S1x8x1x1 .f32) (harg14 : arg14.IsWhole) (arg15 : Memref sig .tc .vmem S1x8x64x128 .f32) (harg15 : arg15.IsWhole) (arg16 : Memref sig .tc .vmem S1x8x64x128 .f32) (harg16 : arg16.IsWhole) (arg17 : Memref sig .tc .vmem S1x8x64x128 .f32) (harg17 : arg17.IsWhole) (arg18 : Memref sig .tc .vmem S1x8x64x128 .f32) (harg18 : arg18.IsWhole) (arg19 : Memref sig .tc .vmem S1x8x64x128 .f32) (harg19 : arg19.IsWhole) (arg20 : Memref sig .tc .vmem S1x8x64x128 .f32) (harg20 : arg20.IsWhole) (arg21 : Memref sig .tc .vmem S1x8x64x128 .f32) (harg21 : arg21.IsWhole) (arg22 : Memref sig .tc .vmem S1x8x64x128 .f32) (harg22 : arg22.IsWhole) (arg23 : Memref sig .tc .vmem S1x8x64x128 .f32) (harg23 : arg23.IsWhole) (arg24 : Memref sig .tc .vmem S1x8x64x128 .f32) (harg24 : arg24.IsWhole) (arg25 : Memref sig .tc .vmem S1x8x64x128 .f32) (harg25 : arg25.IsWhole) (arg26 : Memref sig .tc .vmem S1x8x64x128 .f32) (harg26 : arg26.IsWhole) (arg27 : Memref sig .tc .vmem S1x8x64x128 .f32) (harg27 : arg27.IsWhole) (arg28 : Memref sig .tc .vmem S1x8x64x128 .f32) (harg28 : arg28.IsWhole) (arg29 : Memref sig .tc .vmem S1x8x64x128 .f32) (harg29 : arg29.IsWhole) (arg30 : Memref sig .tc .vmem S1x8x64x128 .f32) (harg30 : arg30.IsWhole) (arg31 : Memref sig .tc .vmem S1x8x64x128 .f32) (harg31 : arg31.IsWhole) (arg32 : Memref sig .tc .vmem S1x8x64x128 .f32) (harg32 : arg32.IsWhole) (arg33 : Memref sig .tc .vmem S1x8x64x128 .f32) (harg33 : arg33.IsWhole) (arg34 : Memref sig .tc .vmem S1x8x64x128 .f32) (harg34 : arg34.IsWhole) (arg35 : Memref sig .tc .vmem S1x8x64x128 .f32) (harg35 : arg35.IsWhole) (arg36 : Memref sig .tc .vmem S1x8x64x128 .f32) (harg36 : arg36.IsWhole) (arg37 : Memref sig .tc .vmem S1x8x64x128 .f32) (harg37 : arg37.IsWhole) (arg38 : Memref sig .tc .vmem S1x8x64x128 .f32) (harg38 : arg38.IsWhole) (arg39 : Memref sig .tc .vmem S1x8x64x128 .f32) (harg39 : arg39.IsWhole) (arg40 : Memref sig .tc .vmem S1x8x64x128 .f32) (harg40 : arg40.IsWhole) (arg41 : Memref sig .tc .vmem S1x8x64x128 .f32) (harg41 : arg41.IsWhole) (arg42 : Memref sig .tc .vmem S1x8x64x128 .f32) (harg42 : arg42.IsWhole) (arg43 : Memref sig .tc .vmem S1x8x64x128 .f32) (harg43 : arg43.IsWhole) (arg44 : Memref sig .tc .vmem S1x8x64x128 .f32) (harg44 : arg44.IsWhole) (arg45 : Memref sig .tc .vmem S1x8x64x128 .f32) (harg45 : arg45.IsWhole) (arg46 : Memref sig .tc .vmem S1x8x64x128 .f32) (harg46 : arg46.IsWhole) (arg47 : Memref sig .tc .vmem S1x8x128 .f32) (harg47 : arg47.IsWhole) (arg48 : Memref sig .tc .vmem S1x8x128 .f32) (harg48 : arg48.IsWhole) (arg49 : Memref sig .tc .vmem S1x8x128 .f32) (harg49 : arg49.IsWhole) (arg50 : Memref sig .tc .vmem S1x8x128 .f32) (harg50 : arg50.IsWhole) (arg51 : Memref sig .tc .vmem S1x8x128 .f32) (harg51 : arg51.IsWhole) (arg52 : Memref sig .tc .vmem S1x8x128 .f32) (harg52 : arg52.IsWhole) (arg53 : Memref sig .tc .vmem S1x8x128 .f32) (harg53 : arg53.IsWhole) (arg54 : Memref sig .tc .vmem S1x8x128 .f32) (harg54 : arg54.IsWhole) (arg55 : Memref sig .tc .vmem S1x8x128 .f32) (harg55 : arg55.IsWhole) (arg56 : Memref sig .tc .vmem S1x8x128 .f32) (harg56 : arg56.IsWhole) (arg57 : Memref sig .tc .vmem S1x8x128 .f32) (harg57 : arg57.IsWhole) (arg58 : Memref sig .tc .vmem S1x8x128 .f32) (harg58 : arg58.IsWhole) (arg59 : Memref sig .tc .vmem S1x8x128 .f32) (harg59 : arg59.IsWhole) (arg60 : Memref sig .tc .vmem S1x8x128 .f32) (harg60 : arg60.IsWhole) (arg61 : Memref sig .tc .vmem S1x8x128 .f32) (harg61 : arg61.IsWhole) (arg62 : Memref sig .tc .vmem S1x8x128 .f32) (harg62 : arg62.IsWhole) (arg63 : Memref sig .tc .vmem S512x1024 .f32) (harg63 : arg63.IsWhole) (arg64 : Memref sig .tc .vmem S1x8x64x1 .f32) (harg64 : arg64.IsWhole) (arg65 : Memref sig .tc .vmem S512x1024 .f32) (harg65 : arg65.IsWhole) (arg66 : Memref sig .tc .vmem S512x1024 .bf16) (harg66 : arg66.IsWhole) (arg67 : Memref sig .tc .vmem S512x1024 .f32) (harg67 : arg67.IsWhole) (arg68 : Memref sig .tc .vmem S8x64x128 .f32) (harg68 : arg68.IsWhole) (arg69 : Memref sig .tc .vmem S8x128 .f32) (harg69 : arg69.IsWhole) (arg70 : Memref sig .tc .vmem S8x128 .f32) (harg70 : arg70.IsWhole) (arg71 : Memref sig .tc .vmem S8x64x128 .f32) (harg71 : arg71.IsWhole) (arg72 : Memref sig .tc .vmem S8x128 .f32) (harg72 : arg72.IsWhole) :
    cc0_finish_prompt_fox_sample (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72
      = body (F := F) i { x := arg2, a := arg3, p := arg4, wo := arg5, g1 := arg6, b1 := arg7, wg := arg8, wu := arg9, wd := arg10, g2 := arg11, b2 := arg12, qkv := arg13, lfn := arg14, k := ![arg15, arg16, arg17, arg18, arg19, arg20, arg21, arg22, arg23, arg24, arg25, arg26, arg27, arg28, arg29, arg30], v := ![arg31, arg32, arg33, arg34, arg35, arg36, arg37, arg38, arg39, arg40, arg41, arg42, arg43, arg44, arg45, arg46], lf := ![arg47, arg48, arg49, arg50, arg51, arg52, arg53, arg54, arg55, arg56, arg57, arg58, arg59, arg60, arg61, arg62], y := arg63, so := arg64, x1 := arg65, x1b := arg66, ffn := arg67, qb := arg68, m := arg69, l := arg70, acc := arg71, g := arg72, hx1b := harg66 : Mems } := by
  rw [body, ← first_eq i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72]
  chain_rfl

end Cert.Finish

end
-- ==== Proof.Finish.Specs.lean ====
module

public import proofs.«01_k».proof.Proof.Finish.Runs
public import proofs.«01_k».proof.Proof.Finish.ProgEq

/-! # What each part of a grid point's program leaves -/

@[expose] public section

set_option maxRecDepth 16384

noncomputable section

namespace Cert.Finish

open Idealize.ShloMosaic Idealize.ShloMosaic.TcCoe Idealize.SL.Sem
open Cert.KernelIdeal Cert.KernelIdeal.Facts₀ Cert.KernelIdeal.Facts

variable {F : FTy → Type} [FloatOps F]

/-- The part of `X` that the rectangle names. -/
abbrev part {s : Shape} {e : EltTy} (X : Vec F s e) (r : Rect s) : r.shape.Idx → Elt F e := fun i => X (r.emb i)

/-- Head `h`'s weighted values, the chunk folded in. -/
def headSt (al : FVec F S8x1 .f32) (p : FVec F S8x2048 .f32) (σ : St F) (h : ℕ) (hh : h < 8) : St F :=
  { σ with acc := (rHead h hh).overlay σ.acc (shapeCast S1x64x128 (accs h hh al p (part σ.acc (rHead h hh)) (fun i => part (σ.v i) (rVHead h hh)) 16 (Nat.le_refl 16)) shapeCasts_S64x128_S1x64x128) }

/-- The first `n` heads' weighted values, the chunk folded in. -/
def headsSt (al : FVec F S8x1 .f32) (p : FVec F S8x2048 .f32) (σ : St F) : ℕ → St F
  | 0 => σ
  | n + 1 => if h : n < 8 then headSt al p (headsSt al p σ n) n h else headsSt al p σ n

/-- The chunk's scores. -/
def scores (σ : St F) : FVec F S8x2048 .f32 :=
  beside fun i => score σ.g (scan3 (pages σ.lf)) i.val i.isLt (σ.k i) σ.qb

/-- The running maximum, the chunk taken in. -/
def maxSt (σ : St F) : FVec F S8x1 .f32 := mNew (part σ.m rM1) (scores σ)

/-- The state after a chunk of pages. -/
def chunkSt (σ : St F) : St F :=
  headsSt (rescale (part σ.m rM1) (maxSt σ)) (weights (maxSt σ) (scores σ))
    { σ with
      g := shapeCast S8x128 (offs σ.g (scan3 (pages σ.lf)) 16 (Nat.le_refl 16)) shapeCasts_S8x128_S8x128
      m := lanes (maxSt σ)
      l := lanes (lNew (rescale (part σ.m rM1) (maxSt σ)) (part σ.l rM1) (weights (maxSt σ) (scores σ))) } 8

/-- The state that a sequence begins with. -/
def startSt (w : BitVec 32) (σ : St F) : St F :=
  { σ with qb := queryLanes (column w σ.qkv), m := constLanes 0xF149F2CA#32, l := constLanes 0x00000000#32, acc := zeroAcc, g := constLanes 0x00000000#32 }

/-- The first layer norm's rows. -/
def norm1 (x : Vec F S512x1024 .f32) (a : Vec F S512x512 .bf16) (p : Vec F S512x512 .bf16) (wo : Vec F S1024x1024 .bf16) (g b : Vec F S1x1024 .f32) : FVec F S512x1024 .f32 :=
  layerNorm (residual (shapeCast S512x1024 x shapeCasts_S512x1024_S512x1024) (mix a (part wo rWoA) p (part wo rWoP))) g b

def mixSt (σ : St F) : St F :=
  { σ with
    x1 := shapeCast S512x1024 (norm1 σ.x σ.a σ.p σ.wo σ.g1 σ.b1) shapeCasts_S512x1024_S512x1024
    x1b := shapeCast S512x1024 (truncf .bf16 (norm1 σ.x σ.a σ.p σ.wo σ.g1 σ.b1) bitsLt_bf16_f32 : FVec F S512x1024 .bf16) shapeCasts_S512x1024_S512x1024 }

/-- The part of the feed-forward output from the 512 hidden columns at `c`. -/
def ffnAt (x : Vec F S512x1024 .bf16) (wg wu : Vec F S1024x2816 .bf16) (wd : Vec F S2816x1024 .bf16) (c : ℕ) (hc : c + 512 ≤ 2816) : FVec F S512x1024 .f32 :=
  part512 x (part wg (rCols c hc)) (part wu (rCols c hc)) (part wd (rRows c hc))

/-- The part from the last 256. -/
def ffnEnd (x : Vec F S512x1024 .bf16) (wg wu : Vec F S1024x2816 .bf16) (wd : Vec F S2816x1024 .bf16) : FVec F S512x1024 .f32 :=
  part256 x (part wg rCols') (part wu rCols') (part wd rRows')

def setSt (z : FVec F S512x1024 .f32) (σ : St F) : St F := { σ with ffn := shapeCast S512x1024 z shapeCasts_S512x1024_S512x1024 }
def addSt (z : FVec F S512x1024 .f32) (σ : St F) : St F := { σ with ffn := shapeCast S512x1024 (addf σ.ffn z : FVec F S512x1024 .f32) shapeCasts_S512x1024_S512x1024 }
def tileSt (σ : St F) : St F := { σ with y := layerNorm (residual σ.x1 σ.ffn) σ.g2 σ.b2 }

def tokenSt (w : BitVec 32) (σ : St F) : St F :=
  { σ with so := tokOut (tokScore (part σ.qb rQ1) (column (Scalar.addi 32#32 w) σ.qkv) (part σ.g rM1) σ.lfn) (stack (part σ.m rM1)) (stack (part σ.l rM1)) σ.acc (column (Scalar.addi 64#32 w) σ.qkv) }

variable (c : Dev nD) (M : Mems) (σ : St F)

theorem runs_start (w : BitVec 32) : Runs c M σ (start M w) ⟨⟩ (startSt w σ) := by
  delta start
  refine Runs.bind (Runs.loadW zero2 (foc_qkv c M σ _)) ?_
  refine Runs.bind (Runs.loadW zero3 (foc_qb c M σ _)) ?_
  refine Runs.bind (Runs.storeW zero3 (foc_qb c M σ _)) ?_
  refine Runs.bind (Runs.loadW zero2 (foc_m c M _ _)) ?_
  refine Runs.bind (Runs.storeW zero2 (foc_m c M _ _)) ?_
  refine Runs.bind (Runs.loadW zero2 (foc_l c M _ _)) ?_
  refine Runs.bind (Runs.storeW zero2 (foc_l c M _ _)) ?_
  refine Runs.bind (Runs.loadW zero3 (foc_acc c M _ _)) ?_
  refine Runs.bind (Runs.storeW zero3 (foc_acc c M _ _)) ?_
  refine Runs.bind (Runs.loadW zero2 (foc_g c M _ _)) ?_
  exact Runs.storeW zero2 (foc_g c M _ _)

theorem runs_mix : Runs c M σ (mixNorm M) ⟨⟩ (mixSt σ) := by
  delta mixNorm
  refine Runs.bind (Runs.loadW zero2 (foc_x c M σ _)) ?_
  refine Runs.bind (Runs.loadW zero2 (foc_a c M σ _)) ?_
  refine Runs.bind (Runs.load (foc_wo c M σ _)) ?_
  refine Runs.bind (Runs.loadW zero2 (foc_p c M σ _)) ?_
  refine Runs.bind (Runs.load (foc_wo c M σ _)) ?_
  refine Runs.bind (Runs.loadW zero2 (foc_g1 c M σ _)) ?_
  refine Runs.bind (Runs.loadW zero2 (foc_b1 c M σ _)) ?_
  refine Runs.bind (Runs.loadW zero2 (foc_x1 c M σ _)) ?_
  refine Runs.bind (Runs.storeW zero2 (foc_x1 c M σ _)) ?_
  refine Runs.bind (Runs.loadW zero2 (foc_x1b c M _ _)) ?_
  exact Runs.storeW zero2 (foc_x1b c M _ _)

theorem runs_part (k : ℕ) (hk : k + 512 ≤ 2816) : Runs c M σ (ffnPart M k hk) (ffnAt σ.x1b σ.wg σ.wu σ.wd k hk) σ := by
  delta ffnPart
  refine Runs.bind (Runs.loadW zero2 (foc_x1b c M σ _)) ?_
  refine Runs.bind (Runs.load (foc_wg c M σ _)) ?_
  refine Runs.bind (Runs.load (foc_wu c M σ _)) ?_
  refine Runs.bind (Runs.load (foc_wd c M σ _)) ?_
  exact Runs.ret _

theorem runs_last : Runs c M σ (ffnLast M) (ffnEnd σ.x1b σ.wg σ.wu σ.wd) σ := by
  delta ffnLast
  refine Runs.bind (Runs.loadW zero2 (foc_x1b c M σ _)) ?_
  refine Runs.bind (Runs.load (foc_wg c M σ _)) ?_
  refine Runs.bind (Runs.load (foc_wu c M σ _)) ?_
  refine Runs.bind (Runs.load (foc_wd c M σ _)) ?_
  exact Runs.ret _

theorem runs_set (z : FVec F S512x1024 .f32) : Runs c M σ (ffnSet M z) ⟨⟩ (setSt z σ) := by
  delta ffnSet
  refine Runs.bind (Runs.loadW zero2 (foc_ffn c M σ _)) ?_
  exact Runs.storeW zero2 (foc_ffn c M σ _)

theorem runs_add (z : FVec F S512x1024 .f32) : Runs c M σ (ffnAdd M z) ⟨⟩ (addSt z σ) := by
  delta ffnAdd
  refine Runs.bind (Runs.loadW zero2 (foc_ffn c M σ _)) ?_
  refine Runs.bind (Runs.loadW zero2 (foc_ffn c M σ _)) ?_
  exact Runs.storeW zero2 (foc_ffn c M σ _)

theorem runs_tile : Runs c M σ (finishTile M) ⟨⟩ (tileSt σ) := by
  delta finishTile
  refine Runs.bind (Runs.loadW zero2 (foc_x1 c M σ _)) ?_
  refine Runs.bind (Runs.loadW zero2 (foc_ffn c M σ _)) ?_
  refine Runs.bind (Runs.loadW zero2 (foc_g2 c M σ _)) ?_
  refine Runs.bind (Runs.loadW zero2 (foc_b2 c M σ _)) ?_
  refine Runs.bind (Runs.loadW zero2 (foc_y c M σ _)) ?_
  exact Runs.storeW zero2 (foc_y c M σ _)

theorem runs_token (w : BitVec 32) : Runs c M σ (newToken M w) ⟨⟩ (tokenSt w σ) := by
  delta newToken
  refine Runs.bind (Runs.loadW zero2 (foc_qkv c M σ _)) ?_
  refine Runs.bind (Runs.loadW zero2 (foc_qkv c M σ _)) ?_
  refine Runs.bind (Runs.load (foc_g c M σ _)) ?_
  refine Runs.bind (Runs.loadW zero4 (foc_lfn c M σ _)) ?_
  refine Runs.bind (Runs.load (foc_qb c M σ _)) ?_
  refine Runs.bind (Runs.load (foc_m c M σ _)) ?_
  refine Runs.bind (Runs.load (foc_l c M σ _)) ?_
  refine Runs.bind (Runs.loadW zero3 (foc_acc c M σ _)) ?_
  refine Runs.bind (Runs.loadW zero4 (foc_so c M σ _)) ?_
  exact Runs.storeW zero4 (foc_so c M σ _)

theorem runs_head (al : FVec F S8x1 .f32) (p : FVec F S8x2048 .f32) (h : Fin 8) : Runs c M σ (headStep M al p h) ⟨⟩ (headSt al p σ h.val h.isLt) := by
  delta headStep
  refine Runs.bind (Runs.load (foc_acc c M σ _)) ?_
  refine Runs.bind (Runs.collect fun i => Runs.load (foc_v c M σ i)) ?_
  refine Runs.bind (Runs.load (foc_acc c M σ _)) ?_
  exact Runs.store (foc_acc c M σ _)

theorem runs_heads (al : FVec F S8x1 .f32) (p : FVec F S8x2048 .f32) : Runs c M σ (Cert.Finish.inOrder 8 (headStep M al p)) ⟨⟩ (headsSt al p σ 8) := Runs.inOrder (headsSt al p σ) fun h => by
    have e : headsSt al p σ (h.val + 1) = headSt al p (headsSt al p σ h.val) h.val h.isLt := dif_pos h.isLt
    rw [e]; exact runs_head c M _ al p h

theorem runs_chunk : Runs c M σ (chunk M) ⟨⟩ (chunkSt σ) := by
  delta chunk
  refine Runs.bind (Runs.collect fun i => Runs.loadW zero3 (foc_lf c M σ i)) ?_
  refine Runs.bind (Runs.loadW zero2 (foc_g c M σ _)) ?_
  refine Runs.bind (Runs.collect fun i => Runs.bind (Runs.loadW zero4 (foc_k c M σ i)) <| Runs.bind (Runs.loadW zero3 (foc_qb c M σ _)) (Runs.ret _)) ?_
  refine Runs.bind (Runs.loadW zero2 (foc_g c M σ _)) ?_
  refine Runs.bind (Runs.storeW zero2 (foc_g c M σ _)) ?_
  refine Runs.bind (Runs.load (foc_m c M _ _)) ?_
  refine Runs.bind (Runs.load (foc_l c M _ _)) ?_
  refine Runs.bind (Runs.loadW zero2 (foc_m c M _ _)) ?_
  refine Runs.bind (Runs.storeW zero2 (foc_m c M _ _)) ?_
  refine Runs.bind (Runs.loadW zero2 (foc_l c M _ _)) ?_
  refine Runs.bind (Runs.storeW zero2 (foc_l c M _ _)) ?_
  exact runs_heads c M _ _ _

end Cert.Finish

end
-- ==== Proof.Finish.Step.lean ====
module

public import proofs.«01_k».proof.Proof.Finish.Specs

/-! # A whole grid point: what it leaves -/

@[expose] public section

set_option maxRecDepth 16384

noncomputable section

namespace Cert.Finish

open Idealize.ShloMosaic Idealize.ShloMosaic.TcCoe Idealize.SL.Sem
open Cert.KernelIdeal Cert.KernelIdeal.Facts₀ Cert.KernelIdeal.Facts

variable {F : FTy → Type} [FloatOps F]

theorem heads_eq (al : FVec F S8x1 .f32) (p : FVec F S8x2048 .f32) (σ : St F) (n : ℕ) : headsSt al p σ n = { σ with acc := (headsSt al p σ n).acc } := by
  induction n with
  | zero => rfl
  | succ n ih =>
    rw [headsSt]
    split
    · rw [ih]; rfl
    · exact ih

theorem chunk_eq (σ : St F) : ∃ g m l acc, chunkSt σ = { σ with g := g, m := m, l := l, acc := acc } := by
  unfold chunkSt
  rw [heads_eq]
  exact ⟨_, _, _, _, rfl⟩

@[simp] theorem chunk_x (σ : St F) : (chunkSt σ).x = σ.x := by
  obtain ⟨_, _, _, _, h⟩ := chunk_eq σ; rw [h]

@[simp] theorem chunk_a (σ : St F) : (chunkSt σ).a = σ.a := by
  obtain ⟨_, _, _, _, h⟩ := chunk_eq σ; rw [h]

@[simp] theorem chunk_p (σ : St F) : (chunkSt σ).p = σ.p := by
  obtain ⟨_, _, _, _, h⟩ := chunk_eq σ; rw [h]

@[simp] theorem chunk_wo (σ : St F) : (chunkSt σ).wo = σ.wo := by
  obtain ⟨_, _, _, _, h⟩ := chunk_eq σ; rw [h]

@[simp] theorem chunk_g1 (σ : St F) : (chunkSt σ).g1 = σ.g1 := by
  obtain ⟨_, _, _, _, h⟩ := chunk_eq σ; rw [h]

@[simp] theorem chunk_b1 (σ : St F) : (chunkSt σ).b1 = σ.b1 := by
  obtain ⟨_, _, _, _, h⟩ := chunk_eq σ; rw [h]

@[simp] theorem chunk_wg (σ : St F) : (chunkSt σ).wg = σ.wg := by
  obtain ⟨_, _, _, _, h⟩ := chunk_eq σ; rw [h]

@[simp] theorem chunk_wu (σ : St F) : (chunkSt σ).wu = σ.wu := by
  obtain ⟨_, _, _, _, h⟩ := chunk_eq σ; rw [h]

@[simp] theorem chunk_wd (σ : St F) : (chunkSt σ).wd = σ.wd := by
  obtain ⟨_, _, _, _, h⟩ := chunk_eq σ; rw [h]

@[simp] theorem chunk_g2 (σ : St F) : (chunkSt σ).g2 = σ.g2 := by
  obtain ⟨_, _, _, _, h⟩ := chunk_eq σ; rw [h]

@[simp] theorem chunk_b2 (σ : St F) : (chunkSt σ).b2 = σ.b2 := by
  obtain ⟨_, _, _, _, h⟩ := chunk_eq σ; rw [h]

@[simp] theorem chunk_qkv (σ : St F) : (chunkSt σ).qkv = σ.qkv := by
  obtain ⟨_, _, _, _, h⟩ := chunk_eq σ; rw [h]

@[simp] theorem chunk_lfn (σ : St F) : (chunkSt σ).lfn = σ.lfn := by
  obtain ⟨_, _, _, _, h⟩ := chunk_eq σ; rw [h]

@[simp] theorem chunk_k (σ : St F) : (chunkSt σ).k = σ.k := by
  obtain ⟨_, _, _, _, h⟩ := chunk_eq σ; rw [h]

@[simp] theorem chunk_v (σ : St F) : (chunkSt σ).v = σ.v := by
  obtain ⟨_, _, _, _, h⟩ := chunk_eq σ; rw [h]

@[simp] theorem chunk_lf (σ : St F) : (chunkSt σ).lf = σ.lf := by
  obtain ⟨_, _, _, _, h⟩ := chunk_eq σ; rw [h]

@[simp] theorem chunk_y (σ : St F) : (chunkSt σ).y = σ.y := by
  obtain ⟨_, _, _, _, h⟩ := chunk_eq σ; rw [h]

@[simp] theorem chunk_so (σ : St F) : (chunkSt σ).so = σ.so := by
  obtain ⟨_, _, _, _, h⟩ := chunk_eq σ; rw [h]

@[simp] theorem chunk_x1 (σ : St F) : (chunkSt σ).x1 = σ.x1 := by
  obtain ⟨_, _, _, _, h⟩ := chunk_eq σ; rw [h]

@[simp] theorem chunk_x1b (σ : St F) : (chunkSt σ).x1b = σ.x1b := by
  obtain ⟨_, _, _, _, h⟩ := chunk_eq σ; rw [h]

@[simp] theorem chunk_ffn (σ : St F) : (chunkSt σ).ffn = σ.ffn := by
  obtain ⟨_, _, _, _, h⟩ := chunk_eq σ; rw [h]

@[simp] theorem chunk_qb (σ : St F) : (chunkSt σ).qb = σ.qb := by
  obtain ⟨_, _, _, _, h⟩ := chunk_eq σ; rw [h]

/-- What grid point `t` leaves. -/
def stepSt (t : Fin grid0.N) (σ : St F) : St F :=
  if t.val % 4 = 0 then mixSt (chunkSt (if t.val % 8 = 0 then startSt (seqW (grid0.coords t)) σ else σ))
  else if t.val % 4 = 1 then
    addSt (ffnAt σ.x1b σ.wg σ.wu σ.wd 512 (by omega)) (setSt (ffnAt σ.x1b σ.wg σ.wu σ.wd 0 (by omega)) (chunkSt σ))
  else if t.val % 4 = 2 then
    addSt (ffnAt σ.x1b σ.wg σ.wu σ.wd 1536 (by omega)) (addSt (ffnAt σ.x1b σ.wg σ.wu σ.wd 1024 (by omega)) (chunkSt σ))
  else
    have τ := tileSt (addSt (ffnEnd σ.x1b σ.wg σ.wu σ.wd) (addSt (ffnAt σ.x1b σ.wg σ.wu σ.wd 2048 (by omega)) (chunkSt σ)))
    if t.val % 8 = 7 then tokenSt (seqW (grid0.coords t)) τ else τ

theorem cond1_iff : ∀ t : Fin grid0.N, k0_cond1 (grid0.coords t) = 1#1 ↔ ¬(t.val % 4 = 0) := by decide +kernel
theorem cond2_iff : ∀ t : Fin grid0.N, k0_cond2 (grid0.coords t) = 1#1 ↔ ¬(t.val % 4 = 1) := by decide +kernel
theorem cond3_iff : ∀ t : Fin grid0.N, k0_cond3 (grid0.coords t) = 1#1 ↔ ¬(t.val % 4 = 2) := by decide +kernel
theorem cond4_iff : ∀ t : Fin grid0.N, k0_cond4 (grid0.coords t) = 1#1 ↔ t.val % 8 = 7 := by decide +kernel
theorem startB_iff : ∀ t : Fin grid0.N, startB (grid0.coords t) = 1#1 ↔ t.val % 8 = 0 := by decide +kernel

variable (c : Dev nD) (M : Mems) (σ : St F)

theorem runs_body (t : Fin grid0.N) : Runs c M σ (body (grid0.coords t) M) ⟨⟩ (stepSt t σ) := by
  unfold body bodyOf stepSt
  by_cases h0 : t.val % 4 = 0
  · rw [if_pos h0, dif_neg (fun h => (cond1_iff t).mp h h0)]
    unfold first
    by_cases h8 : t.val % 8 = 0
    · rw [if_pos h8, if_pos ((startB_iff t).mpr h8)]
      exact Runs.bind (runs_start c M σ _) (Runs.bind (runs_chunk c M _) (runs_mix c M _))
    · rw [if_neg h8, if_neg (fun h => h8 ((startB_iff t).mp h))]
      exact Runs.bind (runs_chunk c M _) (runs_mix c M _)
  · rw [if_neg h0, dif_pos ((cond1_iff t).mpr h0)]
    by_cases h1 : t.val % 4 = 1
    · rw [if_pos h1, dif_neg (fun h => (cond2_iff t).mp h h1)]
      refine Runs.bind (runs_chunk c M _) ?_
      refine Runs.bind (runs_part c M _ _ _) ?_
      refine Runs.bind (runs_set c M _ _) ?_
      refine Runs.bind (runs_part c M _ _ _) ?_
      refine Runs.bind (runs_add c M _ _) ?_
      simp only [setSt, chunk_x1b, chunk_wg, chunk_wu, chunk_wd]
      exact Runs.ret _
    · rw [if_neg h1, dif_pos ((cond2_iff t).mpr h1)]
      by_cases h2 : t.val % 4 = 2
      · rw [if_pos h2, dif_neg (fun h => (cond3_iff t).mp h h2)]
        refine Runs.bind (runs_chunk c M _) ?_
        refine Runs.bind (runs_part c M _ _ _) ?_
        refine Runs.bind (runs_add c M _ _) ?_
        refine Runs.bind (runs_part c M _ _ _) ?_
        refine Runs.bind (runs_add c M _ _) ?_
        simp only [addSt, chunk_x1b, chunk_wg, chunk_wu, chunk_wd]
        exact Runs.ret _
      · rw [if_neg h2, dif_pos ((cond3_iff t).mpr h2)]
        refine Runs.bind (runs_chunk c M _) ?_
        refine Runs.bind (runs_part c M _ _ _) ?_
        refine Runs.bind (runs_add c M _ _) ?_
        refine Runs.bind (runs_last c M _) ?_
        refine Runs.bind (runs_add c M _ _) ?_
        refine Runs.bind (runs_tile c M _) ?_
        by_cases h8 : t.val % 8 = 7
        · rw [if_pos h8, dif_pos ((cond4_iff t).mpr h8)]
          simp only [addSt, chunk_x1b, chunk_wg, chunk_wu, chunk_wd]
          exact Runs.bind (runs_token c M _ _) (Runs.ret _)
        · rw [if_neg h8, dif_neg (fun h => h8 ((cond4_iff t).mp h))]
          simp only [addSt, chunk_x1b, chunk_wg, chunk_wu, chunk_wd]
          exact Runs.ret _

@[simp] theorem step_x (t : Fin grid0.N) : (stepSt t σ).x = σ.x := by
  unfold stepSt
  split_ifs <;> simp only [mixSt, startSt, addSt, setSt, tileSt, tokenSt, chunk_x]

@[simp] theorem step_a (t : Fin grid0.N) : (stepSt t σ).a = σ.a := by
  unfold stepSt
  split_ifs <;> simp only [mixSt, startSt, addSt, setSt, tileSt, tokenSt, chunk_a]

@[simp] theorem step_p (t : Fin grid0.N) : (stepSt t σ).p = σ.p := by
  unfold stepSt
  split_ifs <;> simp only [mixSt, startSt, addSt, setSt, tileSt, tokenSt, chunk_p]

@[simp] theorem step_wo (t : Fin grid0.N) : (stepSt t σ).wo = σ.wo := by
  unfold stepSt
  split_ifs <;> simp only [mixSt, startSt, addSt, setSt, tileSt, tokenSt, chunk_wo]

@[simp] theorem step_g1 (t : Fin grid0.N) : (stepSt t σ).g1 = σ.g1 := by
  unfold stepSt
  split_ifs <;> simp only [mixSt, startSt, addSt, setSt, tileSt, tokenSt, chunk_g1]

@[simp] theorem step_b1 (t : Fin grid0.N) : (stepSt t σ).b1 = σ.b1 := by
  unfold stepSt
  split_ifs <;> simp only [mixSt, startSt, addSt, setSt, tileSt, tokenSt, chunk_b1]

@[simp] theorem step_wg (t : Fin grid0.N) : (stepSt t σ).wg = σ.wg := by
  unfold stepSt
  split_ifs <;> simp only [mixSt, startSt, addSt, setSt, tileSt, tokenSt, chunk_wg]

@[simp] theorem step_wu (t : Fin grid0.N) : (stepSt t σ).wu = σ.wu := by
  unfold stepSt
  split_ifs <;> simp only [mixSt, startSt, addSt, setSt, tileSt, tokenSt, chunk_wu]

@[simp] theorem step_wd (t : Fin grid0.N) : (stepSt t σ).wd = σ.wd := by
  unfold stepSt
  split_ifs <;> simp only [mixSt, startSt, addSt, setSt, tileSt, tokenSt, chunk_wd]

@[simp] theorem step_g2 (t : Fin grid0.N) : (stepSt t σ).g2 = σ.g2 := by
  unfold stepSt
  split_ifs <;> simp only [mixSt, startSt, addSt, setSt, tileSt, tokenSt, chunk_g2]

@[simp] theorem step_b2 (t : Fin grid0.N) : (stepSt t σ).b2 = σ.b2 := by
  unfold stepSt
  split_ifs <;> simp only [mixSt, startSt, addSt, setSt, tileSt, tokenSt, chunk_b2]

@[simp] theorem step_qkv (t : Fin grid0.N) : (stepSt t σ).qkv = σ.qkv := by
  unfold stepSt
  split_ifs <;> simp only [mixSt, startSt, addSt, setSt, tileSt, tokenSt, chunk_qkv]

@[simp] theorem step_lfn (t : Fin grid0.N) : (stepSt t σ).lfn = σ.lfn := by
  unfold stepSt
  split_ifs <;> simp only [mixSt, startSt, addSt, setSt, tileSt, tokenSt, chunk_lfn]

@[simp] theorem step_k (t : Fin grid0.N) : (stepSt t σ).k = σ.k := by
  unfold stepSt
  split_ifs <;> simp only [mixSt, startSt, addSt, setSt, tileSt, tokenSt, chunk_k]

@[simp] theorem step_v (t : Fin grid0.N) : (stepSt t σ).v = σ.v := by
  unfold stepSt
  split_ifs <;> simp only [mixSt, startSt, addSt, setSt, tileSt, tokenSt, chunk_v]

@[simp] theorem step_lf (t : Fin grid0.N) : (stepSt t σ).lf = σ.lf := by
  unfold stepSt
  split_ifs <;> simp only [mixSt, startSt, addSt, setSt, tileSt, tokenSt, chunk_lf]

end Cert.Finish

end
-- ==== Proof.Finish.Setup.lean ====
module

public import proofs.«01_k».proof.Proof.Finish.Step
public import Idealize.ShloMosaic.Lib.Pipeline.DatRel
public import Idealize.ShloMosaic.Lib.Pipeline.ArrRel
public import Idealize.ShloMosaic.Lib.Pipeline.FrameSuffix
public import Idealize.ShloMosaic.Lib.WordCmp

/-! # The launch: the arrays a grid point finds -/

@[expose] public section

set_option maxRecDepth 16384

noncomputable section

namespace Cert.Finish

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal Cert.KernelIdeal.Gen

variable {F : FTy → Type} [FloatOps F]

variable (m : (ℓ : Loc nD τ sig) → Buf (Elt F) ℓ) (ρ : Dev nD → PrngReg)

/-- The core's buffers when the call is entered: after the host operations before it. -/
abbrev V (c : Dev nD) (b : Ref sig .tc) : Buf (Elt F) ((c : Thread nD τ).loc b) := StableHlo.after hostOps0 (fun b => m (c, b)) (Proc.devRef .tc b)

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The page table's contents when the call is entered. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- Every page that the table names lies in the pool. -/
abbrev Ok : Prop := ok0 (F := F) (tbl m)
abbrev adm (hO : Ok m) : (pcfg0 (F := F)).Adm := ⟨tbl m, hO⟩
abbrev cfgM (hO : Ok m) : Cfg sig Λ₀ := cfg0 (adm m hO)

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- A tile's first grid point. -/
def tile0 (n : ℕ) : Fin grid0.N := ⟨4 * (n / 4) % 256, by rw [show grid0.N = 256 from N_0]; omega⟩

variable (hO : Ok m) (c : Dev nD)

/-- The first layer norm's rows, of the tile that begins at `t`. -/
def X1 (t : Fin grid0.N) : Vec F S512x1024 .f32 :=
  Idealize.ShloMosaic.shapeCast S512x1024 (norm1 (iblk m hO c 0 t) (iblk m hO c 1 t) (iblk m hO c 2 t) (iblk m hO c 3 t) (iblk m hO c 4 t) (iblk m hO c 5 t)) Facts₀.shapeCasts_S512x1024_S512x1024
def X1b (t : Fin grid0.N) : Vec F S512x1024 .bf16 :=
  Idealize.ShloMosaic.shapeCast S512x1024 (truncf .bf16 (norm1 (iblk m hO c 0 t) (iblk m hO c 1 t) (iblk m hO c 2 t) (iblk m hO c 3 t) (iblk m hO c 4 t) (iblk m hO c 5 t)) Facts₀.bitsLt_bf16_f32 : FVec F S512x1024 .bf16) Facts₀.shapeCasts_S512x1024_S512x1024
def partAt (t : Fin grid0.N) (k : ℕ) (hk : k + 512 ≤ 2816) : FVec F S512x1024 .f32 := ffnAt (X1b m hO c t) (iblk m hO c 6 t) (iblk m hO c 7 t) (iblk m hO c 8 t) k hk
def put (z : FVec F S512x1024 .f32) : FVec F S512x1024 .f32 := Idealize.ShloMosaic.shapeCast S512x1024 z Facts₀.shapeCasts_S512x1024_S512x1024
/-- The feed-forward output of the first two, four and all column blocks. -/
def F2 (t : Fin grid0.N) : FVec F S512x1024 .f32 := put (addf (put (partAt m hO c t 0 (by omega))) (partAt m hO c t 512 (by omega)))
def F4 (t : Fin grid0.N) : FVec F S512x1024 .f32 := put (addf (put (addf (F2 m hO c t) (partAt m hO c t 1024 (by omega)))) (partAt m hO c t 1536 (by omega)))
def F6 (t : Fin grid0.N) : FVec F S512x1024 .f32 :=
  put (addf (put (addf (F4 m hO c t) (partAt m hO c t 2048 (by omega)))) (ffnEnd (X1b m hO c t) (iblk m hO c 6 t) (iblk m hO c 7 t) (iblk m hO c 8 t)))
/-- The tile's rows of the result. -/
def tileOut (t : Fin grid0.N) : FVec F S512x1024 .f32 := layerNorm (residual (X1 m hO c t) (F6 m hO c t)) (iblk m hO c 9 t) (iblk m hO c 10 t)

/-- The scratch. -/
structure Sc (F : FTy → Type) [FloatOps F] where
  x1 : Vec F S512x1024 .f32
  x1b : Vec F S512x1024 .bf16
  ffn : Vec F S512x1024 .f32
  qb : Vec F S8x64x128 .f32
  m : Vec F S8x128 .f32
  l : Vec F S8x128 .f32
  acc : Vec F S8x64x128 .f32
  g : Vec F S8x128 .f32

/-- What the scratch holds before point `n`. -/
def Inv (n : ℕ) (s : Sc F) : Prop :=
  (n % 4 ≠ 0 → s.x1 = X1 m hO c (tile0 n) ∧ s.x1b = X1b m hO c (tile0 n))
    ∧ (n % 4 = 2 → s.ffn = F2 m hO c (tile0 n)) ∧ (n % 4 = 3 → s.ffn = F4 m hO c (tile0 n))

abbrev sc_x1 : Memref sig .tc .vmem S512x1024 .f32 := Memref.whole cc0_scratch0
abbrev sc_x1b : Memref sig .tc .vmem S512x1024 .bf16 := Memref.whole cc0_scratch1
abbrev sc_ffn : Memref sig .tc .vmem S512x1024 .f32 := Memref.whole cc0_scratch2
abbrev sc_qb : Memref sig .tc .vmem S8x64x128 .f32 := Memref.whole cc0_scratch3
abbrev sc_m : Memref sig .tc .vmem S8x128 .f32 := Memref.whole cc0_scratch4
abbrev sc_l : Memref sig .tc .vmem S8x128 .f32 := Memref.whole cc0_scratch5
abbrev sc_acc : Memref sig .tc .vmem S8x64x128 .f32 := Memref.whole cc0_scratch6
abbrev sc_g : Memref sig .tc .vmem S8x128 .f32 := Memref.whole cc0_scratch7

/-- The scratch holds `s`. -/
def ScOwn (s : Sc F) : SP F :=
  iprop(owns (c : Thread nD τ) sc_x1 fullShare s.x1 ∗ owns (c : Thread nD τ) sc_x1b fullShare s.x1b ∗ owns (c : Thread nD τ) sc_ffn fullShare s.ffn ∗ owns (c : Thread nD τ) sc_qb fullShare s.qb ∗ owns (c : Thread nD τ) sc_m fullShare s.m ∗ owns (c : Thread nD τ) sc_l fullShare s.l ∗ owns (c : Thread nD τ) sc_acc fullShare s.acc ∗ owns (c : Thread nD τ) sc_g fullShare s.g)

/-- The assertion that a grid point starts from and keeps. -/
def Phi (n : ℕ) : SP F := iprop((∃ s : Sc F, ⌜Inv m hO c n s⌝ ∗ ScOwn c s) ∗ (∃ r, prngReg c r) ∗ Pipeline.ΦT pre0 (tbl m) c)

def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => iblk m hO c 36 t
    | ⟨37, _⟩ => iblk m hO c 37 t
    | ⟨38, _⟩ => iblk m hO c 38 t
    | ⟨39, _⟩ => iblk m hO c 39 t
    | ⟨40, _⟩ => iblk m hO c 40 t
    | ⟨41, _⟩ => iblk m hO c 41 t
    | ⟨42, _⟩ => iblk m hO c 42 t
    | ⟨43, _⟩ => iblk m hO c 43 t
    | ⟨44, _⟩ => iblk m hO c 44 t
    | ⟨45, _⟩ => iblk m hO c 45 t
    | ⟨46, _⟩ => iblk m hO c 46 t
    | ⟨47, _⟩ => iblk m hO c 47 t
    | ⟨48, _⟩ => iblk m hO c 48 t
    | ⟨49, _⟩ => iblk m hO c 49 t
    | ⟨50, _⟩ => iblk m hO c 50 t
    | ⟨51, _⟩ => iblk m hO c 51 t
    | ⟨52, _⟩ => iblk m hO c 52 t
    | ⟨53, _⟩ => iblk m hO c 53 t
    | ⟨54, _⟩ => iblk m hO c 54 t
    | ⟨55, _⟩ => iblk m hO c 55 t
    | ⟨56, _⟩ => iblk m hO c 56 t
    | ⟨57, _⟩ => iblk m hO c 57 t
    | ⟨58, _⟩ => iblk m hO c 58 t
    | ⟨59, _⟩ => iblk m hO c 59 t
    | ⟨60, _⟩ => iblk m hO c 60 t
    | ⟨61, _⟩ => iblk m hO c 61 t
    | ⟨62, _⟩ => iblk m hO c 62 t
    | ⟨_ + 63, h⟩ => absurd h (Nat.not_lt.2 (Nat.le_add_left _ _))
  Φ t := Phi m hO c t.val
  q w := Pipeline.shareOf spec0 w
  owed _ := 0

theorem A_eq (w : Fin (cfgM m hO).W) : (dats m hO 0 c).A w = V m c (Pipeline.arrRef spec0 w) := by
  dsimp only [dats]

theorem after0 (t : Fin (cfgM m hO).N) : (dats m hO 0 c).after 0 t = iblk m hO c 0 t := by dsimp only [dats]; try rfl
theorem before0 (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (t : Fin (cfgM m hO).N) : (dats m hO 0 c).after 1 t = iblk m hO c 1 t := by dsimp only [dats]; try rfl
theorem before1 (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem after2 (t : Fin (cfgM m hO).N) : (dats m hO 0 c).after 2 t = iblk m hO c 2 t := by dsimp only [dats]; try rfl
theorem before2 (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem after3 (t : Fin (cfgM m hO).N) : (dats m hO 0 c).after 3 t = iblk m hO c 3 t := by dsimp only [dats]; try rfl
theorem before3 (t : Fin (cfgM m hO).N) (d) : (dats m hO 0 c).before 3 t d = iblk m hO c 3 t :=
  ((dats m hO 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem after4 (t : Fin (cfgM m hO).N) : (dats m hO 0 c).after 4 t = iblk m hO c 4 t := by dsimp only [dats]; try rfl
theorem before4 (t : Fin (cfgM m hO).N) (d) : (dats m hO 0 c).before 4 t d = iblk m hO c 4 t :=
  ((dats m hO 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem after5 (t : Fin (cfgM m hO).N) : (dats m hO 0 c).after 5 t = iblk m hO c 5 t := by dsimp only [dats]; try rfl
theorem before5 (t : Fin (cfgM m hO).N) (d) : (dats m hO 0 c).before 5 t d = iblk m hO c 5 t :=
  ((dats m hO 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem after6 (t : Fin (cfgM m hO).N) : (dats m hO 0 c).after 6 t = iblk m hO c 6 t := by dsimp only [dats]; try rfl
theorem before6 (t : Fin (cfgM m hO).N) (d) : (dats m hO 0 c).before 6 t d = iblk m hO c 6 t :=
  ((dats m hO 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem after7 (t : Fin (cfgM m hO).N) : (dats m hO 0 c).after 7 t = iblk m hO c 7 t := by dsimp only [dats]; try rfl
theorem before7 (t : Fin (cfgM m hO).N) (d) : (dats m hO 0 c).before 7 t d = iblk m hO c 7 t :=
  ((dats m hO 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem after8 (t : Fin (cfgM m hO).N) : (dats m hO 0 c).after 8 t = iblk m hO c 8 t := by dsimp only [dats]; try rfl
theorem before8 (t : Fin (cfgM m hO).N) (d) : (dats m hO 0 c).before 8 t d = iblk m hO c 8 t :=
  ((dats m hO 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem after9 (t : Fin (cfgM m hO).N) : (dats m hO 0 c).after 9 t = iblk m hO c 9 t := by dsimp only [dats]; try rfl
theorem before9 (t : Fin (cfgM m hO).N) (d) : (dats m hO 0 c).before 9 t d = iblk m hO c 9 t :=
  ((dats m hO 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem after10 (t : Fin (cfgM m hO).N) : (dats m hO 0 c).after 10 t = iblk m hO c 10 t := by dsimp only [dats]; try rfl
theorem before10 (t : Fin (cfgM m hO).N) (d) : (dats m hO 0 c).before 10 t d = iblk m hO c 10 t :=
  ((dats m hO 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem after11 (t : Fin (cfgM m hO).N) : (dats m hO 0 c).after 11 t = iblk m hO c 11 t := by dsimp only [dats]; try rfl
theorem before11 (t : Fin (cfgM m hO).N) (d) : (dats m hO 0 c).before 11 t d = iblk m hO c 11 t :=
  ((dats m hO 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem after12 (t : Fin (cfgM m hO).N) : (dats m hO 0 c).after 12 t = iblk m hO c 12 t := by dsimp only [dats]; try rfl
theorem before12 (t : Fin (cfgM m hO).N) (d) : (dats m hO 0 c).before 12 t d = iblk m hO c 12 t :=
  ((dats m hO 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
theorem after13 (t : Fin (cfgM m hO).N) : (dats m hO 0 c).after 13 t = iblk m hO c 13 t := by dsimp only [dats]; try rfl
theorem before13 (t : Fin (cfgM m hO).N) (d) : (dats m hO 0 c).before 13 t d = iblk m hO c 13 t :=
  ((dats m hO 0 c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
theorem after14 (t : Fin (cfgM m hO).N) : (dats m hO 0 c).after 14 t = iblk m hO c 14 t := by dsimp only [dats]; try rfl
theorem before14 (t : Fin (cfgM m hO).N) (d) : (dats m hO 0 c).before 14 t d = iblk m hO c 14 t :=
  ((dats m hO 0 c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)
theorem after15 (t : Fin (cfgM m hO).N) : (dats m hO 0 c).after 15 t = iblk m hO c 15 t := by dsimp only [dats]; try rfl
theorem before15 (t : Fin (cfgM m hO).N) (d) : (dats m hO 0 c).before 15 t d = iblk m hO c 15 t :=
  ((dats m hO 0 c).before_in_eq_fetched 15 rfl (fun _ => rfl) (fun _ _ _ => rfl) (fun t => by rw [after15]; unfold Dat.blockOf iblk; rw [A_eq]; try rfl) t d).trans
    (by unfold Dat.fetched Dat.blockOf iblk; rw [A_eq]; try rfl)
theorem after16 (t : Fin (cfgM m hO).N) : (dats m hO 0 c).after 16 t = iblk m hO c 16 t := by dsimp only [dats]; try rfl
theorem before16 (t : Fin (cfgM m hO).N) (d) : (dats m hO 0 c).before 16 t d = iblk m hO c 16 t :=
  ((dats m hO 0 c).before_in_eq_fetched 16 rfl (fun _ => rfl) (fun _ _ _ => rfl) (fun t => by rw [after16]; unfold Dat.blockOf iblk; rw [A_eq]; try rfl) t d).trans
    (by unfold Dat.fetched Dat.blockOf iblk; rw [A_eq]; try rfl)
theorem after17 (t : Fin (cfgM m hO).N) : (dats m hO 0 c).after 17 t = iblk m hO c 17 t := by dsimp only [dats]; try rfl
theorem before17 (t : Fin (cfgM m hO).N) (d) : (dats m hO 0 c).before 17 t d = iblk m hO c 17 t :=
  ((dats m hO 0 c).before_in_eq_fetched 17 rfl (fun _ => rfl) (fun _ _ _ => rfl) (fun t => by rw [after17]; unfold Dat.blockOf iblk; rw [A_eq]; try rfl) t d).trans
    (by unfold Dat.fetched Dat.blockOf iblk; rw [A_eq]; try rfl)
theorem after18 (t : Fin (cfgM m hO).N) : (dats m hO 0 c).after 18 t = iblk m hO c 18 t := by dsimp only [dats]; try rfl
theorem before18 (t : Fin (cfgM m hO).N) (d) : (dats m hO 0 c).before 18 t d = iblk m hO c 18 t :=
  ((dats m hO 0 c).before_in_eq_fetched 18 rfl (fun _ => rfl) (fun _ _ _ => rfl) (fun t => by rw [after18]; unfold Dat.blockOf iblk; rw [A_eq]; try rfl) t d).trans
    (by unfold Dat.fetched Dat.blockOf iblk; rw [A_eq]; try rfl)
theorem after19 (t : Fin (cfgM m hO).N) : (dats m hO 0 c).after 19 t = iblk m hO c 19 t := by dsimp only [dats]; try rfl
theorem before19 (t : Fin (cfgM m hO).N) (d) : (dats m hO 0 c).before 19 t d = iblk m hO c 19 t :=
  ((dats m hO 0 c).before_in_eq_fetched 19 rfl (fun _ => rfl) (fun _ _ _ => rfl) (fun t => by rw [after19]; unfold Dat.blockOf iblk; rw [A_eq]; try rfl) t d).trans
    (by unfold Dat.fetched Dat.blockOf iblk; rw [A_eq]; try rfl)
theorem after20 (t : Fin (cfgM m hO).N) : (dats m hO 0 c).after 20 t = iblk m hO c 20 t := by dsimp only [dats]; try rfl
theorem before20 (t : Fin (cfgM m hO).N) (d) : (dats m hO 0 c).before 20 t d = iblk m hO c 20 t :=
  ((dats m hO 0 c).before_in_eq_fetched 20 rfl (fun _ => rfl) (fun _ _ _ => rfl) (fun t => by rw [after20]; unfold Dat.blockOf iblk; rw [A_eq]; try rfl) t d).trans
    (by unfold Dat.fetched Dat.blockOf iblk; rw [A_eq]; try rfl)
theorem after21 (t : Fin (cfgM m hO).N) : (dats m hO 0 c).after 21 t = iblk m hO c 21 t := by dsimp only [dats]; try rfl
theorem before21 (t : Fin (cfgM m hO).N) (d) : (dats m hO 0 c).before 21 t d = iblk m hO c 21 t :=
  ((dats m hO 0 c).before_in_eq_fetched 21 rfl (fun _ => rfl) (fun _ _ _ => rfl) (fun t => by rw [after21]; unfold Dat.blockOf iblk; rw [A_eq]; try rfl) t d).trans
    (by unfold Dat.fetched Dat.blockOf iblk; rw [A_eq]; try rfl)
theorem after22 (t : Fin (cfgM m hO).N) : (dats m hO 0 c).after 22 t = iblk m hO c 22 t := by dsimp only [dats]; try rfl
theorem before22 (t : Fin (cfgM m hO).N) (d) : (dats m hO 0 c).before 22 t d = iblk m hO c 22 t :=
  ((dats m hO 0 c).before_in_eq_fetched 22 rfl (fun _ => rfl) (fun _ _ _ => rfl) (fun t => by rw [after22]; unfold Dat.blockOf iblk; rw [A_eq]; try rfl) t d).trans
    (by unfold Dat.fetched Dat.blockOf iblk; rw [A_eq]; try rfl)
theorem after23 (t : Fin (cfgM m hO).N) : (dats m hO 0 c).after 23 t = iblk m hO c 23 t := by dsimp only [dats]; try rfl
theorem before23 (t : Fin (cfgM m hO).N) (d) : (dats m hO 0 c).before 23 t d = iblk m hO c 23 t :=
  ((dats m hO 0 c).before_in_eq_fetched 23 rfl (fun _ => rfl) (fun _ _ _ => rfl) (fun t => by rw [after23]; unfold Dat.blockOf iblk; rw [A_eq]; try rfl) t d).trans
    (by unfold Dat.fetched Dat.blockOf iblk; rw [A_eq]; try rfl)
theorem after24 (t : Fin (cfgM m hO).N) : (dats m hO 0 c).after 24 t = iblk m hO c 24 t := by dsimp only [dats]; try rfl
theorem before24 (t : Fin (cfgM m hO).N) (d) : (dats m hO 0 c).before 24 t d = iblk m hO c 24 t :=
  ((dats m hO 0 c).before_in_eq_fetched 24 rfl (fun _ => rfl) (fun _ _ _ => rfl) (fun t => by rw [after24]; unfold Dat.blockOf iblk; rw [A_eq]; try rfl) t d).trans
    (by unfold Dat.fetched Dat.blockOf iblk; rw [A_eq]; try rfl)
theorem after25 (t : Fin (cfgM m hO).N) : (dats m hO 0 c).after 25 t = iblk m hO c 25 t := by dsimp only [dats]; try rfl
theorem before25 (t : Fin (cfgM m hO).N) (d) : (dats m hO 0 c).before 25 t d = iblk m hO c 25 t :=
  ((dats m hO 0 c).before_in_eq_fetched 25 rfl (fun _ => rfl) (fun _ _ _ => rfl) (fun t => by rw [after25]; unfold Dat.blockOf iblk; rw [A_eq]; try rfl) t d).trans
    (by unfold Dat.fetched Dat.blockOf iblk; rw [A_eq]; try rfl)
theorem after26 (t : Fin (cfgM m hO).N) : (dats m hO 0 c).after 26 t = iblk m hO c 26 t := by dsimp only [dats]; try rfl
theorem before26 (t : Fin (cfgM m hO).N) (d) : (dats m hO 0 c).before 26 t d = iblk m hO c 26 t :=
  ((dats m hO 0 c).before_in_eq_fetched 26 rfl (fun _ => rfl) (fun _ _ _ => rfl) (fun t => by rw [after26]; unfold Dat.blockOf iblk; rw [A_eq]; try rfl) t d).trans
    (by unfold Dat.fetched Dat.blockOf iblk; rw [A_eq]; try rfl)
theorem after27 (t : Fin (cfgM m hO).N) : (dats m hO 0 c).after 27 t = iblk m hO c 27 t := by dsimp only [dats]; try rfl
theorem before27 (t : Fin (cfgM m hO).N) (d) : (dats m hO 0 c).before 27 t d = iblk m hO c 27 t :=
  ((dats m hO 0 c).before_in_eq_fetched 27 rfl (fun _ => rfl) (fun _ _ _ => rfl) (fun t => by rw [after27]; unfold Dat.blockOf iblk; rw [A_eq]; try rfl) t d).trans
    (by unfold Dat.fetched Dat.blockOf iblk; rw [A_eq]; try rfl)
theorem after28 (t : Fin (cfgM m hO).N) : (dats m hO 0 c).after 28 t = iblk m hO c 28 t := by dsimp only [dats]; try rfl
theorem before28 (t : Fin (cfgM m hO).N) (d) : (dats m hO 0 c).before 28 t d = iblk m hO c 28 t :=
  ((dats m hO 0 c).before_in_eq_fetched 28 rfl (fun _ => rfl) (fun _ _ _ => rfl) (fun t => by rw [after28]; unfold Dat.blockOf iblk; rw [A_eq]; try rfl) t d).trans
    (by unfold Dat.fetched Dat.blockOf iblk; rw [A_eq]; try rfl)
theorem after29 (t : Fin (cfgM m hO).N) : (dats m hO 0 c).after 29 t = iblk m hO c 29 t := by dsimp only [dats]; try rfl
theorem before29 (t : Fin (cfgM m hO).N) (d) : (dats m hO 0 c).before 29 t d = iblk m hO c 29 t :=
  ((dats m hO 0 c).before_in_eq_fetched 29 rfl (fun _ => rfl) (fun _ _ _ => rfl) (fun t => by rw [after29]; unfold Dat.blockOf iblk; rw [A_eq]; try rfl) t d).trans
    (by unfold Dat.fetched Dat.blockOf iblk; rw [A_eq]; try rfl)
theorem after30 (t : Fin (cfgM m hO).N) : (dats m hO 0 c).after 30 t = iblk m hO c 30 t := by dsimp only [dats]; try rfl
theorem before30 (t : Fin (cfgM m hO).N) (d) : (dats m hO 0 c).before 30 t d = iblk m hO c 30 t :=
  ((dats m hO 0 c).before_in_eq_fetched 30 rfl (fun _ => rfl) (fun _ _ _ => rfl) (fun t => by rw [after30]; unfold Dat.blockOf iblk; rw [A_eq]; try rfl) t d).trans
    (by unfold Dat.fetched Dat.blockOf iblk; rw [A_eq]; try rfl)
theorem after31 (t : Fin (cfgM m hO).N) : (dats m hO 0 c).after 31 t = iblk m hO c 31 t := by dsimp only [dats]; try rfl
theorem before31 (t : Fin (cfgM m hO).N) (d) : (dats m hO 0 c).before 31 t d = iblk m hO c 31 t :=
  ((dats m hO 0 c).before_in_eq_fetched 31 rfl (fun _ => rfl) (fun _ _ _ => rfl) (fun t => by rw [after31]; unfold Dat.blockOf iblk; rw [A_eq]; try rfl) t d).trans
    (by unfold Dat.fetched Dat.blockOf iblk; rw [A_eq]; try rfl)
theorem after32 (t : Fin (cfgM m hO).N) : (dats m hO 0 c).after 32 t = iblk m hO c 32 t := by dsimp only [dats]; try rfl
theorem before32 (t : Fin (cfgM m hO).N) (d) : (dats m hO 0 c).before 32 t d = iblk m hO c 32 t :=
  ((dats m hO 0 c).before_in_eq_fetched 32 rfl (fun _ => rfl) (fun _ _ _ => rfl) (fun t => by rw [after32]; unfold Dat.blockOf iblk; rw [A_eq]; try rfl) t d).trans
    (by unfold Dat.fetched Dat.blockOf iblk; rw [A_eq]; try rfl)
theorem after33 (t : Fin (cfgM m hO).N) : (dats m hO 0 c).after 33 t = iblk m hO c 33 t := by dsimp only [dats]; try rfl
theorem before33 (t : Fin (cfgM m hO).N) (d) : (dats m hO 0 c).before 33 t d = iblk m hO c 33 t :=
  ((dats m hO 0 c).before_in_eq_fetched 33 rfl (fun _ => rfl) (fun _ _ _ => rfl) (fun t => by rw [after33]; unfold Dat.blockOf iblk; rw [A_eq]; try rfl) t d).trans
    (by unfold Dat.fetched Dat.blockOf iblk; rw [A_eq]; try rfl)
theorem after34 (t : Fin (cfgM m hO).N) : (dats m hO 0 c).after 34 t = iblk m hO c 34 t := by dsimp only [dats]; try rfl
theorem before34 (t : Fin (cfgM m hO).N) (d) : (dats m hO 0 c).before 34 t d = iblk m hO c 34 t :=
  ((dats m hO 0 c).before_in_eq_fetched 34 rfl (fun _ => rfl) (fun _ _ _ => rfl) (fun t => by rw [after34]; unfold Dat.blockOf iblk; rw [A_eq]; try rfl) t d).trans
    (by unfold Dat.fetched Dat.blockOf iblk; rw [A_eq]; try rfl)
theorem after35 (t : Fin (cfgM m hO).N) : (dats m hO 0 c).after 35 t = iblk m hO c 35 t := by dsimp only [dats]; try rfl
theorem before35 (t : Fin (cfgM m hO).N) (d) : (dats m hO 0 c).before 35 t d = iblk m hO c 35 t :=
  ((dats m hO 0 c).before_in_eq_fetched 35 rfl (fun _ => rfl) (fun _ _ _ => rfl) (fun t => by rw [after35]; unfold Dat.blockOf iblk; rw [A_eq]; try rfl) t d).trans
    (by unfold Dat.fetched Dat.blockOf iblk; rw [A_eq]; try rfl)
theorem after36 (t : Fin (cfgM m hO).N) : (dats m hO 0 c).after 36 t = iblk m hO c 36 t := by dsimp only [dats]; try rfl
theorem before36 (t : Fin (cfgM m hO).N) (d) : (dats m hO 0 c).before 36 t d = iblk m hO c 36 t :=
  ((dats m hO 0 c).before_in_eq_fetched 36 rfl (fun _ => rfl) (fun _ _ _ => rfl) (fun t => by rw [after36]; unfold Dat.blockOf iblk; rw [A_eq]; try rfl) t d).trans
    (by unfold Dat.fetched Dat.blockOf iblk; rw [A_eq]; try rfl)
theorem after37 (t : Fin (cfgM m hO).N) : (dats m hO 0 c).after 37 t = iblk m hO c 37 t := by dsimp only [dats]; try rfl
theorem before37 (t : Fin (cfgM m hO).N) (d) : (dats m hO 0 c).before 37 t d = iblk m hO c 37 t :=
  ((dats m hO 0 c).before_in_eq_fetched 37 rfl (fun _ => rfl) (fun _ _ _ => rfl) (fun t => by rw [after37]; unfold Dat.blockOf iblk; rw [A_eq]; try rfl) t d).trans
    (by unfold Dat.fetched Dat.blockOf iblk; rw [A_eq]; try rfl)
theorem after38 (t : Fin (cfgM m hO).N) : (dats m hO 0 c).after 38 t = iblk m hO c 38 t := by dsimp only [dats]; try rfl
theorem before38 (t : Fin (cfgM m hO).N) (d) : (dats m hO 0 c).before 38 t d = iblk m hO c 38 t :=
  ((dats m hO 0 c).before_in_eq_fetched 38 rfl (fun _ => rfl) (fun _ _ _ => rfl) (fun t => by rw [after38]; unfold Dat.blockOf iblk; rw [A_eq]; try rfl) t d).trans
    (by unfold Dat.fetched Dat.blockOf iblk; rw [A_eq]; try rfl)
theorem after39 (t : Fin (cfgM m hO).N) : (dats m hO 0 c).after 39 t = iblk m hO c 39 t := by dsimp only [dats]; try rfl
theorem before39 (t : Fin (cfgM m hO).N) (d) : (dats m hO 0 c).before 39 t d = iblk m hO c 39 t :=
  ((dats m hO 0 c).before_in_eq_fetched 39 rfl (fun _ => rfl) (fun _ _ _ => rfl) (fun t => by rw [after39]; unfold Dat.blockOf iblk; rw [A_eq]; try rfl) t d).trans
    (by unfold Dat.fetched Dat.blockOf iblk; rw [A_eq]; try rfl)
theorem after40 (t : Fin (cfgM m hO).N) : (dats m hO 0 c).after 40 t = iblk m hO c 40 t := by dsimp only [dats]; try rfl
theorem before40 (t : Fin (cfgM m hO).N) (d) : (dats m hO 0 c).before 40 t d = iblk m hO c 40 t :=
  ((dats m hO 0 c).before_in_eq_fetched 40 rfl (fun _ => rfl) (fun _ _ _ => rfl) (fun t => by rw [after40]; unfold Dat.blockOf iblk; rw [A_eq]; try rfl) t d).trans
    (by unfold Dat.fetched Dat.blockOf iblk; rw [A_eq]; try rfl)
theorem after41 (t : Fin (cfgM m hO).N) : (dats m hO 0 c).after 41 t = iblk m hO c 41 t := by dsimp only [dats]; try rfl
theorem before41 (t : Fin (cfgM m hO).N) (d) : (dats m hO 0 c).before 41 t d = iblk m hO c 41 t :=
  ((dats m hO 0 c).before_in_eq_fetched 41 rfl (fun _ => rfl) (fun _ _ _ => rfl) (fun t => by rw [after41]; unfold Dat.blockOf iblk; rw [A_eq]; try rfl) t d).trans
    (by unfold Dat.fetched Dat.blockOf iblk; rw [A_eq]; try rfl)
theorem after42 (t : Fin (cfgM m hO).N) : (dats m hO 0 c).after 42 t = iblk m hO c 42 t := by dsimp only [dats]; try rfl
theorem before42 (t : Fin (cfgM m hO).N) (d) : (dats m hO 0 c).before 42 t d = iblk m hO c 42 t :=
  ((dats m hO 0 c).before_in_eq_fetched 42 rfl (fun _ => rfl) (fun _ _ _ => rfl) (fun t => by rw [after42]; unfold Dat.blockOf iblk; rw [A_eq]; try rfl) t d).trans
    (by unfold Dat.fetched Dat.blockOf iblk; rw [A_eq]; try rfl)
theorem after43 (t : Fin (cfgM m hO).N) : (dats m hO 0 c).after 43 t = iblk m hO c 43 t := by dsimp only [dats]; try rfl
theorem before43 (t : Fin (cfgM m hO).N) (d) : (dats m hO 0 c).before 43 t d = iblk m hO c 43 t :=
  ((dats m hO 0 c).before_in_eq_fetched 43 rfl (fun _ => rfl) (fun _ _ _ => rfl) (fun t => by rw [after43]; unfold Dat.blockOf iblk; rw [A_eq]; try rfl) t d).trans
    (by unfold Dat.fetched Dat.blockOf iblk; rw [A_eq]; try rfl)
theorem after44 (t : Fin (cfgM m hO).N) : (dats m hO 0 c).after 44 t = iblk m hO c 44 t := by dsimp only [dats]; try rfl
theorem before44 (t : Fin (cfgM m hO).N) (d) : (dats m hO 0 c).before 44 t d = iblk m hO c 44 t :=
  ((dats m hO 0 c).before_in_eq_fetched 44 rfl (fun _ => rfl) (fun _ _ _ => rfl) (fun t => by rw [after44]; unfold Dat.blockOf iblk; rw [A_eq]; try rfl) t d).trans
    (by unfold Dat.fetched Dat.blockOf iblk; rw [A_eq]; try rfl)
theorem after45 (t : Fin (cfgM m hO).N) : (dats m hO 0 c).after 45 t = iblk m hO c 45 t := by dsimp only [dats]; try rfl
theorem before45 (t : Fin (cfgM m hO).N) (d) : (dats m hO 0 c).before 45 t d = iblk m hO c 45 t :=
  ((dats m hO 0 c).before_in_eq_fetched 45 rfl (fun _ => rfl) (fun _ _ _ => rfl) (fun t => by rw [after45]; unfold Dat.blockOf iblk; rw [A_eq]; try rfl) t d).trans
    (by unfold Dat.fetched Dat.blockOf iblk; rw [A_eq]; try rfl)
theorem after46 (t : Fin (cfgM m hO).N) : (dats m hO 0 c).after 46 t = iblk m hO c 46 t := by dsimp only [dats]; try rfl
theorem before46 (t : Fin (cfgM m hO).N) (d) : (dats m hO 0 c).before 46 t d = iblk m hO c 46 t :=
  ((dats m hO 0 c).before_in_eq_fetched 46 rfl (fun _ => rfl) (fun _ _ _ => rfl) (fun t => by rw [after46]; unfold Dat.blockOf iblk; rw [A_eq]; try rfl) t d).trans
    (by unfold Dat.fetched Dat.blockOf iblk; rw [A_eq]; try rfl)
theorem after47 (t : Fin (cfgM m hO).N) : (dats m hO 0 c).after 47 t = iblk m hO c 47 t := by dsimp only [dats]; try rfl
theorem before47 (t : Fin (cfgM m hO).N) (d) : (dats m hO 0 c).before 47 t d = iblk m hO c 47 t :=
  ((dats m hO 0 c).before_in_eq_fetched 47 rfl (fun _ => rfl) (fun _ _ _ => rfl) (fun t => by rw [after47]; unfold Dat.blockOf iblk; rw [A_eq]; try rfl) t d).trans
    (by unfold Dat.fetched Dat.blockOf iblk; rw [A_eq]; try rfl)
theorem after48 (t : Fin (cfgM m hO).N) : (dats m hO 0 c).after 48 t = iblk m hO c 48 t := by dsimp only [dats]; try rfl
theorem before48 (t : Fin (cfgM m hO).N) (d) : (dats m hO 0 c).before 48 t d = iblk m hO c 48 t :=
  ((dats m hO 0 c).before_in_eq_fetched 48 rfl (fun _ => rfl) (fun _ _ _ => rfl) (fun t => by rw [after48]; unfold Dat.blockOf iblk; rw [A_eq]; try rfl) t d).trans
    (by unfold Dat.fetched Dat.blockOf iblk; rw [A_eq]; try rfl)
theorem after49 (t : Fin (cfgM m hO).N) : (dats m hO 0 c).after 49 t = iblk m hO c 49 t := by dsimp only [dats]; try rfl
theorem before49 (t : Fin (cfgM m hO).N) (d) : (dats m hO 0 c).before 49 t d = iblk m hO c 49 t :=
  ((dats m hO 0 c).before_in_eq_fetched 49 rfl (fun _ => rfl) (fun _ _ _ => rfl) (fun t => by rw [after49]; unfold Dat.blockOf iblk; rw [A_eq]; try rfl) t d).trans
    (by unfold Dat.fetched Dat.blockOf iblk; rw [A_eq]; try rfl)
theorem after50 (t : Fin (cfgM m hO).N) : (dats m hO 0 c).after 50 t = iblk m hO c 50 t := by dsimp only [dats]; try rfl
theorem before50 (t : Fin (cfgM m hO).N) (d) : (dats m hO 0 c).before 50 t d = iblk m hO c 50 t :=
  ((dats m hO 0 c).before_in_eq_fetched 50 rfl (fun _ => rfl) (fun _ _ _ => rfl) (fun t => by rw [after50]; unfold Dat.blockOf iblk; rw [A_eq]; try rfl) t d).trans
    (by unfold Dat.fetched Dat.blockOf iblk; rw [A_eq]; try rfl)
theorem after51 (t : Fin (cfgM m hO).N) : (dats m hO 0 c).after 51 t = iblk m hO c 51 t := by dsimp only [dats]; try rfl
theorem before51 (t : Fin (cfgM m hO).N) (d) : (dats m hO 0 c).before 51 t d = iblk m hO c 51 t :=
  ((dats m hO 0 c).before_in_eq_fetched 51 rfl (fun _ => rfl) (fun _ _ _ => rfl) (fun t => by rw [after51]; unfold Dat.blockOf iblk; rw [A_eq]; try rfl) t d).trans
    (by unfold Dat.fetched Dat.blockOf iblk; rw [A_eq]; try rfl)
theorem after52 (t : Fin (cfgM m hO).N) : (dats m hO 0 c).after 52 t = iblk m hO c 52 t := by dsimp only [dats]; try rfl
theorem before52 (t : Fin (cfgM m hO).N) (d) : (dats m hO 0 c).before 52 t d = iblk m hO c 52 t :=
  ((dats m hO 0 c).before_in_eq_fetched 52 rfl (fun _ => rfl) (fun _ _ _ => rfl) (fun t => by rw [after52]; unfold Dat.blockOf iblk; rw [A_eq]; try rfl) t d).trans
    (by unfold Dat.fetched Dat.blockOf iblk; rw [A_eq]; try rfl)
theorem after53 (t : Fin (cfgM m hO).N) : (dats m hO 0 c).after 53 t = iblk m hO c 53 t := by dsimp only [dats]; try rfl
theorem before53 (t : Fin (cfgM m hO).N) (d) : (dats m hO 0 c).before 53 t d = iblk m hO c 53 t :=
  ((dats m hO 0 c).before_in_eq_fetched 53 rfl (fun _ => rfl) (fun _ _ _ => rfl) (fun t => by rw [after53]; unfold Dat.blockOf iblk; rw [A_eq]; try rfl) t d).trans
    (by unfold Dat.fetched Dat.blockOf iblk; rw [A_eq]; try rfl)
theorem after54 (t : Fin (cfgM m hO).N) : (dats m hO 0 c).after 54 t = iblk m hO c 54 t := by dsimp only [dats]; try rfl
theorem before54 (t : Fin (cfgM m hO).N) (d) : (dats m hO 0 c).before 54 t d = iblk m hO c 54 t :=
  ((dats m hO 0 c).before_in_eq_fetched 54 rfl (fun _ => rfl) (fun _ _ _ => rfl) (fun t => by rw [after54]; unfold Dat.blockOf iblk; rw [A_eq]; try rfl) t d).trans
    (by unfold Dat.fetched Dat.blockOf iblk; rw [A_eq]; try rfl)
theorem after55 (t : Fin (cfgM m hO).N) : (dats m hO 0 c).after 55 t = iblk m hO c 55 t := by dsimp only [dats]; try rfl
theorem before55 (t : Fin (cfgM m hO).N) (d) : (dats m hO 0 c).before 55 t d = iblk m hO c 55 t :=
  ((dats m hO 0 c).before_in_eq_fetched 55 rfl (fun _ => rfl) (fun _ _ _ => rfl) (fun t => by rw [after55]; unfold Dat.blockOf iblk; rw [A_eq]; try rfl) t d).trans
    (by unfold Dat.fetched Dat.blockOf iblk; rw [A_eq]; try rfl)
theorem after56 (t : Fin (cfgM m hO).N) : (dats m hO 0 c).after 56 t = iblk m hO c 56 t := by dsimp only [dats]; try rfl
theorem before56 (t : Fin (cfgM m hO).N) (d) : (dats m hO 0 c).before 56 t d = iblk m hO c 56 t :=
  ((dats m hO 0 c).before_in_eq_fetched 56 rfl (fun _ => rfl) (fun _ _ _ => rfl) (fun t => by rw [after56]; unfold Dat.blockOf iblk; rw [A_eq]; try rfl) t d).trans
    (by unfold Dat.fetched Dat.blockOf iblk; rw [A_eq]; try rfl)
theorem after57 (t : Fin (cfgM m hO).N) : (dats m hO 0 c).after 57 t = iblk m hO c 57 t := by dsimp only [dats]; try rfl
theorem before57 (t : Fin (cfgM m hO).N) (d) : (dats m hO 0 c).before 57 t d = iblk m hO c 57 t :=
  ((dats m hO 0 c).before_in_eq_fetched 57 rfl (fun _ => rfl) (fun _ _ _ => rfl) (fun t => by rw [after57]; unfold Dat.blockOf iblk; rw [A_eq]; try rfl) t d).trans
    (by unfold Dat.fetched Dat.blockOf iblk; rw [A_eq]; try rfl)
theorem after58 (t : Fin (cfgM m hO).N) : (dats m hO 0 c).after 58 t = iblk m hO c 58 t := by dsimp only [dats]; try rfl
theorem before58 (t : Fin (cfgM m hO).N) (d) : (dats m hO 0 c).before 58 t d = iblk m hO c 58 t :=
  ((dats m hO 0 c).before_in_eq_fetched 58 rfl (fun _ => rfl) (fun _ _ _ => rfl) (fun t => by rw [after58]; unfold Dat.blockOf iblk; rw [A_eq]; try rfl) t d).trans
    (by unfold Dat.fetched Dat.blockOf iblk; rw [A_eq]; try rfl)
theorem after59 (t : Fin (cfgM m hO).N) : (dats m hO 0 c).after 59 t = iblk m hO c 59 t := by dsimp only [dats]; try rfl
theorem before59 (t : Fin (cfgM m hO).N) (d) : (dats m hO 0 c).before 59 t d = iblk m hO c 59 t :=
  ((dats m hO 0 c).before_in_eq_fetched 59 rfl (fun _ => rfl) (fun _ _ _ => rfl) (fun t => by rw [after59]; unfold Dat.blockOf iblk; rw [A_eq]; try rfl) t d).trans
    (by unfold Dat.fetched Dat.blockOf iblk; rw [A_eq]; try rfl)
theorem after60 (t : Fin (cfgM m hO).N) : (dats m hO 0 c).after 60 t = iblk m hO c 60 t := by dsimp only [dats]; try rfl
theorem before60 (t : Fin (cfgM m hO).N) (d) : (dats m hO 0 c).before 60 t d = iblk m hO c 60 t :=
  ((dats m hO 0 c).before_in_eq_fetched 60 rfl (fun _ => rfl) (fun _ _ _ => rfl) (fun t => by rw [after60]; unfold Dat.blockOf iblk; rw [A_eq]; try rfl) t d).trans
    (by unfold Dat.fetched Dat.blockOf iblk; rw [A_eq]; try rfl)
theorem const3 (t t' : Fin (cfgM m hO).N) : iblk m hO c 3 t = iblk m hO c 3 t' := rfl
theorem const4 (t t' : Fin (cfgM m hO).N) : iblk m hO c 4 t = iblk m hO c 4 t' := rfl
theorem const5 (t t' : Fin (cfgM m hO).N) : iblk m hO c 5 t = iblk m hO c 5 t' := rfl
theorem const6 (t t' : Fin (cfgM m hO).N) : iblk m hO c 6 t = iblk m hO c 6 t' := rfl
theorem const7 (t t' : Fin (cfgM m hO).N) : iblk m hO c 7 t = iblk m hO c 7 t' := rfl
theorem const8 (t t' : Fin (cfgM m hO).N) : iblk m hO c 8 t = iblk m hO c 8 t' := rfl
theorem const9 (t t' : Fin (cfgM m hO).N) : iblk m hO c 9 t = iblk m hO c 9 t' := rfl
theorem const10 (t t' : Fin (cfgM m hO).N) : iblk m hO c 10 t = iblk m hO c 10 t' := rfl

end Cert.Finish

end
-- ==== Proof.Finish.Pages.lean ====
/-
  The precondition of the page table, read as the launch needs it: every page that the table names lies in the pool of
  5120 pages, so every page window's block lies inside its array.
-/
module

public import proofs.«01_k».proof.Defs
public import proofs.«01_k».proof.Proof.Finish.Setup

@[expose] public section

set_option maxRecDepth 100000

noncomputable section

namespace Cert.Finish

open Idealize.ShloMosaic Idealize.ShloMosaic.TcCoe
open Cert.KernelIdeal Cert.KernelIdeal.Gen

instance : Cert.Pre_pages_in_pool.Facts := ⟨by decide⟩
instance : Cert.On_prompt_result.Facts := ⟨by decide, by decide⟩

variable {F : FTy → Type} [FloatOps F]

/-- A page below 5120 is a block of the pool: the keys' and the values', -/
theorem inb4 (n : ℕ) (h : n < 5120) : ∀ a : Fin 4, ((![n, 0, 0, 0] : Fin 4 → ℕ) a + 1) * S1x8x64x128.size a ≤ S5120x8x64x128.size a := by
  intro a
  fin_cases a
  · show (n + 1) * 1 ≤ 5120; omega
  · show (0 + 1) * 8 ≤ 8; omega
  · show (0 + 1) * 64 ≤ 64; omega
  · show (0 + 1) * 128 ≤ 128; omega

/-- and the forget gates'. -/
theorem inb3 (n : ℕ) (h : n < 5120) : ∀ a : Fin 3, ((![n, 0, 0] : Fin 3 → ℕ) a + 1) * S1x8x128.size a ≤ S5120x8x128.size a := by
  intro a
  fin_cases a
  · show (n + 1) * 1 ≤ 5120; omega
  · show (0 + 1) * 8 ≤ 8; omega
  · show (0 + 1) * 128 ≤ 128; omega

/-- Every word of the table, read as a page. -/
def Small (pf : pre0.Contents (Elt F)) : Prop := ∀ x : S32x128.Idx, (pf 0 x : BitVec 32).toNat < 5120

theorem small_at (pf : pre0.Contents (Elt F)) (h : Small pf) (r) (hn) : (pf.at 0 r hn : BitVec 32).toNat < 5120 := h _

theorem ok_of_small (pf : pre0.Contents (Elt F)) (h : Small pf) : ok0 pf :=
  ⟨
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩⟩

/-- A word between 0 and 5119, as signed words compare. -/
theorem word_small (w : BitVec 32) (h : IntOp.andi (IntOp.cmpi .sge w 0#32) (IntOp.cmpi .slt w 5120#32) = 1#1) : w.toNat < 5120 := by
  have key : ∀ a b : Bool, BitVec.ofBool a &&& BitVec.ofBool b = 1#1 → a = true ∧ b = true := by decide
  obtain ⟨h1, h2⟩ := key ((0#32).sle w) (w.slt 5120#32) h
  rw [BitVec.sle, decide_eq_true_eq] at h1
  rw [BitVec.slt, decide_eq_true_eq] at h2
  have e0 : (0#32).toInt = 0 := by decide
  have e1 : (5120#32).toInt = 5120 := by decide
  rw [e0] at h1
  rw [e1] at h2
  rw [BitVec.toInt_eq_toNat_cond] at h1 h2
  have hw := w.isLt
  split at h1 <;> omega

/-- The precondition's value, all ones, bounds every word of the table. -/
theorem small_of_fn {a0 a1 a2 a3 a4 a5 a6 a7 a8 a9 a10 a11 a12 a13 a14 a15 a16 a17 a18}
    (h : Cert.Pre_pages_in_pool.fn (F := F) a0 a1 a2 a3 a4 a5 a6 a7 a8 a9 a10 a11 a12 a13 a14 a15 a16 a17 a18 = fun _ => 1#1)
    (x : S32x128.Idx) : (a11 x).toNat < 5120 :=
  word_small _ (congrFun h x)

/-- So the pages of a launch memory's table lie in the pool. -/
theorem ok_of_words (m : (ℓ : Loc nD τ sig) → Buf (Elt F) ℓ)
    (h : ∀ x : S32x128.Idx, (m (((0 : Dev nD) : Thread nD τ).loc main_arg11) x : BitVec 32).toNat < 5120) : Ok m :=
  ok_of_small _ fun x => by
    have e : tbl m 0 = m (((0 : Dev nD) : Thread nD τ).loc main_arg11) := V_main_arg11 m 0
    rw [e]
    exact h x

/-- The claims' precondition gives it. -/
theorem ok_ideal (m : (ℓ : Loc nD τ sig) → Buf (Elt Ideal) ℓ) (h : Cert.Pre_KernelIdeal m) : Ok m :=
  ok_of_words m (small_of_fn (h 0))

end Cert.Finish

end
-- ==== Proof.Finish.Body.lean ====
module

public import proofs.«01_k».proof.Proof.Finish.Setup
public import Idealize.ShloMosaic.Lib.Pipeline.DatRel
public import Idealize.ShloMosaic.Lib.Pipeline.ArrRel
public import Idealize.ShloMosaic.Lib.Pipeline.FrameSuffix
public import Idealize.ShloMosaic.Lib.WordCmp

/-! # One grid point: its memrefs and what they hold -/

@[expose] public section

set_option maxRecDepth 16384
set_option maxHeartbeats 4000000

noncomputable section

namespace Cert.Finish

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal Cert.KernelIdeal.Gen

variable {F : FTy → Type} [FloatOps F]
variable (m : (ℓ : Loc nD τ sig) → Buf (Elt F) ℓ) (ρ : Dev nD → PrngReg) (hO : Ok m) (c : Dev nD)

/-- Window `w`'s staging buffer at point `t`. -/
abbrev stg (t : Fin (cfgM m hO).N) (w : Fin (cfgM m hO).W) := ((cfgM m hO).win w).stage ((cfgM m hO).slots t w)

/-- The memrefs of a grid point. -/
def memsAt (t : Fin (cfgM m hO).N) : Mems :=
  { x := stg m hO t 0, a := stg m hO t 1, p := stg m hO t 2, wo := stg m hO t 3, g1 := stg m hO t 4, b1 := stg m hO t 5, wg := stg m hO t 6, wu := stg m hO t 7, wd := stg m hO t 8, g2 := stg m hO t 9, b2 := stg m hO t 10, qkv := stg m hO t 11, lfn := stg m hO t 12, k := ![stg m hO t 13, stg m hO t 14, stg m hO t 15, stg m hO t 16, stg m hO t 17, stg m hO t 18, stg m hO t 19, stg m hO t 20, stg m hO t 21, stg m hO t 22, stg m hO t 23, stg m hO t 24, stg m hO t 25, stg m hO t 26, stg m hO t 27, stg m hO t 28], v := ![stg m hO t 29, stg m hO t 30, stg m hO t 31, stg m hO t 32, stg m hO t 33, stg m hO t 34, stg m hO t 35, stg m hO t 36, stg m hO t 37, stg m hO t 38, stg m hO t 39, stg m hO t 40, stg m hO t 41, stg m hO t 42, stg m hO t 43, stg m hO t 44], lf := ![stg m hO t 45, stg m hO t 46, stg m hO t 47, stg m hO t 48, stg m hO t 49, stg m hO t 50, stg m hO t 51, stg m hO t 52, stg m hO t 53, stg m hO t 54, stg m hO t 55, stg m hO t 56, stg m hO t 57, stg m hO t 58, stg m hO t 59, stg m hO t 60], y := stg m hO t 61, so := stg m hO t 62, x1 := sc_x1, x1b := sc_x1b, ffn := sc_ffn, qb := sc_qb, m := sc_m, l := sc_l, acc := sc_acc, g := sc_g, hx1b := Memref.isWhole_whole _ }

abbrev Vals : Type := (w : Fin (cfgM m hO).W) → ((cfgM m hO).win w).block.Idx → Elt F ((cfgM m hO).win w).elt

def stOf (Y : Vals m hO) (s : Sc F) : St F :=
  { x := Y 0, a := Y 1, p := Y 2, wo := Y 3, g1 := Y 4, b1 := Y 5, wg := Y 6, wu := Y 7, wd := Y 8, g2 := Y 9, b2 := Y 10, qkv := Y 11, lfn := Y 12, k := ![Y 13, Y 14, Y 15, Y 16, Y 17, Y 18, Y 19, Y 20, Y 21, Y 22, Y 23, Y 24, Y 25, Y 26, Y 27, Y 28], v := ![Y 29, Y 30, Y 31, Y 32, Y 33, Y 34, Y 35, Y 36, Y 37, Y 38, Y 39, Y 40, Y 41, Y 42, Y 43, Y 44], lf := ![Y 45, Y 46, Y 47, Y 48, Y 49, Y 50, Y 51, Y 52, Y 53, Y 54, Y 55, Y 56, Y 57, Y 58, Y 59, Y 60], y := Y 61, so := Y 62, x1 := s.x1, x1b := s.x1b, ffn := s.ffn, qb := s.qb, m := s.m, l := s.l, acc := s.acc, g := s.g }

def scOf (σ : St F) : Sc F := { x1 := σ.x1, x1b := σ.x1b, ffn := σ.ffn, qb := σ.qb, m := σ.m, l := σ.l, acc := σ.acc, g := σ.g }

def valOf (σ : St F) : Vals m hO := fun w => match w with
  | ⟨0, _⟩ => σ.x
  | ⟨1, _⟩ => σ.a
  | ⟨2, _⟩ => σ.p
  | ⟨3, _⟩ => σ.wo
  | ⟨4, _⟩ => σ.g1
  | ⟨5, _⟩ => σ.b1
  | ⟨6, _⟩ => σ.wg
  | ⟨7, _⟩ => σ.wu
  | ⟨8, _⟩ => σ.wd
  | ⟨9, _⟩ => σ.g2
  | ⟨10, _⟩ => σ.b2
  | ⟨11, _⟩ => σ.qkv
  | ⟨12, _⟩ => σ.lfn
  | ⟨13, _⟩ => σ.k 0
  | ⟨14, _⟩ => σ.k 1
  | ⟨15, _⟩ => σ.k 2
  | ⟨16, _⟩ => σ.k 3
  | ⟨17, _⟩ => σ.k 4
  | ⟨18, _⟩ => σ.k 5
  | ⟨19, _⟩ => σ.k 6
  | ⟨20, _⟩ => σ.k 7
  | ⟨21, _⟩ => σ.k 8
  | ⟨22, _⟩ => σ.k 9
  | ⟨23, _⟩ => σ.k 10
  | ⟨24, _⟩ => σ.k 11
  | ⟨25, _⟩ => σ.k 12
  | ⟨26, _⟩ => σ.k 13
  | ⟨27, _⟩ => σ.k 14
  | ⟨28, _⟩ => σ.k 15
  | ⟨29, _⟩ => σ.v 0
  | ⟨30, _⟩ => σ.v 1
  | ⟨31, _⟩ => σ.v 2
  | ⟨32, _⟩ => σ.v 3
  | ⟨33, _⟩ => σ.v 4
  | ⟨34, _⟩ => σ.v 5
  | ⟨35, _⟩ => σ.v 6
  | ⟨36, _⟩ => σ.v 7
  | ⟨37, _⟩ => σ.v 8
  | ⟨38, _⟩ => σ.v 9
  | ⟨39, _⟩ => σ.v 10
  | ⟨40, _⟩ => σ.v 11
  | ⟨41, _⟩ => σ.v 12
  | ⟨42, _⟩ => σ.v 13
  | ⟨43, _⟩ => σ.v 14
  | ⟨44, _⟩ => σ.v 15
  | ⟨45, _⟩ => σ.lf 0
  | ⟨46, _⟩ => σ.lf 1
  | ⟨47, _⟩ => σ.lf 2
  | ⟨48, _⟩ => σ.lf 3
  | ⟨49, _⟩ => σ.lf 4
  | ⟨50, _⟩ => σ.lf 5
  | ⟨51, _⟩ => σ.lf 6
  | ⟨52, _⟩ => σ.lf 7
  | ⟨53, _⟩ => σ.lf 8
  | ⟨54, _⟩ => σ.lf 9
  | ⟨55, _⟩ => σ.lf 10
  | ⟨56, _⟩ => σ.lf 11
  | ⟨57, _⟩ => σ.lf 12
  | ⟨58, _⟩ => σ.lf 13
  | ⟨59, _⟩ => σ.lf 14
  | ⟨60, _⟩ => σ.lf 15
  | ⟨61, _⟩ => σ.y
  | ⟨62, _⟩ => σ.so
  | ⟨_ + 63, h⟩ => absurd h (Nat.not_lt.2 (Nat.le_add_left _ _))

theorem all63 {P : Fin 63 → Prop} (h : P 0 ∧ P 1 ∧ P 2 ∧ P 3 ∧ P 4 ∧ P 5 ∧ P 6 ∧ P 7 ∧ P 8 ∧ P 9 ∧ P 10 ∧ P 11 ∧ P 12 ∧ P 13 ∧ P 14 ∧ P 15 ∧ P 16 ∧ P 17 ∧ P 18 ∧ P 19 ∧ P 20 ∧ P 21 ∧ P 22 ∧ P 23 ∧ P 24 ∧ P 25 ∧ P 26 ∧ P 27 ∧ P 28 ∧ P 29 ∧ P 30 ∧ P 31 ∧ P 32 ∧ P 33 ∧ P 34 ∧ P 35 ∧ P 36 ∧ P 37 ∧ P 38 ∧ P 39 ∧ P 40 ∧ P 41 ∧ P 42 ∧ P 43 ∧ P 44 ∧ P 45 ∧ P 46 ∧ P 47 ∧ P 48 ∧ P 49 ∧ P 50 ∧ P 51 ∧ P 52 ∧ P 53 ∧ P 54 ∧ P 55 ∧ P 56 ∧ P 57 ∧ P 58 ∧ P 59 ∧ P 60 ∧ P 61 ∧ P 62) : ∀ w, P w := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62⟩ := h
  intro w
  match w with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7
  | ⟨8, _⟩ => exact h8
  | ⟨9, _⟩ => exact h9
  | ⟨10, _⟩ => exact h10
  | ⟨11, _⟩ => exact h11
  | ⟨12, _⟩ => exact h12
  | ⟨13, _⟩ => exact h13
  | ⟨14, _⟩ => exact h14
  | ⟨15, _⟩ => exact h15
  | ⟨16, _⟩ => exact h16
  | ⟨17, _⟩ => exact h17
  | ⟨18, _⟩ => exact h18
  | ⟨19, _⟩ => exact h19
  | ⟨20, _⟩ => exact h20
  | ⟨21, _⟩ => exact h21
  | ⟨22, _⟩ => exact h22
  | ⟨23, _⟩ => exact h23
  | ⟨24, _⟩ => exact h24
  | ⟨25, _⟩ => exact h25
  | ⟨26, _⟩ => exact h26
  | ⟨27, _⟩ => exact h27
  | ⟨28, _⟩ => exact h28
  | ⟨29, _⟩ => exact h29
  | ⟨30, _⟩ => exact h30
  | ⟨31, _⟩ => exact h31
  | ⟨32, _⟩ => exact h32
  | ⟨33, _⟩ => exact h33
  | ⟨34, _⟩ => exact h34
  | ⟨35, _⟩ => exact h35
  | ⟨36, _⟩ => exact h36
  | ⟨37, _⟩ => exact h37
  | ⟨38, _⟩ => exact h38
  | ⟨39, _⟩ => exact h39
  | ⟨40, _⟩ => exact h40
  | ⟨41, _⟩ => exact h41
  | ⟨42, _⟩ => exact h42
  | ⟨43, _⟩ => exact h43
  | ⟨44, _⟩ => exact h44
  | ⟨45, _⟩ => exact h45
  | ⟨46, _⟩ => exact h46
  | ⟨47, _⟩ => exact h47
  | ⟨48, _⟩ => exact h48
  | ⟨49, _⟩ => exact h49
  | ⟨50, _⟩ => exact h50
  | ⟨51, _⟩ => exact h51
  | ⟨52, _⟩ => exact h52
  | ⟨53, _⟩ => exact h53
  | ⟨54, _⟩ => exact h54
  | ⟨55, _⟩ => exact h55
  | ⟨56, _⟩ => exact h56
  | ⟨57, _⟩ => exact h57
  | ⟨58, _⟩ => exact h58
  | ⟨59, _⟩ => exact h59
  | ⟨60, _⟩ => exact h60
  | ⟨61, _⟩ => exact h61
  | ⟨62, _⟩ => exact h62
  | ⟨_ + 63, h⟩ => exact absurd h (Nat.not_lt.2 (Nat.le_add_left _ _))

/-- The two results' windows: what the body leaves there is held to `Rl`. -/
def fgt (w : Fin (cfgM m hO).W) : Bool := decide (61 ≤ w.val)

/-- At a tile's last point the result's window holds the tile's rows. -/
def Rl : (w : Fin (cfgM m hO).W) → Fin (cfgM m hO).N → (((cfgM m hO).win w).block.Idx → Elt F ((cfgM m hO).win w).elt) → Prop := fun w => match w with
  | ⟨61, _⟩ => fun t X => t.val % 4 = 3 → X = tileOut m hO c (tile0 t.val)
  | _ => fun _ _ => True

end Cert.Finish

end
-- ==== Proof.Finish.Own.lean ====
module

public import proofs.«01_k».proof.Proof.Finish.Body
public import Idealize.ShloMosaic.Lib.Pipeline.DatRel
public import Idealize.ShloMosaic.Lib.Pipeline.ArrRel
public import Idealize.ShloMosaic.Lib.Pipeline.FrameSuffix
public import Idealize.ShloMosaic.Lib.WordCmp

/-! # The ownership of a grid point's memrefs -/

@[expose] public section

set_option maxRecDepth 16384
set_option maxHeartbeats 4000000

noncomputable section

namespace Cert.Finish

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal Cert.KernelIdeal.Gen

variable {F : FTy → Type} [FloatOps F]
variable (m : (ℓ : Loc nD τ sig) → Buf (Elt F) ℓ) (ρ : Dev nD → PrngReg) (hO : Ok m) (c : Dev nD)

theorem own16 (Φ : Fin 16 → SP F) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) Φ

theorem nest (P Q R : SP F) : iprop((P ∗ Q) ∗ R) = iprop(P ∗ Q ∗ R) := equiv_iff.mp ⟨Idealize.SL.BI.sep_assoc, Idealize.SL.BI.sep_assoc'⟩

theorem flat (p0 p1 p2 p3 p4 p5 p6 p7 p8 p9 p10 p11 p12 : SP F) (K K' K'' : Fin 16 → SP F) (y so S : SP F) :
    iprop(p0 ∗ p1 ∗ p2 ∗ p3 ∗ p4 ∗ p5 ∗ p6 ∗ p7 ∗ p8 ∗ p9 ∗ p10 ∗ p11 ∗ p12 ∗ bigSep Finset.univ K ∗ bigSep Finset.univ K' ∗ bigSep Finset.univ K'' ∗ y ∗ so ∗ S)
      = iprop((p0 ∗ p1 ∗ p2 ∗ p3 ∗ p4 ∗ p5 ∗ p6 ∗ p7 ∗ p8 ∗ p9 ∗ p10 ∗ p11 ∗ p12 ∗ K 0 ∗ K 1 ∗ K 2 ∗ K 3 ∗ K 4 ∗ K 5 ∗ K 6 ∗ K 7 ∗ K 8 ∗ K 9 ∗ K 10 ∗ K 11 ∗ K 12 ∗ K 13 ∗ K 14 ∗ K 15 ∗ K' 0 ∗ K' 1 ∗ K' 2 ∗ K' 3 ∗ K' 4 ∗ K' 5 ∗ K' 6 ∗ K' 7 ∗ K' 8 ∗ K' 9 ∗ K' 10 ∗ K' 11 ∗ K' 12 ∗ K' 13 ∗ K' 14 ∗ K' 15 ∗ K'' 0 ∗ K'' 1 ∗ K'' 2 ∗ K'' 3 ∗ K'' 4 ∗ K'' 5 ∗ K'' 6 ∗ K'' 7 ∗ K'' 8 ∗ K'' 9 ∗ K'' 10 ∗ K'' 11 ∗ K'' 12 ∗ K'' 13 ∗ K'' 14 ∗ K'' 15 ∗ y ∗ so) ∗ S) := by
  rw [own16, own16, own16]; simp only [nest]

theorem own_eq (t : Fin (cfgM m hO).N) (σ : St F) :
    Own c (memsAt m hO t) σ = iprop((bigSep Finset.univ fun w => owns (c : Thread nD τ) (stg m hO t w) fullShare (valOf m hO σ w)) ∗ ScOwn c (scOf σ)) := by
  rw [bigSep_W0]
  exact flat (F := F) _ _ _ _ _ _ _ _ _ _ _ _ _ _ _ _ _ _ _

end Cert.Finish

end
-- ==== Proof.Finish.Vals.lean ====
module

public import proofs.«01_k».proof.Proof.Finish.Body
public import Idealize.ShloMosaic.Lib.Pipeline.DatRel
public import Idealize.ShloMosaic.Lib.Pipeline.ArrRel
public import Idealize.ShloMosaic.Lib.Pipeline.FrameSuffix
public import Idealize.ShloMosaic.Lib.WordCmp

/-! # A grid point leaves its inputs -/

@[expose] public section

set_option maxRecDepth 16384
set_option maxHeartbeats 4000000

noncomputable section

namespace Cert.Finish

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal Cert.KernelIdeal.Gen

variable {F : FTy → Type} [FloatOps F]
variable (m : (ℓ : Loc nD τ sig) → Buf (Elt F) ℓ) (ρ : Dev nD → PrngReg) (hO : Ok m) (c : Dev nD)

theorem val_st (Y : Vals m hO) (s : Sc F) : ∀ w, valOf m hO (stOf m hO Y s) w = Y w :=
  all63 ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem val_step (t : Fin grid0.N) (σ : St F) : ∀ w : Fin 63, w.val < 61 → valOf m hO (stepSt t σ) w = valOf m hO σ w :=
  all63 ⟨fun _ => step_x σ t, fun _ => step_a σ t, fun _ => step_p σ t, fun _ => step_wo σ t, fun _ => step_g1 σ t, fun _ => step_b1 σ t, fun _ => step_wg σ t, fun _ => step_wu σ t, fun _ => step_wd σ t, fun _ => step_g2 σ t, fun _ => step_b2 σ t, fun _ => step_qkv σ t, fun _ => step_lfn σ t, fun _ => congrFun (step_k σ t) 0, fun _ => congrFun (step_k σ t) 1, fun _ => congrFun (step_k σ t) 2, fun _ => congrFun (step_k σ t) 3, fun _ => congrFun (step_k σ t) 4, fun _ => congrFun (step_k σ t) 5, fun _ => congrFun (step_k σ t) 6, fun _ => congrFun (step_k σ t) 7, fun _ => congrFun (step_k σ t) 8, fun _ => congrFun (step_k σ t) 9, fun _ => congrFun (step_k σ t) 10, fun _ => congrFun (step_k σ t) 11, fun _ => congrFun (step_k σ t) 12, fun _ => congrFun (step_k σ t) 13, fun _ => congrFun (step_k σ t) 14, fun _ => congrFun (step_k σ t) 15, fun _ => congrFun (step_v σ t) 0, fun _ => congrFun (step_v σ t) 1, fun _ => congrFun (step_v σ t) 2, fun _ => congrFun (step_v σ t) 3, fun _ => congrFun (step_v σ t) 4, fun _ => congrFun (step_v σ t) 5, fun _ => congrFun (step_v σ t) 6, fun _ => congrFun (step_v σ t) 7, fun _ => congrFun (step_v σ t) 8, fun _ => congrFun (step_v σ t) 9, fun _ => congrFun (step_v σ t) 10, fun _ => congrFun (step_v σ t) 11, fun _ => congrFun (step_v σ t) 12, fun _ => congrFun (step_v σ t) 13, fun _ => congrFun (step_v σ t) 14, fun _ => congrFun (step_v σ t) 15, fun _ => congrFun (step_lf σ t) 0, fun _ => congrFun (step_lf σ t) 1, fun _ => congrFun (step_lf σ t) 2, fun _ => congrFun (step_lf σ t) 3, fun _ => congrFun (step_lf σ t) 4, fun _ => congrFun (step_lf σ t) 5, fun _ => congrFun (step_lf σ t) 6, fun _ => congrFun (step_lf σ t) 7, fun _ => congrFun (step_lf σ t) 8, fun _ => congrFun (step_lf σ t) 9, fun _ => congrFun (step_lf σ t) 10, fun _ => congrFun (step_lf σ t) 11, fun _ => congrFun (step_lf σ t) 12, fun _ => congrFun (step_lf σ t) 13, fun _ => congrFun (step_lf σ t) 14, fun _ => congrFun (step_lf σ t) 15, fun h => absurd h (by decide), fun h => absurd h (by decide)⟩

end Cert.Finish

end
-- ==== Proof.Finish.Found.lean ====
module

public import proofs.«01_k».proof.Proof.Finish.Body
public import Idealize.ShloMosaic.Lib.Pipeline.DatRel
public import Idealize.ShloMosaic.Lib.Pipeline.ArrRel
public import Idealize.ShloMosaic.Lib.Pipeline.FrameSuffix
public import Idealize.ShloMosaic.Lib.WordCmp

/-! # A grid point finds the blocks of its inputs -/

@[expose] public section

set_option maxRecDepth 16384
set_option maxHeartbeats 4000000

noncomputable section

namespace Cert.Finish

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal Cert.KernelIdeal.Gen

variable {F : FTy → Type} [FloatOps F]
variable (m : (ℓ : Loc nD τ sig) → Buf (Elt F) ℓ) (ρ : Dev nD → PrngReg) (hO : Ok m) (c : Dev nD)

theorem found (t : Fin (cfgM m hO).N) : ∀ (w : Fin 63), w.val < 61 → ∀ d, (dats m hO 0 c).before w t d = (dats m hO 0 c).after w t :=
  all63 ⟨fun _ d => (before0 m hO c t d).trans (after0 m hO c t).symm, fun _ d => (before1 m hO c t d).trans (after1 m hO c t).symm, fun _ d => (before2 m hO c t d).trans (after2 m hO c t).symm, fun _ d => (before3 m hO c t d).trans (after3 m hO c t).symm, fun _ d => (before4 m hO c t d).trans (after4 m hO c t).symm, fun _ d => (before5 m hO c t d).trans (after5 m hO c t).symm, fun _ d => (before6 m hO c t d).trans (after6 m hO c t).symm, fun _ d => (before7 m hO c t d).trans (after7 m hO c t).symm, fun _ d => (before8 m hO c t d).trans (after8 m hO c t).symm, fun _ d => (before9 m hO c t d).trans (after9 m hO c t).symm, fun _ d => (before10 m hO c t d).trans (after10 m hO c t).symm, fun _ d => (before11 m hO c t d).trans (after11 m hO c t).symm, fun _ d => (before12 m hO c t d).trans (after12 m hO c t).symm, fun _ d => (before13 m hO c t d).trans (after13 m hO c t).symm, fun _ d => (before14 m hO c t d).trans (after14 m hO c t).symm, fun _ d => (before15 m hO c t d).trans (after15 m hO c t).symm, fun _ d => (before16 m hO c t d).trans (after16 m hO c t).symm, fun _ d => (before17 m hO c t d).trans (after17 m hO c t).symm, fun _ d => (before18 m hO c t d).trans (after18 m hO c t).symm, fun _ d => (before19 m hO c t d).trans (after19 m hO c t).symm, fun _ d => (before20 m hO c t d).trans (after20 m hO c t).symm, fun _ d => (before21 m hO c t d).trans (after21 m hO c t).symm, fun _ d => (before22 m hO c t d).trans (after22 m hO c t).symm, fun _ d => (before23 m hO c t d).trans (after23 m hO c t).symm, fun _ d => (before24 m hO c t d).trans (after24 m hO c t).symm, fun _ d => (before25 m hO c t d).trans (after25 m hO c t).symm, fun _ d => (before26 m hO c t d).trans (after26 m hO c t).symm, fun _ d => (before27 m hO c t d).trans (after27 m hO c t).symm, fun _ d => (before28 m hO c t d).trans (after28 m hO c t).symm, fun _ d => (before29 m hO c t d).trans (after29 m hO c t).symm, fun _ d => (before30 m hO c t d).trans (after30 m hO c t).symm, fun _ d => (before31 m hO c t d).trans (after31 m hO c t).symm, fun _ d => (before32 m hO c t d).trans (after32 m hO c t).symm, fun _ d => (before33 m hO c t d).trans (after33 m hO c t).symm, fun _ d => (before34 m hO c t d).trans (after34 m hO c t).symm, fun _ d => (before35 m hO c t d).trans (after35 m hO c t).symm, fun _ d => (before36 m hO c t d).trans (after36 m hO c t).symm, fun _ d => (before37 m hO c t d).trans (after37 m hO c t).symm, fun _ d => (before38 m hO c t d).trans (after38 m hO c t).symm, fun _ d => (before39 m hO c t d).trans (after39 m hO c t).symm, fun _ d => (before40 m hO c t d).trans (after40 m hO c t).symm, fun _ d => (before41 m hO c t d).trans (after41 m hO c t).symm, fun _ d => (before42 m hO c t d).trans (after42 m hO c t).symm, fun _ d => (before43 m hO c t d).trans (after43 m hO c t).symm, fun _ d => (before44 m hO c t d).trans (after44 m hO c t).symm, fun _ d => (before45 m hO c t d).trans (after45 m hO c t).symm, fun _ d => (before46 m hO c t d).trans (after46 m hO c t).symm, fun _ d => (before47 m hO c t d).trans (after47 m hO c t).symm, fun _ d => (before48 m hO c t d).trans (after48 m hO c t).symm, fun _ d => (before49 m hO c t d).trans (after49 m hO c t).symm, fun _ d => (before50 m hO c t d).trans (after50 m hO c t).symm, fun _ d => (before51 m hO c t d).trans (after51 m hO c t).symm, fun _ d => (before52 m hO c t d).trans (after52 m hO c t).symm, fun _ d => (before53 m hO c t d).trans (after53 m hO c t).symm, fun _ d => (before54 m hO c t d).trans (after54 m hO c t).symm, fun _ d => (before55 m hO c t d).trans (after55 m hO c t).symm, fun _ d => (before56 m hO c t d).trans (after56 m hO c t).symm, fun _ d => (before57 m hO c t d).trans (after57 m hO c t).symm, fun _ d => (before58 m hO c t d).trans (after58 m hO c t).symm, fun _ d => (before59 m hO c t d).trans (after59 m hO c t).symm, fun _ d => (before60 m hO c t d).trans (after60 m hO c t).symm, fun h => absurd h (by decide), fun h => absurd h (by decide)⟩

end Cert.Finish

end
-- ==== Proof.Finish.Left.lean ====
module

public import proofs.«01_k».proof.Proof.Finish.Body
public import Idealize.ShloMosaic.Lib.Pipeline.DatRel
public import Idealize.ShloMosaic.Lib.Pipeline.ArrRel
public import Idealize.ShloMosaic.Lib.Pipeline.FrameSuffix
public import Idealize.ShloMosaic.Lib.WordCmp

/-! # What a grid point may leave in its inputs -/

@[expose] public section

set_option maxRecDepth 16384
set_option maxHeartbeats 4000000

noncomputable section

namespace Cert.Finish

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal Cert.KernelIdeal.Gen

variable {F : FTy → Type} [FloatOps F]
variable (m : (ℓ : Loc nD τ sig) → Buf (Elt F) ℓ) (ρ : Dev nD → PrngReg) (hO : Ok m) (c : Dev nD)

theorem left (t : Fin (cfgM m hO).N) : ∀ (w : Fin 63), w.val < 61 → (dats m hO 0 c).Leaves w t ((dats m hO 0 c).after w t) :=
  all63 ⟨fun _ => (rfl : (dats m hO 0 c).after 0 t = (dats m hO 0 c).after 0 t), fun _ => (rfl : (dats m hO 0 c).after 1 t = (dats m hO 0 c).after 1 t), fun _ => (rfl : (dats m hO 0 c).after 2 t = (dats m hO 0 c).after 2 t), fun _ => (rfl : (dats m hO 0 c).after 3 t = (dats m hO 0 c).after 3 t), fun _ => (rfl : (dats m hO 0 c).after 4 t = (dats m hO 0 c).after 4 t), fun _ => (rfl : (dats m hO 0 c).after 5 t = (dats m hO 0 c).after 5 t), fun _ => (rfl : (dats m hO 0 c).after 6 t = (dats m hO 0 c).after 6 t), fun _ => (rfl : (dats m hO 0 c).after 7 t = (dats m hO 0 c).after 7 t), fun _ => (rfl : (dats m hO 0 c).after 8 t = (dats m hO 0 c).after 8 t), fun _ => (rfl : (dats m hO 0 c).after 9 t = (dats m hO 0 c).after 9 t), fun _ => (rfl : (dats m hO 0 c).after 10 t = (dats m hO 0 c).after 10 t), fun _ => (rfl : (dats m hO 0 c).after 11 t = (dats m hO 0 c).after 11 t), fun _ => (rfl : (dats m hO 0 c).after 12 t = (dats m hO 0 c).after 12 t), fun _ => (rfl : (dats m hO 0 c).after 13 t = (dats m hO 0 c).after 13 t), fun _ => (rfl : (dats m hO 0 c).after 14 t = (dats m hO 0 c).after 14 t), fun _ => (rfl : (dats m hO 0 c).after 15 t = (dats m hO 0 c).after 15 t), fun _ => (rfl : (dats m hO 0 c).after 16 t = (dats m hO 0 c).after 16 t), fun _ => (rfl : (dats m hO 0 c).after 17 t = (dats m hO 0 c).after 17 t), fun _ => (rfl : (dats m hO 0 c).after 18 t = (dats m hO 0 c).after 18 t), fun _ => (rfl : (dats m hO 0 c).after 19 t = (dats m hO 0 c).after 19 t), fun _ => (rfl : (dats m hO 0 c).after 20 t = (dats m hO 0 c).after 20 t), fun _ => (rfl : (dats m hO 0 c).after 21 t = (dats m hO 0 c).after 21 t), fun _ => (rfl : (dats m hO 0 c).after 22 t = (dats m hO 0 c).after 22 t), fun _ => (rfl : (dats m hO 0 c).after 23 t = (dats m hO 0 c).after 23 t), fun _ => (rfl : (dats m hO 0 c).after 24 t = (dats m hO 0 c).after 24 t), fun _ => (rfl : (dats m hO 0 c).after 25 t = (dats m hO 0 c).after 25 t), fun _ => (rfl : (dats m hO 0 c).after 26 t = (dats m hO 0 c).after 26 t), fun _ => (rfl : (dats m hO 0 c).after 27 t = (dats m hO 0 c).after 27 t), fun _ => (rfl : (dats m hO 0 c).after 28 t = (dats m hO 0 c).after 28 t), fun _ => (rfl : (dats m hO 0 c).after 29 t = (dats m hO 0 c).after 29 t), fun _ => (rfl : (dats m hO 0 c).after 30 t = (dats m hO 0 c).after 30 t), fun _ => (rfl : (dats m hO 0 c).after 31 t = (dats m hO 0 c).after 31 t), fun _ => (rfl : (dats m hO 0 c).after 32 t = (dats m hO 0 c).after 32 t), fun _ => (rfl : (dats m hO 0 c).after 33 t = (dats m hO 0 c).after 33 t), fun _ => (rfl : (dats m hO 0 c).after 34 t = (dats m hO 0 c).after 34 t), fun _ => (rfl : (dats m hO 0 c).after 35 t = (dats m hO 0 c).after 35 t), fun _ => (rfl : (dats m hO 0 c).after 36 t = (dats m hO 0 c).after 36 t), fun _ => (rfl : (dats m hO 0 c).after 37 t = (dats m hO 0 c).after 37 t), fun _ => (rfl : (dats m hO 0 c).after 38 t = (dats m hO 0 c).after 38 t), fun _ => (rfl : (dats m hO 0 c).after 39 t = (dats m hO 0 c).after 39 t), fun _ => (rfl : (dats m hO 0 c).after 40 t = (dats m hO 0 c).after 40 t), fun _ => (rfl : (dats m hO 0 c).after 41 t = (dats m hO 0 c).after 41 t), fun _ => (rfl : (dats m hO 0 c).after 42 t = (dats m hO 0 c).after 42 t), fun _ => (rfl : (dats m hO 0 c).after 43 t = (dats m hO 0 c).after 43 t), fun _ => (rfl : (dats m hO 0 c).after 44 t = (dats m hO 0 c).after 44 t), fun _ => (rfl : (dats m hO 0 c).after 45 t = (dats m hO 0 c).after 45 t), fun _ => (rfl : (dats m hO 0 c).after 46 t = (dats m hO 0 c).after 46 t), fun _ => (rfl : (dats m hO 0 c).after 47 t = (dats m hO 0 c).after 47 t), fun _ => (rfl : (dats m hO 0 c).after 48 t = (dats m hO 0 c).after 48 t), fun _ => (rfl : (dats m hO 0 c).after 49 t = (dats m hO 0 c).after 49 t), fun _ => (rfl : (dats m hO 0 c).after 50 t = (dats m hO 0 c).after 50 t), fun _ => (rfl : (dats m hO 0 c).after 51 t = (dats m hO 0 c).after 51 t), fun _ => (rfl : (dats m hO 0 c).after 52 t = (dats m hO 0 c).after 52 t), fun _ => (rfl : (dats m hO 0 c).after 53 t = (dats m hO 0 c).after 53 t), fun _ => (rfl : (dats m hO 0 c).after 54 t = (dats m hO 0 c).after 54 t), fun _ => (rfl : (dats m hO 0 c).after 55 t = (dats m hO 0 c).after 55 t), fun _ => (rfl : (dats m hO 0 c).after 56 t = (dats m hO 0 c).after 56 t), fun _ => (rfl : (dats m hO 0 c).after 57 t = (dats m hO 0 c).after 57 t), fun _ => (rfl : (dats m hO 0 c).after 58 t = (dats m hO 0 c).after 58 t), fun _ => (rfl : (dats m hO 0 c).after 59 t = (dats m hO 0 c).after 59 t), fun _ => (rfl : (dats m hO 0 c).after 60 t = (dats m hO 0 c).after 60 t), fun h => absurd h (by decide), fun h => absurd h (by decide)⟩

end Cert.Finish

end
-- ==== Proof.Finish.Points.lean ====
module

public import proofs.«01_k».proof.Proof.Finish.Step
public import Idealize.ShloMosaic.Lib.Pipeline.DatRel
public import Idealize.ShloMosaic.Lib.Pipeline.ArrRel
public import Idealize.ShloMosaic.Lib.Pipeline.FrameSuffix
public import Idealize.ShloMosaic.Lib.WordCmp

/-! # What a grid point makes of the scratch -/

@[expose] public section

set_option maxRecDepth 16384
set_option maxHeartbeats 4000000

noncomputable section

namespace Cert.Finish

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal Cert.KernelIdeal.Gen

variable {F : FTy → Type} [FloatOps F]

def put' (z : FVec F S512x1024 .f32) : FVec F S512x1024 .f32 := Idealize.ShloMosaic.shapeCast S512x1024 z Facts₀.shapeCasts_S512x1024_S512x1024

variable (σ : St F) (t : Fin grid0.N)

theorem point0 (k0 : t.val % 4 = 0) :
    (stepSt t σ).x1 = put' (norm1 σ.x σ.a σ.p σ.wo σ.g1 σ.b1)
      ∧ (stepSt t σ).x1b = Idealize.ShloMosaic.shapeCast S512x1024 (truncf .bf16 (norm1 σ.x σ.a σ.p σ.wo σ.g1 σ.b1) Facts₀.bitsLt_bf16_f32 : FVec F S512x1024 .bf16) Facts₀.shapeCasts_S512x1024_S512x1024 := by
  unfold stepSt; rw [if_pos k0]
  generalize hs : (if t.val % 8 = 0 then startSt (seqW (grid0.coords t)) σ else σ) = s
  have hx : s.x = σ.x := by rw [← hs]; split <;> rfl
  have ha : s.a = σ.a := by rw [← hs]; split <;> rfl
  have hp : s.p = σ.p := by rw [← hs]; split <;> rfl
  have hw : s.wo = σ.wo := by rw [← hs]; split <;> rfl
  have hg : s.g1 = σ.g1 := by rw [← hs]; split <;> rfl
  have hb : s.b1 = σ.b1 := by rw [← hs]; split <;> rfl
  unfold mixSt put'
  simp only [chunk_x, chunk_a, chunk_p, chunk_wo, chunk_g1, chunk_b1]
  rw [hx, ha, hp, hw, hg, hb]
  exact ⟨rfl, rfl⟩

theorem point1 (k1 : t.val % 4 = 1) :
    (stepSt t σ).x1 = σ.x1 ∧ (stepSt t σ).x1b = σ.x1b
      ∧ (stepSt t σ).ffn = put' (addf (put' (ffnAt σ.x1b σ.wg σ.wu σ.wd 0 (by omega))) (ffnAt σ.x1b σ.wg σ.wu σ.wd 512 (by omega))) := by
  unfold stepSt; rw [if_neg (by omega), if_pos k1]
  unfold addSt setSt put'
  simp only [chunk_x1, chunk_x1b]
  exact ⟨trivial, trivial, trivial⟩

theorem point2 (k2 : t.val % 4 = 2) :
    (stepSt t σ).x1 = σ.x1 ∧ (stepSt t σ).x1b = σ.x1b
      ∧ (stepSt t σ).ffn = put' (addf (put' (addf σ.ffn (ffnAt σ.x1b σ.wg σ.wu σ.wd 1024 (by omega)))) (ffnAt σ.x1b σ.wg σ.wu σ.wd 1536 (by omega))) := by
  unfold stepSt; rw [if_neg (by omega), if_neg (by omega), if_pos k2]
  unfold addSt put'
  simp only [chunk_x1, chunk_x1b, chunk_ffn]
  exact ⟨trivial, trivial, trivial⟩

theorem point3 (k3 : t.val % 4 = 3) :
    (stepSt t σ).y = layerNorm (residual σ.x1 (put' (addf (put' (addf σ.ffn (ffnAt σ.x1b σ.wg σ.wu σ.wd 2048 (by omega)))) (ffnEnd σ.x1b σ.wg σ.wu σ.wd)))) σ.g2 σ.b2 := by
  unfold stepSt; rw [if_neg (by omega), if_neg (by omega), if_neg (by omega)]
  split
  · unfold tokenSt tileSt addSt put'
    simp only [chunk_x1, chunk_ffn, chunk_g2, chunk_b2]
  · unfold tileSt addSt put'
    simp only [chunk_x1, chunk_ffn, chunk_g2, chunk_b2]

end Cert.Finish

end
-- ==== Proof.Finish.Inv.lean ====
module

public import proofs.«01_k».proof.Proof.Finish.Body
public import proofs.«01_k».proof.Proof.Finish.Points
public import Idealize.ShloMosaic.Lib.Pipeline.DatRel
public import Idealize.ShloMosaic.Lib.Pipeline.ArrRel
public import Idealize.ShloMosaic.Lib.Pipeline.FrameSuffix
public import Idealize.ShloMosaic.Lib.WordCmp

/-! # What the scratch carries from one grid point to the next -/

@[expose] public section

set_option maxRecDepth 16384
set_option maxHeartbeats 4000000

noncomputable section

namespace Cert.Finish

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal Cert.KernelIdeal.Gen

variable {F : FTy → Type} [FloatOps F]
variable (m : (ℓ : Loc nD τ sig) → Buf (Elt F) ℓ) (ρ : Dev nD → PrngReg) (hO : Ok m) (c : Dev nD)

theorem tile0_self (t : Fin grid0.N) (h : t.val % 4 = 0) : tile0 t.val = t := Fin.ext (by
  have := t.isLt; have e : grid0.N = 256 := N_0
  show 4 * (t.val / 4) % 256 = t.val; omega)

theorem tile0_succ (n : ℕ) (h : n % 4 ≠ 3) : tile0 (n + 1) = tile0 n := Fin.ext (by
  show 4 * ((n + 1) / 4) % 256 = 4 * (n / 4) % 256
  rw [show (n + 1) / 4 = n / 4 by omega])

/-- The memrefs that the result is made of hold their blocks. -/
structure Blocks (t : Fin grid0.N) (σ : St F) : Prop where
  x : σ.x = iblk m hO c 0 t
  a : σ.a = iblk m hO c 1 t
  p : σ.p = iblk m hO c 2 t
  wo : σ.wo = iblk m hO c 3 t
  g1 : σ.g1 = iblk m hO c 4 t
  b1 : σ.b1 = iblk m hO c 5 t
  wg : σ.wg = iblk m hO c 6 t
  wu : σ.wu = iblk m hO c 7 t
  wd : σ.wd = iblk m hO c 8 t
  g2 : σ.g2 = iblk m hO c 9 t
  b2 : σ.b2 = iblk m hO c 10 t

variable {m hO c}
theorem Blocks.wg' {t t' : Fin grid0.N} {σ : St F} (b : Blocks m hO c t σ) : σ.wg = iblk m hO c 6 t' := b.wg.trans (const6 m hO c t t')
theorem Blocks.wu' {t t' : Fin grid0.N} {σ : St F} (b : Blocks m hO c t σ) : σ.wu = iblk m hO c 7 t' := b.wu.trans (const7 m hO c t t')
theorem Blocks.wd' {t t' : Fin grid0.N} {σ : St F} (b : Blocks m hO c t σ) : σ.wd = iblk m hO c 8 t' := b.wd.trans (const8 m hO c t t')
theorem Blocks.g2' {t t' : Fin grid0.N} {σ : St F} (b : Blocks m hO c t σ) : σ.g2 = iblk m hO c 9 t' := b.g2.trans (const9 m hO c t t')
theorem Blocks.b2' {t t' : Fin grid0.N} {σ : St F} (b : Blocks m hO c t σ) : σ.b2 = iblk m hO c 10 t' := b.b2.trans (const10 m hO c t t')

theorem inv_step (t : Fin grid0.N) (σ : St F) (b : Blocks m hO c t σ) (h : Inv m hO c t.val (scOf σ)) :
    Inv m hO c (t.val + 1) (scOf (stepSt t σ)) ∧ (t.val % 4 = 3 → (stepSt t σ).y = tileOut m hO c (tile0 t.val)) := by
  obtain ⟨h1, h2, h3⟩ := h
  by_cases k0 : t.val % 4 = 0
  · refine ⟨⟨fun _ => ?_, fun e => absurd e (by omega), fun e => absurd e (by omega)⟩, fun e => absurd e (by omega)⟩
    rw [tile0_succ _ (by omega), tile0_self t k0]
    obtain ⟨p1, p2⟩ := point0 σ t k0
    rw [b.x, b.a, b.p, b.wo, b.g1, b.b1] at p1 p2
    exact ⟨p1, p2⟩
  · obtain ⟨e1, e2⟩ := h1 k0
    have e1 : σ.x1 = X1 m hO c (tile0 t.val) := e1
    have e2 : σ.x1b = X1b m hO c (tile0 t.val) := e2
    have eg := b.wg' (t' := tile0 t.val)
    have eu := b.wu' (t' := tile0 t.val)
    have ed := b.wd' (t' := tile0 t.val)
    by_cases k1 : t.val % 4 = 1
    · refine ⟨⟨fun _ => ?_, fun e => ?_, fun e => absurd e (by omega)⟩, fun e => absurd e (by omega)⟩
      all_goals
        rw [tile0_succ _ (by omega)]
        obtain ⟨p1, p2, p3⟩ := point1 σ t k1
      · exact ⟨p1.trans e1, p2.trans e2⟩
      · rw [e2, eg, eu, ed] at p3
        exact p3
    · by_cases k2 : t.val % 4 = 2
      · have e3 : σ.ffn = F2 m hO c (tile0 t.val) := h2 k2
        refine ⟨⟨fun _ => ?_, fun e => absurd e (by omega), fun e => ?_⟩, fun e => absurd e (by omega)⟩
        all_goals
          rw [tile0_succ _ (by omega)]
          obtain ⟨p1, p2, p3⟩ := point2 σ t k2
        · exact ⟨p1.trans e1, p2.trans e2⟩
        · rw [e2, eg, eu, ed, e3] at p3
          exact p3
      · have k3 : t.val % 4 = 3 := by omega
        have e3 : σ.ffn = F4 m hO c (tile0 t.val) := h3 k3
        refine ⟨⟨fun e => absurd (show (t.val + 1) % 4 = 0 by omega) e, fun e => absurd e (by omega), fun e => absurd e (by omega)⟩, fun _ => ?_⟩
        have p := point3 σ t k3
        rw [e1, e2, eg, eu, ed, e3, b.g2' (t' := tile0 t.val), b.b2' (t' := tile0 t.val)] at p
        exact p

end Cert.Finish

end
-- ==== Proof.Finish.Obl.lean ====
module

public import proofs.«01_k».proof.Proof.Finish.Own
public import proofs.«01_k».proof.Proof.Finish.Vals
public import proofs.«01_k».proof.Proof.Finish.Found
public import proofs.«01_k».proof.Proof.Finish.Left
public import proofs.«01_k».proof.Proof.Finish.Inv
public import proofs.«01_k».proof.Proof.Finish.ProgEq
public import Idealize.ShloMosaic.Lib.Pipeline.DatRel
public import Idealize.ShloMosaic.Lib.Pipeline.ArrRel
public import Idealize.ShloMosaic.Lib.Pipeline.FrameSuffix
public import Idealize.ShloMosaic.Lib.WordCmp

/-! # Every grid point meets the body obligation -/

@[expose] public section

set_option maxRecDepth 16384
set_option maxHeartbeats 4000000

noncomputable section

namespace Cert.Finish

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal Cert.KernelIdeal.Gen

variable {F : FTy → Type} [FloatOps F]
variable (m : (ℓ : Loc nD τ sig) → Buf (Elt F) ℓ) (ρ : Dev nD → PrngReg) (hO : Ok m) (c : Dev nD)

theorem row (t : Fin (cfgM m hO).N) :
    defs₀ (F := F) .tc (cfgM m hO).body ((cfgM m hO).bodyArgs t ((cfgM m hO).slots t)) = body (grid0.coords t) (memsAt m hO t) := by
  unfold defs₀; rw [Defs.onTc_tc]
  exact body_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- The proof data: an input keeps its block, the results' windows are held to `Rl`. -/
abbrev rdat (c : Dev nD) : RDat τ (Elt F) Unit ℕ (UR sig nD τ) ℕ (cfgM m hO) c := (dats m hO 0 c).toRRel (fgt m hO) (Rl m hO c)

theorem fgt_in (w : Fin 63) (h : w.val < 61) : fgt m hO w = false := decide_eq_false (Nat.not_le.2 h)
theorem fgt_out (w : Fin 63) (h : ¬ w.val < 61) : fgt m hO w = true := decide_eq_true (Nat.not_lt.1 h)

theorem finds_in (t : Fin (cfgM m hO).N) (Y : Vals m hO) (hY : ∀ w, (rdat m hO c).Finds w t (Y w)) (w : Fin 63) (h : w.val < 61) :
    Y w = (dats m hO 0 c).after w t := by
  obtain ⟨d, e⟩ := (dats m hO 0 c).toRRel_finds (fgt_in m hO w h) t (Y w) (hY w)
  exact e.trans (found m hO c t w h d)

theorem blocks_of (t : Fin (cfgM m hO).N) (Y : Vals m hO) (s : Sc F) (hY : ∀ w : Fin 63, w.val < 61 → Y w = (dats m hO 0 c).after w t) :
    Blocks m hO c t (stOf m hO Y s) :=
  ⟨(hY 0 (by decide)).trans (after0 m hO c t), (hY 1 (by decide)).trans (after1 m hO c t), (hY 2 (by decide)).trans (after2 m hO c t), (hY 3 (by decide)).trans (after3 m hO c t), (hY 4 (by decide)).trans (after4 m hO c t), (hY 5 (by decide)).trans (after5 m hO c t), (hY 6 (by decide)).trans (after6 m hO c t), (hY 7 (by decide)).trans (after7 m hO c t), (hY 8 (by decide)).trans (after8 m hO c t), (hY 9 (by decide)).trans (after9 m hO c t), (hY 10 (by decide)).trans (after10 m hO c t)⟩

theorem after_ok (t : Fin (cfgM m hO).N) (Y : Vals m hO) (s : Sc F) (hY : ∀ w : Fin 63, w.val < 61 → Y w = (dats m hO 0 c).after w t)
    (hy : t.val % 4 = 3 → (stepSt t (stOf m hO Y s)).y = tileOut m hO c (tile0 t.val)) (w : Fin 63) :
    (rdat m hO c).after w t (Y w) (valOf m hO (stepSt t (stOf m hO Y s)) w) := by
  by_cases h : w.val < 61
  · rw [(dats m hO 0 c).toRRel_after_of_eq_false (fgt_in m hO w h), val_step m hO t _ w h, val_st, hY w h]
    exact left m hO c t w h
  · rw [(dats m hO 0 c).toRRel_after_of_eq_true (fgt_out m hO w h)]
    by_cases h61 : w = 61
    · subst h61; exact hy
    · have h62 : w = 62 := Fin.ext (by have := w.isLt; have : w.val ≠ 61 := fun e => h61 (Fin.ext e); show w.val = 62; omega)
      subst h62; exact trivial

theorem own_st (t : Fin (cfgM m hO).N) (Y : Vals m hO) (s : Sc F) :
    Own c (memsAt m hO t) (stOf m hO Y s) = iprop((bigSep Finset.univ fun w => owns (c : Thread nD τ) (stg m hO t w) fullShare (Y w)) ∗ ScOwn c s) := by
  rw [own_eq]; simp only [val_st]; rfl

theorem body_obligation : (rdat m hO c).BodyObligation (defs₀ (F := F)) Variants.none () Set.univ := fun t Y hF => by
  have hY := finds_in m hO c t Y hF
  rw [row]
  have e1 : (rdat m hO c).Φ t.castSucc = Phi m hO c t.val := rfl
  have e2 : (rdat m hO c).Φ t.succ = Phi m hO c (t.val + 1) := rfl
  have e3 : (rdat m hO c).owesAt () t.succ = (rdat m hO c).owesAt () t.castSucc := rfl
  rw [e1, e2, e3]
  generalize (rdat m hO c).owesAt () t.castSucc = O
  unfold Phi
  iintro ⟨⟨⟨%s, %hs, HS⟩, HR⟩, HO, HW⟩
  have hst := own_st m hO c t Y s
  obtain ⟨hI, hy⟩ := inv_step t (stOf m hO Y s) (blocks_of m hO c t Y s hY) hs
  have hrun := runs_body c (memsAt m hO t) (stOf m hO Y s) t
  iapply (hrun _)
  isplitl [HS HW]
  · rw [hst]; isplitl [HW]
    · iexact HW
    · iexact HS
  rw [own_eq]
  iintro ⟨HW, HS⟩
  isplitl [HS HR]
  · isplitl [HS]
    · iexists (scOf (stepSt t (stOf m hO Y s)))
      isplitr
      · ipureintro; exact hI
      · iexact HS
    · iexact HR
  isplitl [HO]
  · iexact HO
  have hpost : (bigSep Finset.univ fun w : Fin 63 => owns (c : Thread nD τ) (stg m hO t w) fullShare (valOf m hO (stepSt t (stOf m hO Y s)) w) : SP F)
      ⊢ bigSep Finset.univ fun w : Fin 63 => iprop(∃ X, ⌜(rdat m hO c).after w t (Y w) X⌝ ∗ owns (c : Thread nD τ) (stg m hO t w) fullShare X) :=
    Idealize.SL.BI.bigSep_mono fun w _ => by
      show (owns (c : Thread nD τ) (stg m hO t w) fullShare (valOf m hO (stepSt t (stOf m hO Y s)) w) : SP F) ⊢ iprop(∃ X, ⌜(rdat m hO c).after w t (Y w) X⌝ ∗ owns (c : Thread nD τ) (stg m hO t w) fullShare X)
      iintro H; iexists (valOf m hO (stepSt t (stOf m hO Y s)) w); isplitr
      · ipureintro; exact after_ok m hO c t Y s hY hy w
      · iexact H
  iapply hpost
  iexact HW

end Cert.Finish

end
-- ==== Proof.Finish.Frames.lean ====
module

public import proofs.«01_k».proof.Proof.Finish.Obl
public import Idealize.ShloMosaic.Lib.Pipeline.DatRel
public import Idealize.ShloMosaic.Lib.Pipeline.ArrRel
public import Idealize.ShloMosaic.Lib.Pipeline.FrameSuffix
public import Idealize.ShloMosaic.Lib.WordCmp

/-! # The run, and the arguments it leaves unchanged -/

@[expose] public section

set_option maxRecDepth 16384
set_option maxHeartbeats 4000000

noncomputable section

namespace Cert.Finish

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal Cert.KernelIdeal.Gen

variable {F : FTy → Type} [FloatOps F]
variable (m : (ℓ : Loc nD τ sig) → Buf (Elt F) ℓ) (ρ : Dev nD → PrngReg) (hO : Ok m) (c : Dev nD)

theorem PhiA_eq : (Pipeline.ΦA spec0 c : SP F) = iprop(iprop((∃ d, owns (c : Thread nD τ) sc_x1 fullShare d) ∗ (∃ d, owns (c : Thread nD τ) sc_x1b fullShare d) ∗ (∃ d, owns (c : Thread nD τ) sc_ffn fullShare d) ∗ (∃ d, owns (c : Thread nD τ) sc_qb fullShare d) ∗ (∃ d, owns (c : Thread nD τ) sc_m fullShare d) ∗ (∃ d, owns (c : Thread nD τ) sc_l fullShare d) ∗ (∃ d, owns (c : Thread nD τ) sc_acc fullShare d) ∗ (∃ d, owns (c : Thread nD τ) sc_g fullShare d)) ∗ (∃ r, prngReg c r)) := by
  unfold Pipeline.ΦA; rw [scopedRest0_eq]; simp only [sc_x1, sc_x1b, sc_ffn, sc_qb, sc_m, sc_l, sc_acc, sc_g, owns_whole]; try rfl

theorem inv_zero (s : Sc F) : Inv m hO c 0 s := ⟨fun h => absurd rfl h, fun h => absurd h (by decide), fun h => absurd h (by decide)⟩

theorem hin : iprop(Pipeline.ΦA spec0 c ∗ Pipeline.ΦT pre0 (tbl m) c) ⊢ (rdat m hO c).Φ 0 := by
  have e1 : (rdat m hO c).Φ 0 = Phi m hO c 0 := rfl
  rw [e1, PhiA_eq]; unfold Phi ScOwn
  iintro ⟨⟨⟨⟨%d0, H0⟩, ⟨%d1, H1⟩, ⟨%d2, H2⟩, ⟨%d3, H3⟩, ⟨%d4, H4⟩, ⟨%d5, H5⟩, ⟨%d6, H6⟩, ⟨%d7, H7⟩⟩, HR⟩, HT⟩
  isplitr [HR HT]
  · iexists (⟨d0, d1, d2, d3, d4, d5, d6, d7⟩ : Sc F)
    isplitr
    · ipureintro; exact inv_zero m hO c _
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  isplitl [HR]
  · iexact HR
  · iexact HT

theorem hout : (rdat m hO c).Φ (Fin.last (cfgM m hO).N) ⊢ Pipeline.ΦA spec0 c := by
  have e1 : (rdat m hO c).Φ (Fin.last (cfgM m hO).N) = Phi m hO c (cfgM m hO).N := rfl
  rw [e1, PhiA_eq]; unfold Phi ScOwn
  iintro ⟨⟨%s, -, ⟨H0, H1, H2, H3, H4, H5, H6, H7⟩⟩, HR, -⟩
  isplitr [HR]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7
  · iexact HR

set_option backward.isDefEq.respectTransparency.types false in
/-- Every run ends, with the arrays at what the proof data allow and every counter at zero. -/
theorem run_main : θ_run defs (onTc (τ := τ) (main (F := F))) (s₀ m ρ)
    (fun r => RDat.FramePost (cfgM m hO) (rdat m hO) (V m) r ∧ r.2.sem = fun _ => 0) :=
  Pipeline.RDat.θ_run_frameP_track_shared (Q' := _) pcfgs (fun _ => adm m hO) (0 : Fin 1) launch₀0 defs₀ Variants.none (rdat m hO) m ρ main
    (hbody := fun c => body_obligation m hO c) (hq := fun _ _ _ => rfl) (howed := fun _ _ => rfl) (V := V m)
    (hmain := hmain m Variants.none) (hA := fun c w => A_eq m hO c w) (hpf := V_pre m) (hin := hin m hO) (hout := hout m hO) (hQ' := fun _ h => h)

/-- The arguments end as they began. -/
theorem args_kept {r : PUnit × MemSt nD τ sig (Elt F)} (h : RDat.FramePost (cfgM m hO) (rdat m hO) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c),
    ((h c).2 main_arg5 (by decide : main_arg5 ∈ Pipeline.restRefs sig spec0)).trans (V_main_arg5 m c),
    ((h c).2 main_arg6 (by decide : main_arg6 ∈ Pipeline.restRefs sig spec0)).trans (V_main_arg6 m c),
    ((h c).2 main_arg7 (by decide : main_arg7 ∈ Pipeline.restRefs sig spec0)).trans (V_main_arg7 m c),
    ((h c).2 main_arg8 (by decide : main_arg8 ∈ Pipeline.restRefs sig spec0)).trans (V_main_arg8 m c),
    ((h c).2 main_arg9 (by decide : main_arg9 ∈ Pipeline.restRefs sig spec0)).trans (V_main_arg9 m c),
    ((h c).2 main_arg10 (by decide : main_arg10 ∈ Pipeline.restRefs sig spec0)).trans (V_main_arg10 m c),
    ((h c).2 main_arg11 (by decide : main_arg11 ∈ Pipeline.restRefs sig spec0)).trans (V_main_arg11 m c),
    ((h c).2 main_arg12 (by decide : main_arg12 ∈ Pipeline.restRefs sig spec0)).trans (V_main_arg12 m c),
    ((h c).2 main_arg13 (by decide : main_arg13 ∈ Pipeline.restRefs sig spec0)).trans (V_main_arg13 m c),
    ((h c).2 main_arg14 (by decide : main_arg14 ∈ Pipeline.restRefs sig spec0)).trans (V_main_arg14 m c),
    ((h c).2 main_arg15 (by decide : main_arg15 ∈ Pipeline.restRefs sig spec0)).trans (V_main_arg15 m c),
    ((h c).2 main_arg16 (by decide : main_arg16 ∈ Pipeline.restRefs sig spec0)).trans (V_main_arg16 m c),
    ((h c).2 main_arg17 (by decide : main_arg17 ∈ Pipeline.restRefs sig spec0)).trans (V_main_arg17 m c),
    ((h c).2 main_arg18 (by decide : main_arg18 ∈ Pipeline.restRefs sig spec0)).trans (V_main_arg18 m c)⟩

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) ∧ r.2.sem = fun _ => 0) :=
  (θ_run defs _ _).mono (fun _ h => ⟨fun c => args_kept m hO h.1 c, h.2⟩) (run_main m ρ hO)

end Cert.Finish

end
-- ==== Proof.Finish.Rows.lean ====
/-
  The prompt tokens' arithmetic over the extended reals, one row at a time: what a tile's payloads compute at one of
  its rows.
-/
module

public import proofs.«01_k».proof.Proof.Finish.Specs
public import Idealize.ShloMosaic.Lib.Pointwise

@[expose] public section

set_option maxHeartbeats 1000000

noncomputable section

namespace Cert.Finish

open Idealize.ShloMosaic Idealize.ShloMosaic.TcCoe
open Cert.KernelIdeal Cert.KernelIdeal.Gen
open scoped BigOperators

/-- A row's mean: its sum over 1024. -/
def meanRow (z : Fin 1024 → EReal) : EReal := Ideal.div (∑ k, z k) (Ideal.ofBits .f32 0x44800000#32)

/-- A row, layer-normed: its deviations over the root of their mean square, scaled and shifted. -/
def lnRow (z g b : Fin 1024 → EReal) (j : Fin 1024) : EReal :=
  (z j - meanRow z) * Ideal.rsqrt (meanRow (fun k => (z k - meanRow z) * (z k - meanRow z)) + Ideal.ofBits .f32 0x3727C5AC#32) * g j + b j

theorem layerNorm_row (z : FVec Ideal S512x1024 .f32) (g b : Vec Ideal S1x1024 .f32) (r : Fin 512) (j : Fin 1024) :
    layerNorm z g b (ix2 r j) = lnRow (fun k => z (ix2 r k)) (fun k => g (ix2 0 k)) (fun k => b (ix2 0 k)) j := by
  unfold layerNorm lnRow meanRow
  pointwise

/-- A residual row. -/
def resRow (x u : Fin 1024 → EReal) (j : Fin 1024) : EReal := Ideal.ofBits .f32 0x3F9837F0#32 * x j + u j

theorem residual_row (x u : FVec Ideal S512x1024 .f32) (r : Fin 512) (j : Fin 1024) :
    residual x u (ix2 r j) = resRow (fun k => x (ix2 r k)) (fun k => u (ix2 r k)) j := by
  unfold residual resRow
  pointwise

theorem mix_row (a p : Vec Ideal S512x512 .bf16) (wa wp : Vec Ideal S512x1024 .bf16) (r : Fin 512) (j : Fin 1024) :
    (mix a wa p wp (ix2 r j) : EReal) = (∑ k : Fin 512, a (ix2 r k) * wa (ix2 k j) : EReal) + (∑ k : Fin 512, p (ix2 r k) * wp (ix2 k j) : EReal) := by
  unfold mix
  pointwise

/-- The gate's argument times its logistic, and the other half's product. -/
def gatedOf (gate up : EReal) : EReal := gate * Ideal.logistic gate * up

theorem part512_row (x : Vec Ideal S512x1024 .bf16) (wg wu : Vec Ideal S1024x512 .bf16) (wd : Vec Ideal S512x1024 .bf16) (r : Fin 512) (j : Fin 1024) :
    (part512 x wg wu wd (ix2 r j) : EReal) = (∑ h : Fin 512, gatedOf (∑ k : Fin 1024, x (ix2 r k) * wg (ix2 k h) : EReal) (∑ k : Fin 1024, x (ix2 r k) * wu (ix2 k h) : EReal) * wd (ix2 h j) : EReal) := by
  unfold part512 gated512 gatedOf
  pointwise

theorem part256_row (x : Vec Ideal S512x1024 .bf16) (wg wu : Vec Ideal S1024x256 .bf16) (wd : Vec Ideal S256x1024 .bf16) (r : Fin 512) (j : Fin 1024) :
    (part256 x wg wu wd (ix2 r j) : EReal) = (∑ h : Fin 256, gatedOf (∑ k : Fin 1024, x (ix2 r k) * wg (ix2 k h) : EReal) (∑ k : Fin 1024, x (ix2 r k) * wu (ix2 k h) : EReal) * wd (ix2 h j) : EReal) := by
  unfold part256 gated256 gatedOf
  pointwise

/-! ## The parts of the weights -/

theorem part_woA (wo : Vec Ideal S1024x1024 .bf16) (k : Fin 512) (j : Fin 1024) :
    part wo rWoA (ix2 k j) = wo (ix2 ⟨k.val, by omega⟩ j) :=
  congrArg wo (funext fun a => Fin.ext (by fin_cases a <;> simp [rWoA, Rect.unit, Rect.emb, ix2]))

theorem part_woP (wo : Vec Ideal S1024x1024 .bf16) (k : Fin 512) (j : Fin 1024) :
    part wo rWoP (ix2 k j) = wo (ix2 ⟨512 + k.val, by omega⟩ j) :=
  congrArg wo (funext fun a => Fin.ext (by fin_cases a <;> simp [rWoP, Rect.unit, Rect.emb, ix2]))

theorem part_cols (w : Vec Ideal S1024x2816 .bf16) (c : ℕ) (hc : c + 512 ≤ 2816) (k : Fin 1024) (h : Fin 512) :
    part w (rCols c hc) (ix2 k h) = w (ix2 k ⟨c + h.val, by omega⟩) :=
  congrArg w (funext fun a => Fin.ext (by fin_cases a <;> simp [rCols, Rect.unit, Rect.emb, ix2]))

theorem part_rows (w : Vec Ideal S2816x1024 .bf16) (c : ℕ) (hc : c + 512 ≤ 2816) (h : Fin 512) (j : Fin 1024) :
    part w (rRows c hc) (ix2 h j) = w (ix2 ⟨c + h.val, by omega⟩ j) :=
  congrArg w (funext fun a => Fin.ext (by fin_cases a <;> simp [rRows, Rect.unit, Rect.emb, ix2]))

theorem part_cols' (w : Vec Ideal S1024x2816 .bf16) (k : Fin 1024) (h : Fin 256) :
    part w rCols' (ix2 k h) = w (ix2 k ⟨2560 + h.val, by omega⟩) :=
  congrArg w (funext fun a => Fin.ext (by fin_cases a <;> simp [rCols', Rect.unit, Rect.emb, ix2]))

theorem part_rows' (w : Vec Ideal S2816x1024 .bf16) (h : Fin 256) (j : Fin 1024) :
    part w rRows' (ix2 h j) = w (ix2 ⟨2560 + h.val, by omega⟩ j) :=
  congrArg w (funext fun a => Fin.ext (by fin_cases a <;> simp [rRows', Rect.unit, Rect.emb, ix2]))

/-! ## A row of the result -/

/-- The output projection of a row: the attention's columns by the weights' first half, the pooling's by the second. -/
def mixRow (a p : Fin 512 → EReal) (wo : Fin 1024 → Fin 1024 → EReal) (j : Fin 1024) : EReal :=
  ∑ k : Fin 512, a k * wo ⟨k.val, by omega⟩ j + ∑ k : Fin 512, p k * wo ⟨512 + k.val, by omega⟩ j

/-- A row after the first layer norm. -/
def x1Row (x : Fin 1024 → EReal) (a p : Fin 512 → EReal) (wo : Fin 1024 → Fin 1024 → EReal) (g b : Fin 1024 → EReal) : Fin 1024 → EReal :=
  lnRow (resRow x (mixRow a p wo)) g b

/-- A hidden column's term of the feed-forward output. -/
def hidTerm (x : Fin 1024 → EReal) (wg wu : Fin 1024 → Fin 2816 → EReal) (wd : Fin 2816 → Fin 1024 → EReal) (j : Fin 1024) (h : Fin 2816) : EReal :=
  gatedOf (∑ k : Fin 1024, x k * wg k h) (∑ k : Fin 1024, x k * wu k h) * wd h j

/-- The feed-forward output of a row. -/
def ffnRow (x : Fin 1024 → EReal) (wg wu : Fin 1024 → Fin 2816 → EReal) (wd : Fin 2816 → Fin 1024 → EReal) (j : Fin 1024) : EReal :=
  ∑ h : Fin 2816, hidTerm x wg wu wd j h

/-- A row of the result. -/
def yRow (x : Fin 1024 → EReal) (a p : Fin 512 → EReal) (wo : Fin 1024 → Fin 1024 → EReal) (g1 b1 : Fin 1024 → EReal)
    (wg wu : Fin 1024 → Fin 2816 → EReal) (wd : Fin 2816 → Fin 1024 → EReal) (g2 b2 : Fin 1024 → EReal) : Fin 1024 → EReal :=
  lnRow (resRow (x1Row x a p wo g1 b1) (ffnRow (x1Row x a p wo g1 b1) wg wu wd)) g2 b2

/-- 2816 terms, as five runs of 512 and one of 256. -/
theorem sum_cols (f : Fin 2816 → EReal) :
    ∑ h, f h = ∑ h : Fin 512, f ⟨0 + h.val, by omega⟩ + ∑ h : Fin 512, f ⟨512 + h.val, by omega⟩ + ∑ h : Fin 512, f ⟨1024 + h.val, by omega⟩
      + ∑ h : Fin 512, f ⟨1536 + h.val, by omega⟩ + ∑ h : Fin 512, f ⟨2048 + h.val, by omega⟩ + ∑ h : Fin 256, f ⟨2560 + h.val, by omega⟩ := by
  have e1 := Fin.sum_univ_add (a := 2560) (b := 256) f
  have e2 := Fin.sum_univ_add (a := 2048) (b := 512) fun i => f (Fin.castAdd 256 i)
  have e3 := Fin.sum_univ_add (a := 1536) (b := 512) fun i => f (Fin.castAdd 256 (Fin.castAdd 512 i))
  have e4 := Fin.sum_univ_add (a := 1024) (b := 512) fun i => f (Fin.castAdd 256 (Fin.castAdd 512 (Fin.castAdd 512 i)))
  have e5 := Fin.sum_univ_add (a := 512) (b := 512) fun i => f (Fin.castAdd 256 (Fin.castAdd 512 (Fin.castAdd 512 (Fin.castAdd 512 i))))
  refine e1.trans (congrArg₂ (· + ·) (e2.trans (congrArg₂ (· + ·) (e3.trans (congrArg₂ (· + ·) (e4.trans (congrArg₂ (· + ·)
    (e5.trans (congrArg₂ (· + ·) ?_ ?_)) ?_)) ?_)) ?_)) ?_)
  · exact Finset.sum_congr rfl fun i _ => congrArg f (Fin.ext (Nat.zero_add _).symm)
  all_goals rfl

/-- A tile of the result, from the tile's rows and the weights. -/
def tileVal (x : Vec Ideal S512x1024 .f32) (a p : Vec Ideal S512x512 .bf16) (wo : Vec Ideal S1024x1024 .bf16) (g1 b1 : Vec Ideal S1x1024 .f32)
    (wg wu : Vec Ideal S1024x2816 .bf16) (wd : Vec Ideal S2816x1024 .bf16) (g2 b2 : Vec Ideal S1x1024 .f32) : FVec Ideal S512x1024 .f32 :=
  have n1 : FVec Ideal S512x1024 .f32 := norm1 x a p wo g1 b1
  have x1 : Vec Ideal S512x1024 .f32 := Idealize.ShloMosaic.shapeCast S512x1024 n1 Facts₀.shapeCasts_S512x1024_S512x1024
  have x1b : Vec Ideal S512x1024 .bf16 := Idealize.ShloMosaic.shapeCast S512x1024 (truncf .bf16 n1 Facts₀.bitsLt_bf16_f32 : FVec Ideal S512x1024 .bf16) Facts₀.shapeCasts_S512x1024_S512x1024
  have put : FVec Ideal S512x1024 .f32 → FVec Ideal S512x1024 .f32 := fun z => Idealize.ShloMosaic.shapeCast S512x1024 z Facts₀.shapeCasts_S512x1024_S512x1024
  have q : (k : ℕ) → k + 512 ≤ 2816 → FVec Ideal S512x1024 .f32 := fun k hk => ffnAt x1b wg wu wd k hk
  have f2 := put (addf (put (q 0 (by omega))) (q 512 (by omega)))
  have f4 := put (addf (put (addf f2 (q 1024 (by omega)))) (q 1536 (by omega)))
  have f6 := put (addf (put (addf f4 (q 2048 (by omega)))) (ffnEnd x1b wg wu wd))
  layerNorm (residual x1 f6) g2 b2

theorem put_row (z : FVec Ideal S512x1024 .f32) (i : S512x1024.Idx) : Idealize.ShloMosaic.shapeCast S512x1024 z Facts₀.shapeCasts_S512x1024_S512x1024 i = z i := by
  pointwise

theorem putb_row (z : FVec Ideal S512x1024 .f32) (i : S512x1024.Idx) :
    (Idealize.ShloMosaic.shapeCast S512x1024 (truncf .bf16 z Facts₀.bitsLt_bf16_f32 : FVec Ideal S512x1024 .bf16) Facts₀.shapeCasts_S512x1024_S512x1024 i : EReal) = z i := by
  pointwise

variable (x : Vec Ideal S512x1024 .f32) (a p : Vec Ideal S512x512 .bf16) (wo : Vec Ideal S1024x1024 .bf16) (g1 b1 : Vec Ideal S1x1024 .f32)
    (wg wu : Vec Ideal S1024x2816 .bf16) (wd : Vec Ideal S2816x1024 .bf16) (g2 b2 : Vec Ideal S1x1024 .f32) (r : Fin 512) (j : Fin 1024)

theorem norm1_row : norm1 x a p wo g1 b1 (ix2 r j) = x1Row (fun k => x (ix2 r k)) (fun k => a (ix2 r k)) (fun k => p (ix2 r k))
    (fun k l => wo (ix2 k l)) (fun k => g1 (ix2 0 k)) (fun k => b1 (ix2 0 k)) j := by
  unfold norm1 x1Row mixRow
  rw [layerNorm_row]
  simp only [residual_row, mix_row, put_row]
  refine congrArg (fun f => lnRow f _ _ j) (funext fun l => congrArg (fun f => resRow _ f l) (funext fun l => congrArg₂ (· + ·)
    (Finset.sum_congr rfl fun k _ => congrArg (_ * ·) (part_woA wo k l)) (Finset.sum_congr rfl fun k _ => congrArg (_ * ·) (part_woP wo k l))))

theorem ffnAt_row (xb : Vec Ideal S512x1024 .bf16) (c : ℕ) (hc : c + 512 ≤ 2816) :
    (ffnAt xb wg wu wd c hc (ix2 r j) : EReal) = (∑ h : Fin 512, hidTerm (fun k => xb (ix2 r k)) (fun k l => wg (ix2 k l)) (fun k l => wu (ix2 k l)) (fun k l => wd (ix2 k l)) j
      ⟨c + h.val, by omega⟩ : EReal) := by
  unfold ffnAt hidTerm
  rw [part512_row]
  exact Finset.sum_congr rfl fun h _ => congrArg₂ (· * ·) (congrArg₂ gatedOf
    (Finset.sum_congr rfl fun k _ => congrArg (_ * ·) (part_cols wg c hc k h)) (Finset.sum_congr rfl fun k _ => congrArg (_ * ·) (part_cols wu c hc k h)))
    (part_rows wd c hc h j)

theorem ffnEnd_row (xb : Vec Ideal S512x1024 .bf16) :
    (ffnEnd xb wg wu wd (ix2 r j) : EReal) = (∑ h : Fin 256, hidTerm (fun k => xb (ix2 r k)) (fun k l => wg (ix2 k l)) (fun k l => wu (ix2 k l)) (fun k l => wd (ix2 k l)) j
      ⟨2560 + h.val, by omega⟩ : EReal) := by
  unfold ffnEnd hidTerm
  rw [part256_row]
  exact Finset.sum_congr rfl fun h _ => congrArg₂ (· * ·) (congrArg₂ gatedOf
    (Finset.sum_congr rfl fun k _ => congrArg (_ * ·) (part_cols' wg k h)) (Finset.sum_congr rfl fun k _ => congrArg (_ * ·) (part_cols' wu k h)))
    (part_rows' wd h j)

/-- A tile's row is the row function of the tile's rows and the weights. -/
theorem tileVal_row : tileVal x a p wo g1 b1 wg wu wd g2 b2 (ix2 r j)
    = yRow (fun k => x (ix2 r k)) (fun k => a (ix2 r k)) (fun k => p (ix2 r k)) (fun k l => wo (ix2 k l)) (fun k => g1 (ix2 0 k)) (fun k => b1 (ix2 0 k))
      (fun k l => wg (ix2 k l)) (fun k l => wu (ix2 k l)) (fun k l => wd (ix2 k l)) (fun k => g2 (ix2 0 k)) (fun k => b2 (ix2 0 k)) j := by
  unfold tileVal yRow
  simp only []
  rw [layerNorm_row]
  have hadd : ∀ (u v : FVec Ideal S512x1024 .f32) i, addf u v i = (u i + v i : EReal) := fun _ _ _ => rfl
  have hffn : ∀ l, ffnRow (x1Row (fun k => x (ix2 r k)) (fun k => a (ix2 r k)) (fun k => p (ix2 r k))
    (fun k l => wo (ix2 k l)) (fun k => g1 (ix2 0 k)) (fun k => b1 (ix2 0 k))) (fun k l => wg (ix2 k l)) (fun k l => wu (ix2 k l)) (fun k l => wd (ix2 k l)) l = _ :=
    fun l => sum_cols _
  simp only [residual_row, put_row, hadd, ffnAt_row, ffnEnd_row, putb_row, norm1_row]
  refine congrArg (fun f => lnRow f _ _ j) (funext fun l => congrArg (fun f => resRow _ f l) (funext fun l => ?_))
  have hx : x1Row (fun k => x (ix2 r k)) (fun k => a (ix2 r k)) (fun k => p (ix2 r k)) (fun k l => wo (ix2 k l)) (fun k => g1 (ix2 0 k)) (fun k => b1 (ix2 0 k))
    = fun k => norm1 x a p wo g1 b1 (ix2 r k) := funext fun k => (norm1_row x a p wo g1 b1 r k).symm
  rw [hffn l, hx]
  rfl

end Cert.Finish

end
-- ==== Proof.Finish.Blocks.lean ====
/-
  What the result's tiles are: a window's block at an index is its array at the tile's row, a tile of the result is the
  row function of the arguments' rows, and the result array is these tiles.
-/
module

public import proofs.«01_k».proof.Proof.Finish.Frames
public import proofs.«01_k».proof.Proof.Finish.Rows
public import Idealize.ShloMosaic.Lib.StableHlo.ReadAt
public import Idealize.ShloMosaic.Lib.Pipeline.Value

@[expose] public section

set_option maxRecDepth 16384
set_option maxHeartbeats 1000000

noncomputable section

namespace Cert.Finish

open Idealize.ShloMosaic Idealize.ShloMosaic.TcCoe Idealize.ShloMosaic.Tactic
open Idealize.SL.Sem
open Idealize.ShloMosaic.Pipeline (Dat RDat Cfg Window)
open Cert.KernelIdeal Cert.KernelIdeal.Gen
open scoped BigOperators

/-! ## The windows' block indices -/

theorem ix_0 : ∀ t : Fin grid0.N, cc0_transform_0 (grid0.coords t) = ![t.val / 4, 0] := by decide +kernel
theorem ix_1 : ∀ t : Fin grid0.N, cc0_transform_1 (grid0.coords t) = ![t.val / 4, 0] := by decide +kernel
theorem ix_2 : ∀ t : Fin grid0.N, cc0_transform_2 (grid0.coords t) = ![t.val / 4, 0] := by decide +kernel
theorem ix_61 : ∀ t : Fin grid0.N, cc0_transform_61 (grid0.coords t) = ![t.val / 4, 0] := by decide +kernel
theorem fl_61 : ∀ t : Fin grid0.N, Window.flushOf grid0 true cc0_transform_61 t = decide (t.val % 4 = 3) := by decide +kernel

variable (m : (ℓ : Loc nD τ sig) → Buf (Elt Ideal) ℓ) (hO : Ok m) (c : Dev nD) (t : Fin grid0.N)

theorem lt_N : t.val < 256 := lt_of_lt_of_eq t.isLt N_0

theorem blk_0 (r : Fin 512) (k : Fin 1024) : (iblk m hO c 0 t : Vec Ideal S512x1024 .f32) (ix2 r k)
    = (V m c main_v16 : Vec Ideal S32768x1024 .f32) (ix2 ⟨t.val / 4 * 512 + r.val, by have := lt_N t; omega⟩ k) :=
  congrArg (V m c main_v16 : Vec Ideal S32768x1024 .f32) (funext fun a => Fin.ext (by
    refine (ValueKit.rect_emb_unit_val _ _ _ _ a).trans ?_
    show cc0_transform_0 (grid0.coords t) a * S512x1024.size a + _ = _
    rw [ix_0]
    fin_cases a
    · rfl
    · simp [ix2]))

theorem blk_1 (r : Fin 512) (k : Fin 512) : (iblk m hO c 1 t : Vec Ideal S512x512 .bf16) (ix2 r k)
    = (V m c main_v17 : Vec Ideal S32768x512 .bf16) (ix2 ⟨t.val / 4 * 512 + r.val, by have := lt_N t; omega⟩ k) :=
  congrArg (V m c main_v17 : Vec Ideal S32768x512 .bf16) (funext fun a => Fin.ext (by
    refine (ValueKit.rect_emb_unit_val _ _ _ _ a).trans ?_
    show cc0_transform_1 (grid0.coords t) a * S512x512.size a + _ = _
    rw [ix_1]
    fin_cases a
    · rfl
    · simp [ix2]))

theorem blk_2 (r : Fin 512) (k : Fin 512) : (iblk m hO c 2 t : Vec Ideal S512x512 .bf16) (ix2 r k)
    = (V m c main_v18 : Vec Ideal S32768x512 .bf16) (ix2 ⟨t.val / 4 * 512 + r.val, by have := lt_N t; omega⟩ k) :=
  congrArg (V m c main_v18 : Vec Ideal S32768x512 .bf16) (funext fun a => Fin.ext (by
    refine (ValueKit.rect_emb_unit_val _ _ _ _ a).trans ?_
    show cc0_transform_2 (grid0.coords t) a * S512x512.size a + _ = _
    rw [ix_2]
    fin_cases a
    · rfl
    · simp [ix2]))

theorem blk_3 (k : Fin 1024) (l : Fin 1024) : (iblk m hO c 3 t : Vec Ideal S1024x1024 .bf16) (ix2 k l) = (V m c main_v1 : Vec Ideal S1024x1024 .bf16) (ix2 k l) :=
  congrArg (V m c main_v1 : Vec Ideal S1024x1024 .bf16) (funext fun a => Fin.ext (by
    refine (ValueKit.rect_emb_unit_val _ _ _ _ a).trans ?_
    show cc0_transform_3 (grid0.coords t) a * S1024x1024.size a + _ = _
    have e : cc0_transform_3 (grid0.coords t) a = 0 := by fin_cases a <;> rfl
    rw [e, Nat.zero_mul, Nat.zero_add]))

theorem blk_4 (k : Fin 1) (l : Fin 1024) : (iblk m hO c 4 t : Vec Ideal S1x1024 .f32) (ix2 k l) = (V m c main_v9 : Vec Ideal S1x1024 .f32) (ix2 k l) :=
  congrArg (V m c main_v9 : Vec Ideal S1x1024 .f32) (funext fun a => Fin.ext (by
    refine (ValueKit.rect_emb_unit_val _ _ _ _ a).trans ?_
    show cc0_transform_4 (grid0.coords t) a * S1x1024.size a + _ = _
    have e : cc0_transform_4 (grid0.coords t) a = 0 := by fin_cases a <;> rfl
    rw [e, Nat.zero_mul, Nat.zero_add]))

theorem blk_5 (k : Fin 1) (l : Fin 1024) : (iblk m hO c 5 t : Vec Ideal S1x1024 .f32) (ix2 k l) = (V m c main_v11 : Vec Ideal S1x1024 .f32) (ix2 k l) :=
  congrArg (V m c main_v11 : Vec Ideal S1x1024 .f32) (funext fun a => Fin.ext (by
    refine (ValueKit.rect_emb_unit_val _ _ _ _ a).trans ?_
    show cc0_transform_5 (grid0.coords t) a * S1x1024.size a + _ = _
    have e : cc0_transform_5 (grid0.coords t) a = 0 := by fin_cases a <;> rfl
    rw [e, Nat.zero_mul, Nat.zero_add]))

theorem blk_6 (k : Fin 1024) (l : Fin 2816) : (iblk m hO c 6 t : Vec Ideal S1024x2816 .bf16) (ix2 k l) = (V m c main_v3 : Vec Ideal S1024x2816 .bf16) (ix2 k l) :=
  congrArg (V m c main_v3 : Vec Ideal S1024x2816 .bf16) (funext fun a => Fin.ext (by
    refine (ValueKit.rect_emb_unit_val _ _ _ _ a).trans ?_
    show cc0_transform_6 (grid0.coords t) a * S1024x2816.size a + _ = _
    have e : cc0_transform_6 (grid0.coords t) a = 0 := by fin_cases a <;> rfl
    rw [e, Nat.zero_mul, Nat.zero_add]))

theorem blk_7 (k : Fin 1024) (l : Fin 2816) : (iblk m hO c 7 t : Vec Ideal S1024x2816 .bf16) (ix2 k l) = (V m c main_v5 : Vec Ideal S1024x2816 .bf16) (ix2 k l) :=
  congrArg (V m c main_v5 : Vec Ideal S1024x2816 .bf16) (funext fun a => Fin.ext (by
    refine (ValueKit.rect_emb_unit_val _ _ _ _ a).trans ?_
    show cc0_transform_7 (grid0.coords t) a * S1024x2816.size a + _ = _
    have e : cc0_transform_7 (grid0.coords t) a = 0 := by fin_cases a <;> rfl
    rw [e, Nat.zero_mul, Nat.zero_add]))

theorem blk_8 (k : Fin 2816) (l : Fin 1024) : (iblk m hO c 8 t : Vec Ideal S2816x1024 .bf16) (ix2 k l) = (V m c main_v7 : Vec Ideal S2816x1024 .bf16) (ix2 k l) :=
  congrArg (V m c main_v7 : Vec Ideal S2816x1024 .bf16) (funext fun a => Fin.ext (by
    refine (ValueKit.rect_emb_unit_val _ _ _ _ a).trans ?_
    show cc0_transform_8 (grid0.coords t) a * S2816x1024.size a + _ = _
    have e : cc0_transform_8 (grid0.coords t) a = 0 := by fin_cases a <;> rfl
    rw [e, Nat.zero_mul, Nat.zero_add]))

theorem blk_9 (k : Fin 1) (l : Fin 1024) : (iblk m hO c 9 t : Vec Ideal S1x1024 .f32) (ix2 k l) = (V m c main_v13 : Vec Ideal S1x1024 .f32) (ix2 k l) :=
  congrArg (V m c main_v13 : Vec Ideal S1x1024 .f32) (funext fun a => Fin.ext (by
    refine (ValueKit.rect_emb_unit_val _ _ _ _ a).trans ?_
    show cc0_transform_9 (grid0.coords t) a * S1x1024.size a + _ = _
    have e : cc0_transform_9 (grid0.coords t) a = 0 := by fin_cases a <;> rfl
    rw [e, Nat.zero_mul, Nat.zero_add]))

theorem blk_10 (k : Fin 1) (l : Fin 1024) : (iblk m hO c 10 t : Vec Ideal S1x1024 .f32) (ix2 k l) = (V m c main_v15 : Vec Ideal S1x1024 .f32) (ix2 k l) :=
  congrArg (V m c main_v15 : Vec Ideal S1x1024 .f32) (funext fun a => Fin.ext (by
    refine (ValueKit.rect_emb_unit_val _ _ _ _ a).trans ?_
    show cc0_transform_10 (grid0.coords t) a * S1x1024.size a + _ = _
    have e : cc0_transform_10 (grid0.coords t) a = 0 := by fin_cases a <;> rfl
    rw [e, Nat.zero_mul, Nat.zero_add]))

/-! ## The arrays, of the arguments -/

/-- An argument's contents as extended reals at coordinates. -/
abbrev arg3 {A B C : ℕ} (x : (⟨3, ![A, B, C]⟩ : Shape).Idx → EReal) (a : Fin A) (b : Fin B) (c : Fin C) : EReal := x (ix3 a b c)
abbrev arg2 {A B : ℕ} (x : (⟨2, ![A, B]⟩ : Shape).Idx → EReal) (a : Fin A) (b : Fin B) : EReal := x (ix2 a b)

theorem V_v16 (R : Fin 32768) (k : Fin 1024) : ((V m c main_v16 : Vec Ideal S32768x1024 .f32) (ix2 R k) : EReal)
    = arg3 (m ((c.tc : Thread nD τ).loc main_arg0)) ⟨R.val / 4096, by omega⟩ ⟨R.val % 4096, by omega⟩ k := by
  unfold arg3
  after_reads_at

theorem V_v17 (R : Fin 32768) (k : Fin 512) : ((V m c main_v17 : Vec Ideal S32768x512 .bf16) (ix2 R k) : EReal)
    = arg3 (m ((c.tc : Thread nD τ).loc main_arg1)) ⟨R.val / 4096, by omega⟩ ⟨R.val % 4096, by omega⟩ k := by
  unfold arg3
  after_reads_at

theorem V_v18 (R : Fin 32768) (k : Fin 512) : ((V m c main_v18 : Vec Ideal S32768x512 .bf16) (ix2 R k) : EReal)
    = arg3 (m ((c.tc : Thread nD τ).loc main_arg2)) ⟨R.val / 4096, by omega⟩ ⟨R.val % 4096, by omega⟩ k := by
  unfold arg3
  after_reads_at

theorem V_v1 (k : Fin 1024) (l : Fin 1024) : ((V m c main_v1 : Vec Ideal S1024x1024 .bf16) (ix2 k l) : EReal) = arg3 (m ((c.tc : Thread nD τ).loc main_arg3)) 0 k l := by
  unfold arg3
  after_reads_at

theorem V_v9 (k : Fin 1024) : ((V m c main_v9 : Vec Ideal S1x1024 .f32) (ix2 0 k) : EReal) = arg2 (m ((c.tc : Thread nD τ).loc main_arg4)) 0 k := by
  unfold arg2
  after_reads_at

theorem V_v11 (k : Fin 1024) : ((V m c main_v11 : Vec Ideal S1x1024 .f32) (ix2 0 k) : EReal) = arg2 (m ((c.tc : Thread nD τ).loc main_arg5)) 0 k := by
  unfold arg2
  after_reads_at

theorem V_v3 (k : Fin 1024) (l : Fin 2816) : ((V m c main_v3 : Vec Ideal S1024x2816 .bf16) (ix2 k l) : EReal) = arg3 (m ((c.tc : Thread nD τ).loc main_arg6)) 0 k l := by
  unfold arg3
  after_reads_at

theorem V_v5 (k : Fin 1024) (l : Fin 2816) : ((V m c main_v5 : Vec Ideal S1024x2816 .bf16) (ix2 k l) : EReal) = arg3 (m ((c.tc : Thread nD τ).loc main_arg7)) 0 k l := by
  unfold arg3
  after_reads_at

theorem V_v7 (k : Fin 2816) (l : Fin 1024) : ((V m c main_v7 : Vec Ideal S2816x1024 .bf16) (ix2 k l) : EReal) = arg3 (m ((c.tc : Thread nD τ).loc main_arg8)) 0 k l := by
  unfold arg3
  after_reads_at

theorem V_v13 (k : Fin 1024) : ((V m c main_v13 : Vec Ideal S1x1024 .f32) (ix2 0 k) : EReal) = arg2 (m ((c.tc : Thread nD τ).loc main_arg9)) 0 k := by
  unfold arg2
  after_reads_at

theorem V_v15 (k : Fin 1024) : ((V m c main_v15 : Vec Ideal S1x1024 .f32) (ix2 0 k) : EReal) = arg2 (m ((c.tc : Thread nD τ).loc main_arg10)) 0 k := by
  unfold arg2
  after_reads_at

end Cert.Finish

end
-- ==== Proof.Finish.Result.lean ====
/-
  The first result of the call over the extended reals: a tile's rows are the row function of the arguments' rows, and
  the tiles written back at each tile's last point make up the array.
-/
module

public import proofs.«01_k».proof.Proof.Finish.Blocks
public import Idealize.ShloMosaic.Lib.Pipeline.ArrRel

@[expose] public section

set_option maxRecDepth 16384
set_option maxHeartbeats 200000

noncomputable section

namespace Cert.Finish

open Idealize.ShloMosaic Idealize.ShloMosaic.TcCoe Idealize.ShloMosaic.Tactic
open Idealize.SL.Sem
open Idealize.ShloMosaic.Pipeline (Dat RDat Cfg Window)
open Cert.KernelIdeal Cert.KernelIdeal.Gen
open scoped BigOperators

variable (m : (ℓ : Loc nD τ sig) → Buf (Elt Ideal) ℓ) (hO : Ok m) (c : Dev nD) (t : Fin grid0.N)

/-- The result at a row and column, of the arguments. -/
def yAt (R : Fin 32768) (j : Fin 1024) : EReal :=
  yRow (arg3 (m ((c.tc : Thread nD τ).loc main_arg0)) ⟨R.val / 4096, by omega⟩ ⟨R.val % 4096, by omega⟩)
    (arg3 (m ((c.tc : Thread nD τ).loc main_arg1)) ⟨R.val / 4096, by omega⟩ ⟨R.val % 4096, by omega⟩)
    (arg3 (m ((c.tc : Thread nD τ).loc main_arg2)) ⟨R.val / 4096, by omega⟩ ⟨R.val % 4096, by omega⟩)
    (arg3 (m ((c.tc : Thread nD τ).loc main_arg3)) 0) (arg2 (m ((c.tc : Thread nD τ).loc main_arg4)) 0) (arg2 (m ((c.tc : Thread nD τ).loc main_arg5)) 0)
    (arg3 (m ((c.tc : Thread nD τ).loc main_arg6)) 0) (arg3 (m ((c.tc : Thread nD τ).loc main_arg7)) 0) (arg3 (m ((c.tc : Thread nD τ).loc main_arg8)) 0)
    (arg2 (m ((c.tc : Thread nD τ).loc main_arg9)) 0) (arg2 (m ((c.tc : Thread nD τ).loc main_arg10)) 0) j

theorem tileOut_eq : tileOut m hO c t = tileVal (iblk m hO c 0 t) (iblk m hO c 1 t) (iblk m hO c 2 t) (iblk m hO c 3 t) (iblk m hO c 4 t) (iblk m hO c 5 t)
    (iblk m hO c 6 t) (iblk m hO c 7 t) (iblk m hO c 8 t) (iblk m hO c 9 t) (iblk m hO c 10 t) := rfl

/-- A row function's arguments, replaced one by one. -/
theorem yRow_congr {x x' : Fin 1024 → EReal} {a a' p p' : Fin 512 → EReal} {wo wo' : Fin 1024 → Fin 1024 → EReal} {g1 g1' b1 b1' : Fin 1024 → EReal}
    {wg wg' wu wu' : Fin 1024 → Fin 2816 → EReal} {wd wd' : Fin 2816 → Fin 1024 → EReal} {g2 g2' b2 b2' : Fin 1024 → EReal} (j : Fin 1024)
    (hx : ∀ k, x k = x' k) (ha : ∀ k, a k = a' k) (hp : ∀ k, p k = p' k) (hwo : ∀ k l, wo k l = wo' k l) (hg1 : ∀ k, g1 k = g1' k) (hb1 : ∀ k, b1 k = b1' k)
    (hwg : ∀ k l, wg k l = wg' k l) (hwu : ∀ k l, wu k l = wu' k l) (hwd : ∀ k l, wd k l = wd' k l) (hg2 : ∀ k, g2 k = g2' k) (hb2 : ∀ k, b2 k = b2' k) :
    yRow x a p wo g1 b1 wg wu wd g2 b2 j = yRow x' a' p' wo' g1' b1' wg' wu' wd' g2' b2' j := by
  obtain rfl := funext hx; obtain rfl := funext ha; obtain rfl := funext hp; obtain rfl := funext₂ hwo; obtain rfl := funext hg1; obtain rfl := funext hb1
  obtain rfl := funext₂ hwg; obtain rfl := funext₂ hwu; obtain rfl := funext₂ hwd; obtain rfl := funext hg2; obtain rfl := funext hb2
  rfl

theorem tileOut_row (r : Fin 512) (j : Fin 1024) :
    (tileOut m hO c t (ix2 r j) : EReal) = yAt m c ⟨t.val / 4 * 512 + r.val, by have := lt_N t; omega⟩ j := by
  exact (congrFun (tileOut_eq m hO c t) (ix2 r j)).trans ((tileVal_row _ _ _ _ _ _ _ _ _ _ _ r j).trans (yRow_congr j
    (fun k => (blk_0 m hO c t r k).trans (V_v16 m c _ k)) (fun k => (blk_1 m hO c t r k).trans (V_v17 m c _ k)) (fun k => (blk_2 m hO c t r k).trans (V_v18 m c _ k))
    (fun k l => (blk_3 m hO c t k l).trans (V_v1 m c k l)) (fun k => (blk_4 m hO c t 0 k).trans (V_v9 m c k)) (fun k => (blk_5 m hO c t 0 k).trans (V_v11 m c k))
    (fun k l => (blk_6 m hO c t k l).trans (V_v3 m c k l)) (fun k l => (blk_7 m hO c t k l).trans (V_v5 m c k l)) (fun k l => (blk_8 m hO c t k l).trans (V_v7 m c k l))
    (fun k => (blk_9 m hO c t 0 k).trans (V_v13 m c k)) (fun k => (blk_10 m hO c t 0 k).trans (V_v15 m c k))))

/-- The result array, of the arguments. -/
def yArr : Buf (Elt Ideal) ((c.tc : Thread nD τ).loc main_v28_0) := fun i : S32768x1024.Idx => yAt m c (i 0) (i 1)

/-- The tiles written back cover the array. -/
theorem covers : ((cfgM m hO).win 61).Covers := by
  refine ⟨fun a => ?_, fun β => ?_⟩
  · revert a
    exact (by decide : ∀ a : Fin 2, 0 < S512x1024.size a)
  · have h0 : (β (0 : Fin 2)).val < 64 := lt_of_lt_of_eq (β (0 : Fin 2)).isLt (by decide : (S32768x1024.size 0 + S512x1024.size 0 - 1) / S512x1024.size 0 = 64)
    have h1 : (β (1 : Fin 2)).val < 1 := lt_of_lt_of_eq (β (1 : Fin 2)).isLt (by decide : (S32768x1024.size 1 + S512x1024.size 1 - 1) / S512x1024.size 1 = 1)
    let t : Fin grid0.N := ⟨4 * (β (0 : Fin 2)).val + 3, by rw [show grid0.N = 256 from N_0]; omega⟩
    refine ⟨t, (fl_61 t).trans (decide_eq_true (by show (4 * (β (0 : Fin 2)).val + 3) % 4 = 3; omega)), fun a => ⟨?_, Or.inl rfl⟩⟩
    show cc0_transform_61 (grid0.coords t) a = (β a).val
    rw [ix_61]
    revert a
    refine Fin.forall_fin_two.mpr ⟨?_, ?_⟩
    · show (4 * (β (0 : Fin 2)).val + 3) / 4 = _
      omega
    · show 0 = _
      omega

/-- Where a block's index lies in the array. -/
theorem emb_61 (r : Fin 512) (j : Fin 1024) : ((((cfgM m hO).win 61).blk t).view.emb (ix2 r j : S512x1024.Idx) : S32768x1024.Idx)
    = ix2 ⟨t.val / 4 * 512 + r.val, by have := lt_N t; omega⟩ j :=
  funext fun a => Fin.ext (by
    refine (ValueKit.rect_emb_unit_val _ _ _ _ a).trans ?_
    show cc0_transform_61 (grid0.coords t) a * S512x1024.size a + _ = _
    rw [ix_61]
    fin_cases a
    · rfl
    · simp [ix2])

/-- A tile's rows, of the array. -/
theorem tile_y (r : Fin 512) (j : Fin 1024) :
    (tileOut m hO c (tile0 t.val) (ix2 r j) : EReal) = yAt m c ⟨t.val / 4 * 512 + r.val, by have := lt_N t; omega⟩ j :=
  (tileOut_row m hO c (tile0 t.val) r j).trans (congrArg (fun R => yAt m c R j) (Fin.ext (by
    have := lt_N t
    show 4 * (t.val / 4) % 256 / 4 * 512 + r.val = t.val / 4 * 512 + r.val
    omega)))

theorem tile_emb (y : S512x1024.Idx) : (tileOut m hO c (tile0 t.val) y : EReal) = yAt m c ⟨t.val / 4 * 512 + (y 0).val, by
    have := lt_N t; have : (y 0).val < 512 := (y 0).isLt; omega⟩ (y 1) :=
  (congrArg (tileOut m hO c (tile0 t.val)) (funext (Fin.forall_fin_two.mpr ⟨rfl, rfl⟩) : y = ix2 (y 0) (y 1))).trans (tile_y m hO c t (y 0) (y 1))

theorem leaves_y (X : ((cfgM m hO).win 61).block.Idx → Elt Ideal ((cfgM m hO).win 61).elt) (hf : ((cfgM m hO).win 61).flush t = true)
    (h : (rdat m hO c).Leaves 61 t X) : X = tileOut m hO c (tile0 t.val) := by
  have h1 : Rl m hO c 61 t X := Dat.toRRel_leaves _ (w := 61) rfl h
  exact h1 (of_decide_eq_true ((fl_61 t).symm.trans hf))

theorem emb_at (y : S512x1024.Idx) : ((((cfgM m hO).win 61).blk t).view.emb y : S32768x1024.Idx)
    = ix2 ⟨t.val / 4 * 512 + (y 0).val, by have := lt_N t; have : (y 0).val < 512 := (y 0).isLt; omega⟩ (y 1) :=
  (congrArg (fun z : S512x1024.Idx => ((((cfgM m hO).win 61).blk t).view.emb z : S32768x1024.Idx))
    (funext (Fin.forall_fin_two.mpr ⟨rfl, rfl⟩) : y = ix2 (y 0) (y 1))).trans (emb_61 m hO t (y 0) (y 1))

theorem yArr_at (R : Fin 32768) (j : Fin 1024) : (yArr m c : S32768x1024.Idx → EReal) (ix2 R j) = yAt m c R j := rfl

/-- Any contents written back that are an array's tiles make up the array. -/
theorem arr_of_tiles (Z : S32768x1024.Idx → EReal) (dat : Dat τ (Elt Ideal) Unit ℕ (UR sig nD τ) ℕ (cfgM m hO) c)
    (h : ∀ t : Fin grid0.N, ((cfgM m hO).win 61).flush t = true → ∀ y : S512x1024.Idx,
      (dat.after 61 t : S512x1024.Idx → EReal) y = Z (ix2 ⟨t.val / 4 * 512 + (y 0).val, by
        have := lt_N t; have : (y 0).val < 512 := (y 0).isLt; omega⟩ (y 1))) :
    dat.arrAt 61 (cfgM m hO).N = Z :=
  Dat.arrAt_eq_of_covers dat 61 Z (covers m hO) (fun t hf y => (h t hf y).trans (congrArg Z (emb_at m hO t y)).symm) (Memref.isWhole_whole main_v28_0)

theorem tile_arr (y : S512x1024.Idx) : (tileOut m hO c (tile0 t.val) y : EReal) = (yArr m c : S32768x1024.Idx → EReal) (ix2 ⟨t.val / 4 * 512 + (y 0).val, by
    have := lt_N t; have : (y 0).val < 512 := (y 0).isLt; omega⟩ (y 1)) :=
  (tile_emb m hO c t y).trans (yArr_at m c _ _).symm

/-- What the launch leaves in the first result: the row function of the arguments, everywhere. -/
theorem y_eq {r : PUnit × MemSt nD τ sig (Elt Ideal)} (h : RDat.FramePost (cfgM m hO) (rdat m hO) (V m) r) :
    r.2.mem ((c.tc : Thread nD τ).loc main_v28_0) = yArr m c := by
  obtain ⟨after, hL, hA⟩ := RDat.FramePost.exists_exact h c
  refine (hA 61).trans (arr_of_tiles m hO c (yArr m c) _ fun t hf y => ?_)
  exact (congrFun (leaves_y m hO c t _ hf (hL 61 t hf)) y).trans (tile_arr m hO c t y)

end Cert.Finish

end
-- ==== Proof.Finish.Ref.lean ====
/-
  The reference program's run. Its @main is a straight line of host operations, given here in six lists: the
  output projection with its layer norm, the feed-forward part, the second layer norm (two lists), and the
  sample tokens' attention (two lists). Every buffer ends at the fold of the operations' results over the launch
  contents; no operation writes an argument.
-/
module

public import proofs.«01_k».proof.Proof.Gen.ReferenceIdeal
public import Idealize.ShloMosaic.Lib.StableHlo.Run
public import Idealize.ShloMosaic.Lib.StableHlo.RunRead
public import Idealize.ShloMosaic.Lib.Quiescent

@[expose] public section

set_option maxRecDepth 100000
set_option maxHeartbeats 4000000

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- Operations of @main, in order: the output projection with its residual and layer norm (`%0` to `%38`). -/
abbrev opsMix : List (HloOp τ sig (Elt F)) :=
  [ reshape main_arg3 main_v0 (rfl : (.f32 : EltTy) = .f32) shapeCasts_S1x1024x1024_S1024x1024,
    reshape main_arg4 main_v1 (rfl : (.f32 : EltTy) = .f32) shapeCasts_S1x1024_S1024,
    reshape main_arg5 main_v2 (rfl : (.f32 : EltTy) = .f32) shapeCasts_S1x1024_S1024,
    reshape main_arg6 main_v3 (rfl : (.f32 : EltTy) = .f32) shapeCasts_S1x1024x2816_S1024x2816,
    reshape main_arg7 main_v4 (rfl : (.f32 : EltTy) = .f32) shapeCasts_S1x1024x2816_S1024x2816,
    reshape main_arg8 main_v5 (rfl : (.f32 : EltTy) = .f32) shapeCasts_S1x2816x1024_S2816x1024,
    reshape main_arg9 main_v6 (rfl : (.f32 : EltTy) = .f32) shapeCasts_S1x1024_S1024,
    reshape main_arg10 main_v7 (rfl : (.f32 : EltTy) = .f32) shapeCasts_S1x1024_S1024,
    unary main_arg1 main_v8 ((extf .f32 · bitsLt_bf16_f32) : (⟨S8x4096x512, .bf16⟩ : BufTy).Contents (Elt F) → (⟨S8x4096x512, .f32⟩ : BufTy).Contents (Elt F)),
    unary main_arg2 main_v9 ((extf .f32 · bitsLt_bf16_f32) : (⟨S8x4096x512, .bf16⟩ : BufTy).Contents (Elt F) → (⟨S8x4096x512, .f32⟩ : BufTy).Contents (Elt F)),
    binary main_v8 main_v9 main_v10 ((fun a b => concatenate S8x4096x1024 2 [⟨S8x4096x512, a⟩, ⟨S8x4096x512, b⟩] concatenates_S8x4096x512_S8x4096x512_S8x4096x1024_d2) : (⟨S8x4096x512, .f32⟩ : BufTy).Contents (Elt F) → (⟨S8x4096x512, .f32⟩ : BufTy).Contents (Elt F) → (⟨S8x4096x1024, .f32⟩ : BufTy).Contents (Elt F)),
    binary main_v10 main_v0 main_v11 ((fun l r => Host.dotGeneral dot_S8x4096x1024_S1024x1024_S8x4096x1024_2_0_01_1_n_n none l r) : (⟨S8x4096x1024, .f32⟩ : BufTy).Contents (Elt F) → (⟨S1024x1024, .f32⟩ : BufTy).Contents (Elt F) → (⟨S8x4096x1024, .f32⟩ : BufTy).Contents (Elt F)),
    nullary main_cst (constant S_ .f32 0x3F9837F0#32),
    unary main_cst main_v12 (broadcastInDim S8x4096x1024 ![] bcast_S_S8x4096x1024 : (⟨S_, .f32⟩ : BufTy).Contents (Elt F) → (⟨S8x4096x1024, .f32⟩ : BufTy).Contents (Elt F)),
    binary main_v12 main_arg0 main_v13 (mulf : (⟨S8x4096x1024, .f32⟩ : BufTy).Contents (Elt F) → (⟨S8x4096x1024, .f32⟩ : BufTy).Contents (Elt F) → (⟨S8x4096x1024, .f32⟩ : BufTy).Contents (Elt F)),
    binary main_v13 main_v11 main_v14 (addf : (⟨S8x4096x1024, .f32⟩ : BufTy).Contents (Elt F) → (⟨S8x4096x1024, .f32⟩ : BufTy).Contents (Elt F) → (⟨S8x4096x1024, .f32⟩ : BufTy).Contents (Elt F)),
    nullary main_cst_0 (constant S_ .f32 0x00000000#32),
    binary main_v14 main_cst_0 main_v15 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v15 main_v16 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_1 (constant S_ .f32 0x44800000#32),
    unary main_cst_1 main_v17 (broadcastInDim S8x4096x1 ![] bcast_S_S8x4096x1 : (⟨S_, .f32⟩ : BufTy).Contents (Elt F) → (⟨S8x4096x1, .f32⟩ : BufTy).Contents (Elt F)),
    binary main_v16 main_v17 main_v18 (Host.divf : (⟨S8x4096x1, .f32⟩ : BufTy).Contents (Elt F) → (⟨S8x4096x1, .f32⟩ : BufTy).Contents (Elt F) → (⟨S8x4096x1, .f32⟩ : BufTy).Contents (Elt F)),
    unary main_v18 main_v19 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v14 main_v19 main_v20 (subf : (⟨S8x4096x1024, .f32⟩ : BufTy).Contents (Elt F) → (⟨S8x4096x1024, .f32⟩ : BufTy).Contents (Elt F) → (⟨S8x4096x1024, .f32⟩ : BufTy).Contents (Elt F)),
    binary main_v20 main_v20 main_v21 (mulf : (⟨S8x4096x1024, .f32⟩ : BufTy).Contents (Elt F) → (⟨S8x4096x1024, .f32⟩ : BufTy).Contents (Elt F) → (⟨S8x4096x1024, .f32⟩ : BufTy).Contents (Elt F)),
    nullary main_cst_2 (constant S_ .f32 0x00000000#32),
    binary main_v21 main_cst_2 main_v22 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v22 main_v23 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_3 (constant S_ .f32 0x44800000#32),
    unary main_cst_3 main_v24 (broadcastInDim S8x4096x1 ![] bcast_S_S8x4096x1 : (⟨S_, .f32⟩ : BufTy).Contents (Elt F) → (⟨S8x4096x1, .f32⟩ : BufTy).Contents (Elt F)),
    binary main_v23 main_v24 main_v25 (Host.divf : (⟨S8x4096x1, .f32⟩ : BufTy).Contents (Elt F) → (⟨S8x4096x1, .f32⟩ : BufTy).Contents (Elt F) → (⟨S8x4096x1, .f32⟩ : BufTy).Contents (Elt F)),
    unary main_v18 main_v26 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v14 main_v26 main_v27 (subf : (⟨S8x4096x1024, .f32⟩ : BufTy).Contents (Elt F) → (⟨S8x4096x1024, .f32⟩ : BufTy).Contents (Elt F) → (⟨S8x4096x1024, .f32⟩ : BufTy).Contents (Elt F)),
    nullary main_cst_4 (constant S_ .f32 0x3727C5AC#32),
    unary main_cst_4 main_v28 (broadcastInDim S8x4096x1 ![] bcast_S_S8x4096x1 : (⟨S_, .f32⟩ : BufTy).Contents (Elt F) → (⟨S8x4096x1, .f32⟩ : BufTy).Contents (Elt F)),
    binary main_v25 main_v28 main_v29 (addf : (⟨S8x4096x1, .f32⟩ : BufTy).Contents (Elt F) → (⟨S8x4096x1, .f32⟩ : BufTy).Contents (Elt F) → (⟨S8x4096x1, .f32⟩ : BufTy).Contents (Elt F)),
    unary main_v29 main_v30 (Host.rsqrt : (⟨S8x4096x1, .f32⟩ : BufTy).Contents (Elt F) → (⟨S8x4096x1, .f32⟩ : BufTy).Contents (Elt F)),
    unary main_v30 main_v31 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v27 main_v31 main_v32 (mulf : (⟨S8x4096x1024, .f32⟩ : BufTy).Contents (Elt F) → (⟨S8x4096x1024, .f32⟩ : BufTy).Contents (Elt F) → (⟨S8x4096x1024, .f32⟩ : BufTy).Contents (Elt F)),
    unary main_v1 main_v33 (broadcastInDim S1x1x1024 ![2] bcast_S1024_S1x1x1024_2 : (⟨S1024, .f32⟩ : BufTy).Contents (Elt F) → (⟨S1x1x1024, .f32⟩ : BufTy).Contents (Elt F)),
    unary main_v33 main_v34 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v32 main_v34 main_v35 (mulf : (⟨S8x4096x1024, .f32⟩ : BufTy).Contents (Elt F) → (⟨S8x4096x1024, .f32⟩ : BufTy).Contents (Elt F) → (⟨S8x4096x1024, .f32⟩ : BufTy).Contents (Elt F)),
    unary main_v2 main_v36 (broadcastInDim S1x1x1024 ![2] bcast_S1024_S1x1x1024_2 : (⟨S1024, .f32⟩ : BufTy).Contents (Elt F) → (⟨S1x1x1024, .f32⟩ : BufTy).Contents (Elt F)),
    unary main_v36 main_v37 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v35 main_v37 main_v38 (addf : (⟨S8x4096x1024, .f32⟩ : BufTy).Contents (Elt F) → (⟨S8x4096x1024, .f32⟩ : BufTy).Contents (Elt F) → (⟨S8x4096x1024, .f32⟩ : BufTy).Contents (Elt F)) ]

/-- The buffers that these operations write, in order. -/
abbrev opsMixW : List (Ref sig .tc) :=
  [main_v0, main_v1, main_v2, main_v3, main_v4, main_v5, main_v6, main_v7, main_v8, main_v9, main_v10, main_v11, main_cst, main_v12, main_v13, main_v14, main_cst_0, main_v15, main_v16, main_cst_1, main_v17, main_v18, main_v19, main_v20, main_v21, main_cst_2, main_v22, main_v23, main_cst_3, main_v24, main_v25, main_v26, main_v27, main_cst_4, main_v28, main_v29, main_v30, main_v31, main_v32, main_v33, main_v34, main_v35, main_v36, main_v37, main_v38]

theorem opsMix_writes : (opsMix (F := F)).map HloOp.writes = opsMixW.map fun r => {Proc.devRef (τ := τ) .tc r} := rfl

theorem opsMix_fresh : (opsMix (F := F)).map HloOp.fresh = (opsMix (F := F)).map fun _ => (∅ : Finset (DevRef τ sig)) := rfl

/-- They touch TensorCore references only. -/
theorem opsMix_sub : (opsMix (F := F)).Forall fun op => op.bufs ⊆ tcRefs τ sig :=
  ⟨reshape_bufs_sub .., reshape_bufs_sub .., reshape_bufs_sub .., reshape_bufs_sub .., reshape_bufs_sub .., reshape_bufs_sub .., reshape_bufs_sub .., reshape_bufs_sub .., unary_bufs_sub .., unary_bufs_sub .., binary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- They write no argument. -/
theorem opsMix_keep (V : Valuation τ sig (Elt F)) (r : Ref sig .tc) (hr : r ∉ opsMixW) :
    after opsMix V (Proc.devRef .tc r) = V (Proc.devRef .tc r) :=
  after_of_writes_sub _ V (forall_writes_sub_of_map opsMix_writes) hr

/-- Operations of @main, in order: the feed-forward part with its residual (`%39` to `%46`). -/
abbrev opsFfn : List (HloOp τ sig (Elt F)) :=
  [ binary main_v38 main_v3 main_v39 ((fun l r => Host.dotGeneral dot_S8x4096x1024_S1024x2816_S8x4096x2816_2_0_01_1_n_n none l r) : (⟨S8x4096x1024, .f32⟩ : BufTy).Contents (Elt F) → (⟨S1024x2816, .f32⟩ : BufTy).Contents (Elt F) → (⟨S8x4096x2816, .f32⟩ : BufTy).Contents (Elt F)),
    unary main_v39 main_call0_v0 (Host.negf : (⟨S8x4096x2816, .f32⟩ : BufTy).Contents (Elt F) → (⟨S8x4096x2816, .f32⟩ : BufTy).Contents (Elt F)),
    unary main_call0_v0 main_call0_v1 (Host.exp : (⟨S8x4096x2816, .f32⟩ : BufTy).Contents (Elt F) → (⟨S8x4096x2816, .f32⟩ : BufTy).Contents (Elt F)),
    nullary main_call0_cst (constant S_ .f32 0x3F800000#32),
    unary main_call0_cst main_call0_v2 (broadcastInDim S8x4096x2816 ![] bcast_S_S8x4096x2816 : (⟨S_, .f32⟩ : BufTy).Contents (Elt F) → (⟨S8x4096x2816, .f32⟩ : BufTy).Contents (Elt F)),
    binary main_call0_v2 main_call0_v1 main_call0_v3 (addf : (⟨S8x4096x2816, .f32⟩ : BufTy).Contents (Elt F) → (⟨S8x4096x2816, .f32⟩ : BufTy).Contents (Elt F) → (⟨S8x4096x2816, .f32⟩ : BufTy).Contents (Elt F)),
    nullary main_call0_cst_0 (constant S_ .f32 0x3F800000#32),
    unary main_call0_cst_0 main_call0_v4 (broadcastInDim S8x4096x2816 ![] bcast_S_S8x4096x2816 : (⟨S_, .f32⟩ : BufTy).Contents (Elt F) → (⟨S8x4096x2816, .f32⟩ : BufTy).Contents (Elt F)),
    binary main_call0_v4 main_call0_v3 main_call0_v5 (Host.divf : (⟨S8x4096x2816, .f32⟩ : BufTy).Contents (Elt F) → (⟨S8x4096x2816, .f32⟩ : BufTy).Contents (Elt F) → (⟨S8x4096x2816, .f32⟩ : BufTy).Contents (Elt F)),
    binary main_v39 main_call0_v5 main_v40 (mulf : (⟨S8x4096x2816, .f32⟩ : BufTy).Contents (Elt F) → (⟨S8x4096x2816, .f32⟩ : BufTy).Contents (Elt F) → (⟨S8x4096x2816, .f32⟩ : BufTy).Contents (Elt F)),
    binary main_v38 main_v4 main_v41 ((fun l r => Host.dotGeneral dot_S8x4096x1024_S1024x2816_S8x4096x2816_2_0_01_1_n_n none l r) : (⟨S8x4096x1024, .f32⟩ : BufTy).Contents (Elt F) → (⟨S1024x2816, .f32⟩ : BufTy).Contents (Elt F) → (⟨S8x4096x2816, .f32⟩ : BufTy).Contents (Elt F)),
    binary main_v40 main_v41 main_v42 (mulf : (⟨S8x4096x2816, .f32⟩ : BufTy).Contents (Elt F) → (⟨S8x4096x2816, .f32⟩ : BufTy).Contents (Elt F) → (⟨S8x4096x2816, .f32⟩ : BufTy).Contents (Elt F)),
    binary main_v42 main_v5 main_v43 ((fun l r => Host.dotGeneral dot_S8x4096x2816_S2816x1024_S8x4096x1024_2_0_01_1_n_n none l r) : (⟨S8x4096x2816, .f32⟩ : BufTy).Contents (Elt F) → (⟨S2816x1024, .f32⟩ : BufTy).Contents (Elt F) → (⟨S8x4096x1024, .f32⟩ : BufTy).Contents (Elt F)),
    nullary main_cst_5 (constant S_ .f32 0x3F9837F0#32),
    unary main_cst_5 main_v44 (broadcastInDim S8x4096x1024 ![] bcast_S_S8x4096x1024 : (⟨S_, .f32⟩ : BufTy).Contents (Elt F) → (⟨S8x4096x1024, .f32⟩ : BufTy).Contents (Elt F)),
    binary main_v44 main_v38 main_v45 (mulf : (⟨S8x4096x1024, .f32⟩ : BufTy).Contents (Elt F) → (⟨S8x4096x1024, .f32⟩ : BufTy).Contents (Elt F) → (⟨S8x4096x1024, .f32⟩ : BufTy).Contents (Elt F)),
    binary main_v45 main_v43 main_v46 (addf : (⟨S8x4096x1024, .f32⟩ : BufTy).Contents (Elt F) → (⟨S8x4096x1024, .f32⟩ : BufTy).Contents (Elt F) → (⟨S8x4096x1024, .f32⟩ : BufTy).Contents (Elt F)) ]

/-- The buffers that these operations write, in order. -/
abbrev opsFfnW : List (Ref sig .tc) :=
  [main_v39, main_call0_v0, main_call0_v1, main_call0_cst, main_call0_v2, main_call0_v3, main_call0_cst_0, main_call0_v4, main_call0_v5, main_v40, main_v41, main_v42, main_v43, main_cst_5, main_v44, main_v45, main_v46]

theorem opsFfn_writes : (opsFfn (F := F)).map HloOp.writes = opsFfnW.map fun r => {Proc.devRef (τ := τ) .tc r} := rfl

theorem opsFfn_fresh : (opsFfn (F := F)).map HloOp.fresh = (opsFfn (F := F)).map fun _ => (∅ : Finset (DevRef τ sig)) := rfl

/-- They touch TensorCore references only. -/
theorem opsFfn_sub : (opsFfn (F := F)).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., binary_bufs_sub ..⟩

/-- They write no argument. -/
theorem opsFfn_keep (V : Valuation τ sig (Elt F)) (r : Ref sig .tc) (hr : r ∉ opsFfnW) :
    after opsFfn V (Proc.devRef .tc r) = V (Proc.devRef .tc r) :=
  after_of_writes_sub _ V (forall_writes_sub_of_map opsFfn_writes) hr

/-- Operations of @main, in order: the first half of the second layer norm. -/
abbrev opsNorm : List (HloOp τ sig (Elt F)) :=
  [ nullary main_cst_6 (constant S_ .f32 0x00000000#32),
    binary main_v46 main_cst_6 main_v47 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v47 main_v48 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_7 (constant S_ .f32 0x44800000#32),
    unary main_cst_7 main_v49 (broadcastInDim S8x4096x1 ![] bcast_S_S8x4096x1 : (⟨S_, .f32⟩ : BufTy).Contents (Elt F) → (⟨S8x4096x1, .f32⟩ : BufTy).Contents (Elt F)),
    binary main_v48 main_v49 main_v50 (Host.divf : (⟨S8x4096x1, .f32⟩ : BufTy).Contents (Elt F) → (⟨S8x4096x1, .f32⟩ : BufTy).Contents (Elt F) → (⟨S8x4096x1, .f32⟩ : BufTy).Contents (Elt F)) ]

/-- The buffers that these operations write, in order. -/
abbrev opsNormW : List (Ref sig .tc) :=
  [main_cst_6, main_v47, main_v48, main_cst_7, main_v49, main_v50]

theorem opsNorm_writes : (opsNorm (F := F)).map HloOp.writes = opsNormW.map fun r => {Proc.devRef (τ := τ) .tc r} := rfl

theorem opsNorm_fresh : (opsNorm (F := F)).map HloOp.fresh = (opsNorm (F := F)).map fun _ => (∅ : Finset (DevRef τ sig)) := rfl

/-- They touch TensorCore references only. -/
theorem opsNorm_sub : (opsNorm (F := F)).Forall fun op => op.bufs ⊆ tcRefs τ sig :=
  ⟨nullary_bufs_sub .., binary_bufs_sub .., unary_bufs_sub .., nullary_bufs_sub .., unary_bufs_sub .., binary_bufs_sub ..⟩

/-- They write no argument. -/
theorem opsNorm_keep (V : Valuation τ sig (Elt F)) (r : Ref sig .tc) (hr : r ∉ opsNormW) :
    after opsNorm V (Proc.devRef .tc r) = V (Proc.devRef .tc r) :=
  after_of_writes_sub _ V (forall_writes_sub_of_map opsNorm_writes) hr

/-- Operations of @main, in order: the second half of the second layer norm (up to `%70`). -/
abbrev opsNorm2 : List (HloOp τ sig (Elt F)) :=
  [ unary main_v50 main_v51 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v46 main_v51 main_v52 (subf : (⟨S8x4096x1024, .f32⟩ : BufTy).Contents (Elt F) → (⟨S8x4096x1024, .f32⟩ : BufTy).Contents (Elt F) → (⟨S8x4096x1024, .f32⟩ : BufTy).Contents (Elt F)),
    binary main_v52 main_v52 main_v53 (mulf : (⟨S8x4096x1024, .f32⟩ : BufTy).Contents (Elt F) → (⟨S8x4096x1024, .f32⟩ : BufTy).Contents (Elt F) → (⟨S8x4096x1024, .f32⟩ : BufTy).Contents (Elt F)),
    nullary main_cst_8 (constant S_ .f32 0x00000000#32),
    binary main_v53 main_cst_8 main_v54 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v54 main_v55 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_9 (constant S_ .f32 0x44800000#32),
    unary main_cst_9 main_v56 (broadcastInDim S8x4096x1 ![] bcast_S_S8x4096x1 : (⟨S_, .f32⟩ : BufTy).Contents (Elt F) → (⟨S8x4096x1, .f32⟩ : BufTy).Contents (Elt F)),
    binary main_v55 main_v56 main_v57 (Host.divf : (⟨S8x4096x1, .f32⟩ : BufTy).Contents (Elt F) → (⟨S8x4096x1, .f32⟩ : BufTy).Contents (Elt F) → (⟨S8x4096x1, .f32⟩ : BufTy).Contents (Elt F)),
    unary main_v50 main_v58 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v46 main_v58 main_v59 (subf : (⟨S8x4096x1024, .f32⟩ : BufTy).Contents (Elt F) → (⟨S8x4096x1024, .f32⟩ : BufTy).Contents (Elt F) → (⟨S8x4096x1024, .f32⟩ : BufTy).Contents (Elt F)),
    nullary main_cst_10 (constant S_ .f32 0x3727C5AC#32),
    unary main_cst_10 main_v60 (broadcastInDim S8x4096x1 ![] bcast_S_S8x4096x1 : (⟨S_, .f32⟩ : BufTy).Contents (Elt F) → (⟨S8x4096x1, .f32⟩ : BufTy).Contents (Elt F)),
    binary main_v57 main_v60 main_v61 (addf : (⟨S8x4096x1, .f32⟩ : BufTy).Contents (Elt F) → (⟨S8x4096x1, .f32⟩ : BufTy).Contents (Elt F) → (⟨S8x4096x1, .f32⟩ : BufTy).Contents (Elt F)),
    unary main_v61 main_v62 (Host.rsqrt : (⟨S8x4096x1, .f32⟩ : BufTy).Contents (Elt F) → (⟨S8x4096x1, .f32⟩ : BufTy).Contents (Elt F)),
    unary main_v62 main_v63 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v59 main_v63 main_v64 (mulf : (⟨S8x4096x1024, .f32⟩ : BufTy).Contents (Elt F) → (⟨S8x4096x1024, .f32⟩ : BufTy).Contents (Elt F) → (⟨S8x4096x1024, .f32⟩ : BufTy).Contents (Elt F)),
    unary main_v6 main_v65 (broadcastInDim S1x1x1024 ![2] bcast_S1024_S1x1x1024_2 : (⟨S1024, .f32⟩ : BufTy).Contents (Elt F) → (⟨S1x1x1024, .f32⟩ : BufTy).Contents (Elt F)),
    unary main_v65 main_v66 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v64 main_v66 main_v67 (mulf : (⟨S8x4096x1024, .f32⟩ : BufTy).Contents (Elt F) → (⟨S8x4096x1024, .f32⟩ : BufTy).Contents (Elt F) → (⟨S8x4096x1024, .f32⟩ : BufTy).Contents (Elt F)),
    unary main_v7 main_v68 (broadcastInDim S1x1x1024 ![2] bcast_S1024_S1x1x1024_2 : (⟨S1024, .f32⟩ : BufTy).Contents (Elt F) → (⟨S1x1x1024, .f32⟩ : BufTy).Contents (Elt F)),
    unary main_v68 main_v69 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v67 main_v69 main_v70 (addf : (⟨S8x4096x1024, .f32⟩ : BufTy).Contents (Elt F) → (⟨S8x4096x1024, .f32⟩ : BufTy).Contents (Elt F) → (⟨S8x4096x1024, .f32⟩ : BufTy).Contents (Elt F)) ]

/-- The buffers that these operations write, in order. -/
abbrev opsNorm2W : List (Ref sig .tc) :=
  [main_v51, main_v52, main_v53, main_cst_8, main_v54, main_v55, main_cst_9, main_v56, main_v57, main_v58, main_v59, main_cst_10, main_v60, main_v61, main_v62, main_v63, main_v64, main_v65, main_v66, main_v67, main_v68, main_v69, main_v70]

theorem opsNorm2_writes : (opsNorm2 (F := F)).map HloOp.writes = opsNorm2W.map fun r => {Proc.devRef (τ := τ) .tc r} := rfl

theorem opsNorm2_fresh : (opsNorm2 (F := F)).map HloOp.fresh = (opsNorm2 (F := F)).map fun _ => (∅ : Finset (DevRef τ sig)) := rfl

/-- They touch TensorCore references only. -/
theorem opsNorm2_sub : (opsNorm2 (F := F)).Forall fun op => op.bufs ⊆ tcRefs τ sig :=
  ⟨unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- They write no argument. -/
theorem opsNorm2_keep (V : Valuation τ sig (Elt F)) (r : Ref sig .tc) (hr : r ∉ opsNorm2W) :
    after opsNorm2 V (Proc.devRef .tc r) = V (Proc.devRef .tc r) :=
  after_of_writes_sub _ V (forall_writes_sub_of_map opsNorm2_writes) hr

/-- Operations of @main, in order: the sample tokens' attention: the gathered pages. -/
abbrev opsAttn : List (HloOp τ sig (Elt F)) :=
  [ reshape main_arg12 main_v71 (rfl : (.f32 : EltTy) = .f32) shapeCasts_S32x512_S32x1x8x64,
    reshape main_arg13 main_v72 (rfl : (.f32 : EltTy) = .f32) shapeCasts_S32x512_S32x1x8x64,
    reshape main_arg14 main_v73 (rfl : (.f32 : EltTy) = .f32) shapeCasts_S32x512_S32x1x8x64,
    reshape main_arg15 main_v74 (rfl : (.f32 : EltTy) = .f32) shapeCasts_S32x8_S32x1x8,
    reshape main_arg16 main_v75 (rfl : (.f32 : EltTy) = .f32) shapeCasts_S1x5120x128x8x64_S5120x128x8x64,
    reshape main_arg17 main_v76 (rfl : (.f32 : EltTy) = .f32) shapeCasts_S1x5120x128x8x64_S5120x128x8x64,
    reshape main_arg18 main_v77 (rfl : (.f32 : EltTy) = .f32) shapeCasts_S1x5120x128x8_S5120x128x8,
    nullary main_c (constantI S_ 32 0#32),
    unary main_c main_v78 (broadcastInDim S32x128 ![] bcast_S_S32x128 : (⟨S_, .i32⟩ : BufTy).Contents (Elt F) → (⟨S32x128, .i32⟩ : BufTy).Contents (Elt F)),
    binary main_arg11 main_v78 main_v79 (cmpi .slt : (⟨S32x128, .i32⟩ : BufTy).Contents (Elt F) → (⟨S32x128, .i32⟩ : BufTy).Contents (Elt F) → (⟨S32x128, .i1⟩ : BufTy).Contents (Elt F)),
    nullary main_c_11 (constantI S_ 32 5120#32),
    unary main_c_11 main_v80 (broadcastInDim S32x128 ![] bcast_S_S32x128 : (⟨S_, .i32⟩ : BufTy).Contents (Elt F) → (⟨S32x128, .i32⟩ : BufTy).Contents (Elt F)),
    binary main_arg11 main_v80 main_v81 (addi : (⟨S32x128, .i32⟩ : BufTy).Contents (Elt F) → (⟨S32x128, .i32⟩ : BufTy).Contents (Elt F) → (⟨S32x128, .i32⟩ : BufTy).Contents (Elt F)),
    ternary main_v79 main_v81 main_arg11 main_v82 (select : (⟨S32x128, .i1⟩ : BufTy).Contents (Elt F) → (⟨S32x128, .i32⟩ : BufTy).Contents (Elt F) → (⟨S32x128, .i32⟩ : BufTy).Contents (Elt F) → (⟨S32x128, .i32⟩ : BufTy).Contents (Elt F)),
    unary main_v82 main_v83 (broadcastInDim S32x128x1 ![0, 1] bcast_S32x128_S32x128x1_0_1 : (⟨S32x128, .i32⟩ : BufTy).Contents (Elt F) → (⟨S32x128x1, .i32⟩ : BufTy).Contents (Elt F)),
    binary main_v75 main_v83 main_v84 ((fun x i => Host.gather gather_S5120x128x8x64_S32x128x1_S32x128x128x8x64_234_0_n_n_0_2_1128864 x i) : (⟨S5120x128x8x64, .f32⟩ : BufTy).Contents (Elt F) → (⟨S32x128x1, .i32⟩ : BufTy).Contents (Elt F) → (⟨S32x128x128x8x64, .f32⟩ : BufTy).Contents (Elt F)),
    reshape main_v84 main_v85 (rfl : (.f32 : EltTy) = .f32) shapeCasts_S32x128x128x8x64_S32x16384x8x64,
    nullary main_c_12 (constantI S_ 32 0#32),
    unary main_c_12 main_v86 (broadcastInDim S32x128 ![] bcast_S_S32x128 : (⟨S_, .i32⟩ : BufTy).Contents (Elt F) → (⟨S32x128, .i32⟩ : BufTy).Contents (Elt F)),
    binary main_arg11 main_v86 main_v87 (cmpi .slt : (⟨S32x128, .i32⟩ : BufTy).Contents (Elt F) → (⟨S32x128, .i32⟩ : BufTy).Contents (Elt F) → (⟨S32x128, .i1⟩ : BufTy).Contents (Elt F)),
    nullary main_c_13 (constantI S_ 32 5120#32),
    unary main_c_13 main_v88 (broadcastInDim S32x128 ![] bcast_S_S32x128 : (⟨S_, .i32⟩ : BufTy).Contents (Elt F) → (⟨S32x128, .i32⟩ : BufTy).Contents (Elt F)),
    binary main_arg11 main_v88 main_v89 (addi : (⟨S32x128, .i32⟩ : BufTy).Contents (Elt F) → (⟨S32x128, .i32⟩ : BufTy).Contents (Elt F) → (⟨S32x128, .i32⟩ : BufTy).Contents (Elt F)),
    ternary main_v87 main_v89 main_arg11 main_v90 (select : (⟨S32x128, .i1⟩ : BufTy).Contents (Elt F) → (⟨S32x128, .i32⟩ : BufTy).Contents (Elt F) → (⟨S32x128, .i32⟩ : BufTy).Contents (Elt F) → (⟨S32x128, .i32⟩ : BufTy).Contents (Elt F)),
    unary main_v90 main_v91 (broadcastInDim S32x128x1 ![0, 1] bcast_S32x128_S32x128x1_0_1 : (⟨S32x128, .i32⟩ : BufTy).Contents (Elt F) → (⟨S32x128x1, .i32⟩ : BufTy).Contents (Elt F)),
    binary main_v76 main_v91 main_v92 ((fun x i => Host.gather gather_S5120x128x8x64_S32x128x1_S32x128x128x8x64_234_0_n_n_0_2_1128864 x i) : (⟨S5120x128x8x64, .f32⟩ : BufTy).Contents (Elt F) → (⟨S32x128x1, .i32⟩ : BufTy).Contents (Elt F) → (⟨S32x128x128x8x64, .f32⟩ : BufTy).Contents (Elt F)),
    reshape main_v92 main_v93 (rfl : (.f32 : EltTy) = .f32) shapeCasts_S32x128x128x8x64_S32x16384x8x64,
    nullary main_c_14 (constantI S_ 32 0#32),
    unary main_c_14 main_v94 (broadcastInDim S32x128 ![] bcast_S_S32x128 : (⟨S_, .i32⟩ : BufTy).Contents (Elt F) → (⟨S32x128, .i32⟩ : BufTy).Contents (Elt F)),
    binary main_arg11 main_v94 main_v95 (cmpi .slt : (⟨S32x128, .i32⟩ : BufTy).Contents (Elt F) → (⟨S32x128, .i32⟩ : BufTy).Contents (Elt F) → (⟨S32x128, .i1⟩ : BufTy).Contents (Elt F)),
    nullary main_c_15 (constantI S_ 32 5120#32),
    unary main_c_15 main_v96 (broadcastInDim S32x128 ![] bcast_S_S32x128 : (⟨S_, .i32⟩ : BufTy).Contents (Elt F) → (⟨S32x128, .i32⟩ : BufTy).Contents (Elt F)),
    binary main_arg11 main_v96 main_v97 (addi : (⟨S32x128, .i32⟩ : BufTy).Contents (Elt F) → (⟨S32x128, .i32⟩ : BufTy).Contents (Elt F) → (⟨S32x128, .i32⟩ : BufTy).Contents (Elt F)),
    ternary main_v95 main_v97 main_arg11 main_v98 (select : (⟨S32x128, .i1⟩ : BufTy).Contents (Elt F) → (⟨S32x128, .i32⟩ : BufTy).Contents (Elt F) → (⟨S32x128, .i32⟩ : BufTy).Contents (Elt F) → (⟨S32x128, .i32⟩ : BufTy).Contents (Elt F)),
    unary main_v98 main_v99 (broadcastInDim S32x128x1 ![0, 1] bcast_S32x128_S32x128x1_0_1 : (⟨S32x128, .i32⟩ : BufTy).Contents (Elt F) → (⟨S32x128x1, .i32⟩ : BufTy).Contents (Elt F)),
    binary main_v77 main_v99 main_v100 ((fun x i => Host.gather gather_S5120x128x8_S32x128x1_S32x128x128x8_23_0_n_n_0_2_11288 x i) : (⟨S5120x128x8, .f32⟩ : BufTy).Contents (Elt F) → (⟨S32x128x1, .i32⟩ : BufTy).Contents (Elt F) → (⟨S32x128x128x8, .f32⟩ : BufTy).Contents (Elt F)),
    reshape main_v100 main_v101 (rfl : (.f32 : EltTy) = .f32) shapeCasts_S32x128x128x8_S32x16384x8 ]

/-- The buffers that these operations write, in order. -/
abbrev opsAttnW : List (Ref sig .tc) :=
  [main_v71, main_v72, main_v73, main_v74, main_v75, main_v76, main_v77, main_c, main_v78, main_v79, main_c_11, main_v80, main_v81, main_v82, main_v83, main_v84, main_v85, main_c_12, main_v86, main_v87, main_c_13, main_v88, main_v89, main_v90, main_v91, main_v92, main_v93, main_c_14, main_v94, main_v95, main_c_15, main_v96, main_v97, main_v98, main_v99, main_v100, main_v101]

theorem opsAttn_writes : (opsAttn (F := F)).map HloOp.writes = opsAttnW.map fun r => {Proc.devRef (τ := τ) .tc r} := rfl

theorem opsAttn_fresh : (opsAttn (F := F)).map HloOp.fresh = (opsAttn (F := F)).map fun _ => (∅ : Finset (DevRef τ sig)) := rfl

/-- They touch TensorCore references only. -/
theorem opsAttn_sub : (opsAttn (F := F)).Forall fun op => op.bufs ⊆ tcRefs τ sig :=
  ⟨reshape_bufs_sub .., reshape_bufs_sub .., reshape_bufs_sub .., reshape_bufs_sub .., reshape_bufs_sub .., reshape_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub ..⟩

/-- They write no argument. -/
theorem opsAttn_keep (V : Valuation τ sig (Elt F)) (r : Ref sig .tc) (hr : r ∉ opsAttnW) :
    after opsAttn V (Proc.devRef .tc r) = V (Proc.devRef .tc r) :=
  after_of_writes_sub _ V (forall_writes_sub_of_map opsAttn_writes) hr

/-- Operations of @main, in order: the sample tokens' attention: the softmax, and the two results. -/
abbrev opsAttn2 : List (HloOp τ sig (Elt F)) :=
  [ binary main_v85 main_v72 main_v102 ((fun a b => concatenate S32x16385x8x64 1 [⟨S32x16384x8x64, a⟩, ⟨S32x1x8x64, b⟩] concatenates_S32x16384x8x64_S32x1x8x64_S32x16385x8x64_d1) : (⟨S32x16384x8x64, .f32⟩ : BufTy).Contents (Elt F) → (⟨S32x1x8x64, .f32⟩ : BufTy).Contents (Elt F) → (⟨S32x16385x8x64, .f32⟩ : BufTy).Contents (Elt F)),
    binary main_v93 main_v73 main_v103 ((fun a b => concatenate S32x16385x8x64 1 [⟨S32x16384x8x64, a⟩, ⟨S32x1x8x64, b⟩] concatenates_S32x16384x8x64_S32x1x8x64_S32x16385x8x64_d1) : (⟨S32x16384x8x64, .f32⟩ : BufTy).Contents (Elt F) → (⟨S32x1x8x64, .f32⟩ : BufTy).Contents (Elt F) → (⟨S32x16385x8x64, .f32⟩ : BufTy).Contents (Elt F)),
    binary main_v101 main_v74 main_v104 ((fun a b => concatenate S32x16385x8 1 [⟨S32x16384x8, a⟩, ⟨S32x1x8, b⟩] concatenates_S32x16384x8_S32x1x8_S32x16385x8_d1) : (⟨S32x16384x8, .f32⟩ : BufTy).Contents (Elt F) → (⟨S32x1x8, .f32⟩ : BufTy).Contents (Elt F) → (⟨S32x16385x8, .f32⟩ : BufTy).Contents (Elt F)),
    TRef.nullary (.of main_call1_call0_cst : TRef sig ⟨S_, .f32⟩) (constant S_ .f32 0x00000000#32),
    TRef.unary (.of main_call1_call0_cst : TRef sig ⟨S_, .f32⟩) (.of main_call1_call0_v0 : TRef sig ⟨S_, .f32⟩) (broadcastInDim S_ ![] bcast_S_S_),
    TRef.binary (.of main_v104 : TRef sig ⟨S32x16385x8, .f32⟩) (.of main_call1_call0_v0 : TRef sig ⟨S_, .f32⟩) (.of main_v105 : TRef sig ⟨S32x16385x8, .f32⟩) (fun x v => Host.reduceWindowAdd ![1, 16385, 1] ![1, 1, 1] ![0, 16384, 0] ![0, 0, 0] x v reduceWindows_S32x16385x8_S32x16385x8_w1s1p0_0_w16385s1p16384_0_w1s1p0_0 h_S_),
    unary main_v105 main_v106 ((transpose S32x8x16385 [0, 2, 1] · transposes_S32x16385x8_S32x8x16385_0_2_1) : (⟨S32x16385x8, .f32⟩ : BufTy).Contents (Elt F) → (⟨S32x8x16385, .f32⟩ : BufTy).Contents (Elt F)),
    binary main_v71 main_v102 main_v107 ((fun l r => Host.dotGeneral dot_S32x1x8x64_S32x16385x8x64_S32x8x1x16385_3_3_1_1_02_02 none l r) : (⟨S32x1x8x64, .f32⟩ : BufTy).Contents (Elt F) → (⟨S32x16385x8x64, .f32⟩ : BufTy).Contents (Elt F) → (⟨S32x8x1x16385, .f32⟩ : BufTy).Contents (Elt F)),
    nullary main_cst_16 (constant S_ .f32 0x3E000000#32),
    unary main_cst_16 main_v108 (broadcastInDim S32x8x1x16385 ![] bcast_S_S32x8x1x16385 : (⟨S_, .f32⟩ : BufTy).Contents (Elt F) → (⟨S32x8x1x16385, .f32⟩ : BufTy).Contents (Elt F)),
    binary main_v107 main_v108 main_v109 (mulf : (⟨S32x8x1x16385, .f32⟩ : BufTy).Contents (Elt F) → (⟨S32x8x1x16385, .f32⟩ : BufTy).Contents (Elt F) → (⟨S32x8x1x16385, .f32⟩ : BufTy).Contents (Elt F)),
    unary main_v106 main_v110 ((extractStridedSlice S32x8x1 ![0, 0, 16384] · slices_S32x8x16385_S32x8x1_0_0_16384) : (⟨S32x8x16385, .f32⟩ : BufTy).Contents (Elt F) → (⟨S32x8x1, .f32⟩ : BufTy).Contents (Elt F)),
    unary main_v110 main_v111 (broadcastInDim S32x8x1x1 ![0, 1, 2] bcast_S32x8x1_S32x8x1x1_0_1_2 : (⟨S32x8x1, .f32⟩ : BufTy).Contents (Elt F) → (⟨S32x8x1x1, .f32⟩ : BufTy).Contents (Elt F)),
    unary main_v106 main_v112 (broadcastInDim S32x8x1x16385 ![0, 1, 3] bcast_S32x8x16385_S32x8x1x16385_0_1_3 : (⟨S32x8x16385, .f32⟩ : BufTy).Contents (Elt F) → (⟨S32x8x1x16385, .f32⟩ : BufTy).Contents (Elt F)),
    unary main_v111 main_v113 (broadcastInDim S32x8x1x16385 ![0, 1, 2, 3] bcast_S32x8x1x1_S32x8x1x16385_0_1_2_3 : (⟨S32x8x1x1, .f32⟩ : BufTy).Contents (Elt F) → (⟨S32x8x1x16385, .f32⟩ : BufTy).Contents (Elt F)),
    binary main_v113 main_v112 main_v114 (subf : (⟨S32x8x1x16385, .f32⟩ : BufTy).Contents (Elt F) → (⟨S32x8x1x16385, .f32⟩ : BufTy).Contents (Elt F) → (⟨S32x8x1x16385, .f32⟩ : BufTy).Contents (Elt F)),
    binary main_v109 main_v114 main_v115 (addf : (⟨S32x8x1x16385, .f32⟩ : BufTy).Contents (Elt F) → (⟨S32x8x1x16385, .f32⟩ : BufTy).Contents (Elt F) → (⟨S32x8x1x16385, .f32⟩ : BufTy).Contents (Elt F)),
    nullary main_v116 (iotaInDim S16385 32 0),
    nullary main_v117 (iotaInDim S1 32 0),
    nullary main_c_17 (constantI S_ 32 16384#32),
    unary main_c_17 main_v118 (broadcastInDim S1 ![] bcast_S_S1 : (⟨S_, .i32⟩ : BufTy).Contents (Elt F) → (⟨S1, .i32⟩ : BufTy).Contents (Elt F)),
    binary main_v118 main_v117 main_v119 (addi : (⟨S1, .i32⟩ : BufTy).Contents (Elt F) → (⟨S1, .i32⟩ : BufTy).Contents (Elt F) → (⟨S1, .i32⟩ : BufTy).Contents (Elt F)),
    unary main_v116 main_v120 (broadcastInDim S1x16385 ![1] bcast_S16385_S1x16385_1 : (⟨S16385, .i32⟩ : BufTy).Contents (Elt F) → (⟨S1x16385, .i32⟩ : BufTy).Contents (Elt F)),
    unary main_v119 main_v121 (broadcastInDim S1x1 ![0] bcast_S1_S1x1_0 : (⟨S1, .i32⟩ : BufTy).Contents (Elt F) → (⟨S1x1, .i32⟩ : BufTy).Contents (Elt F)),
    unary main_v121 main_v122 (broadcastInDim S1x16385 ![0, 1] bcast_S1x1_S1x16385_0_1 : (⟨S1x1, .i32⟩ : BufTy).Contents (Elt F) → (⟨S1x16385, .i32⟩ : BufTy).Contents (Elt F)),
    binary main_v120 main_v122 main_v123 (cmpi .sle : (⟨S1x16385, .i32⟩ : BufTy).Contents (Elt F) → (⟨S1x16385, .i32⟩ : BufTy).Contents (Elt F) → (⟨S1x16385, .i1⟩ : BufTy).Contents (Elt F)),
    nullary main_cst_18 (constant S_ .f32 0xF149F2CA#32),
    TRef.unary (.of main_cst_18 : TRef sig ⟨S_, .f32⟩) (.of main_call2_v0 : TRef sig ⟨S_, .f32⟩) id,
    TRef.unary (.of main_v123 : TRef sig ⟨S1x16385, .i1⟩) (.of main_call2_v1 : TRef sig ⟨S32x8x1x16385, .i1⟩) (broadcastInDim S32x8x1x16385 ![2, 3] bcast_S1x16385_S32x8x1x16385_2_3),
    TRef.unary (.of main_call2_v0 : TRef sig ⟨S_, .f32⟩) (.of main_call2_v2 : TRef sig ⟨S32x8x1x16385, .f32⟩) (broadcastInDim S32x8x1x16385 ![] bcast_S_S32x8x1x16385),
    TRef.ternary (.of main_call2_v1 : TRef sig ⟨S32x8x1x16385, .i1⟩) (.of main_v115 : TRef sig ⟨S32x8x1x16385, .f32⟩) (.of main_call2_v2 : TRef sig ⟨S32x8x1x16385, .f32⟩) (.of main_v124 : TRef sig ⟨S32x8x1x16385, .f32⟩) select,
    nullary main_cst_19 (constant S_ .f32 0xFF800000#32),
    binary main_v124 main_cst_19 main_v125 ((fun x v => Host.reduce FloatOps.maximumf x v reducesTo_S32x8x1x16385_S32x8x1_d3 h_S_) : (⟨S32x8x1x16385, .f32⟩ : BufTy).Contents (Elt F) → (⟨S_, .f32⟩ : BufTy).Contents (Elt F) → (⟨S32x8x1, .f32⟩ : BufTy).Contents (Elt F)),
    nullary main_cst_20 (constant S_ .f32 0xFF800000#32),
    unary main_cst_20 main_v126 (broadcastInDim S32x8x1 ![] bcast_S_S32x8x1 : (⟨S_, .f32⟩ : BufTy).Contents (Elt F) → (⟨S32x8x1, .f32⟩ : BufTy).Contents (Elt F)),
    binary main_v126 main_v125 main_v127 (maximumf : (⟨S32x8x1, .f32⟩ : BufTy).Contents (Elt F) → (⟨S32x8x1, .f32⟩ : BufTy).Contents (Elt F) → (⟨S32x8x1, .f32⟩ : BufTy).Contents (Elt F)),
    unary main_v127 main_v128 (broadcastInDim S32x8x1x1 ![0, 1, 2] bcast_S32x8x1_S32x8x1x1_0_1_2 : (⟨S32x8x1, .f32⟩ : BufTy).Contents (Elt F) → (⟨S32x8x1x1, .f32⟩ : BufTy).Contents (Elt F)),
    unary main_v128 main_v129 (broadcastInDim S32x8x1x16385 ![0, 1, 2, 3] bcast_S32x8x1x1_S32x8x1x16385_0_1_2_3 : (⟨S32x8x1x1, .f32⟩ : BufTy).Contents (Elt F) → (⟨S32x8x1x16385, .f32⟩ : BufTy).Contents (Elt F)),
    binary main_v124 main_v129 main_v130 (subf : (⟨S32x8x1x16385, .f32⟩ : BufTy).Contents (Elt F) → (⟨S32x8x1x16385, .f32⟩ : BufTy).Contents (Elt F) → (⟨S32x8x1x16385, .f32⟩ : BufTy).Contents (Elt F)),
    unary main_v130 main_v131 (Host.exp : (⟨S32x8x1x16385, .f32⟩ : BufTy).Contents (Elt F) → (⟨S32x8x1x16385, .f32⟩ : BufTy).Contents (Elt F)),
    nullary main_cst_21 (constant S_ .f32 0x00000000#32),
    binary main_v131 main_cst_21 main_v132 ((fun x v => Host.reduceAdd x v reducesTo_S32x8x1x16385_S32x8x1_d3 h_S_) : (⟨S32x8x1x16385, .f32⟩ : BufTy).Contents (Elt F) → (⟨S_, .f32⟩ : BufTy).Contents (Elt F) → (⟨S32x8x1, .f32⟩ : BufTy).Contents (Elt F)),
    unary main_v132 main_v133 (broadcastInDim S32x8x1x1 ![0, 1, 2] bcast_S32x8x1_S32x8x1x1_0_1_2 : (⟨S32x8x1, .f32⟩ : BufTy).Contents (Elt F) → (⟨S32x8x1x1, .f32⟩ : BufTy).Contents (Elt F)),
    unary main_v133 main_v134 (broadcastInDim S32x8x1x16385 ![0, 1, 2, 3] bcast_S32x8x1x1_S32x8x1x16385_0_1_2_3 : (⟨S32x8x1x1, .f32⟩ : BufTy).Contents (Elt F) → (⟨S32x8x1x16385, .f32⟩ : BufTy).Contents (Elt F)),
    binary main_v131 main_v134 main_v135 (Host.divf : (⟨S32x8x1x16385, .f32⟩ : BufTy).Contents (Elt F) → (⟨S32x8x1x16385, .f32⟩ : BufTy).Contents (Elt F) → (⟨S32x8x1x16385, .f32⟩ : BufTy).Contents (Elt F)),
    binary main_v103 main_v135 main_v136 ((fun l r => Host.dotGeneral dot_S32x16385x8x64_S32x8x1x16385_S32x8x64x1_1_3_3_2_02_01 none l r) : (⟨S32x16385x8x64, .f32⟩ : BufTy).Contents (Elt F) → (⟨S32x8x1x16385, .f32⟩ : BufTy).Contents (Elt F) → (⟨S32x8x64x1, .f32⟩ : BufTy).Contents (Elt F)),
    unary main_v136 main_v137 ((transpose S32x1x8x64 [0, 3, 1, 2] · transposes_S32x8x64x1_S32x1x8x64_0_3_1_2) : (⟨S32x8x64x1, .f32⟩ : BufTy).Contents (Elt F) → (⟨S32x1x8x64, .f32⟩ : BufTy).Contents (Elt F)),
    reshape main_v70 main_v138 (rfl : (.f32 : EltTy) = .f32) shapeCasts_S8x4096x1024_S32768x1024,
    reshape main_v137 main_v139 (rfl : (.f32 : EltTy) = .f32) shapeCasts_S32x1x8x64_S32x8x64x1 ]

/-- The buffers that these operations write, in order. -/
abbrev opsAttn2W : List (Ref sig .tc) :=
  [main_v102, main_v103, main_v104, main_call1_call0_cst, main_call1_call0_v0, main_v105, main_v106, main_v107, main_cst_16, main_v108, main_v109, main_v110, main_v111, main_v112, main_v113, main_v114, main_v115, main_v116, main_v117, main_c_17, main_v118, main_v119, main_v120, main_v121, main_v122, main_v123, main_cst_18, main_call2_v0, main_call2_v1, main_call2_v2, main_v124, main_cst_19, main_v125, main_cst_20, main_v126, main_v127, main_v128, main_v129, main_v130, main_v131, main_cst_21, main_v132, main_v133, main_v134, main_v135, main_v136, main_v137, main_v138, main_v139]

theorem opsAttn2_writes : (opsAttn2 (F := F)).map HloOp.writes = opsAttn2W.map fun r => {Proc.devRef (τ := τ) .tc r} := rfl

theorem opsAttn2_fresh : (opsAttn2 (F := F)).map HloOp.fresh = (opsAttn2 (F := F)).map fun _ => (∅ : Finset (DevRef τ sig)) := rfl

/-- They touch TensorCore references only. -/
theorem opsAttn2_sub : (opsAttn2 (F := F)).Forall fun op => op.bufs ⊆ tcRefs τ sig :=
  ⟨binary_bufs_sub .., binary_bufs_sub .., binary_bufs_sub .., nullary_bufs_sub .., unary_bufs_sub .., binary_bufs_sub .., unary_bufs_sub .., binary_bufs_sub .., nullary_bufs_sub .., unary_bufs_sub .., binary_bufs_sub .., unary_bufs_sub .., unary_bufs_sub .., unary_bufs_sub .., unary_bufs_sub .., binary_bufs_sub .., binary_bufs_sub .., nullary_bufs_sub .., nullary_bufs_sub .., nullary_bufs_sub .., unary_bufs_sub .., binary_bufs_sub .., unary_bufs_sub .., unary_bufs_sub .., unary_bufs_sub .., binary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., reshape_bufs_sub ..⟩

/-- They write no argument. -/
theorem opsAttn2_keep (V : Valuation τ sig (Elt F)) (r : Ref sig .tc) (hr : r ∉ opsAttn2W) :
    after opsAttn2 V (Proc.devRef .tc r) = V (Proc.devRef .tc r) :=
  after_of_writes_sub _ V (forall_writes_sub_of_map opsAttn2_writes) hr

/-- All of @main's operations. -/
def ops : List (HloOp τ sig (Elt F)) := opsMix ++ (opsFfn ++ (opsNorm ++ (opsNorm2 ++ (opsAttn ++ opsAttn2))))

theorem part0_eq (c : Dev nD) : main_part0 (F := F) c = seq (opsMix ++ (opsFfn ++ opsNorm)) := rfl
theorem part1_eq (c : Dev nD) : main_part1 (F := F) c = seq (opsNorm2 ++ opsAttn) := rfl
theorem part2_eq (c : Dev nD) : main_part2 (F := F) c = seq opsAttn2 := rfl

/-- @main is that straight line. -/
theorem main_eq (c : Dev nD) : main (F := F) c = seq ops := by
  have h : (ops (F := F)) = (opsMix ++ (opsFfn ++ opsNorm)) ++ ((opsNorm2 ++ opsAttn) ++ opsAttn2) := by
    simp only [ops, List.append_assoc]
  rw [h, seq_append, seq_append (opsNorm2 ++ opsAttn), ← part0_eq c, ← part1_eq c, ← part2_eq c]
  rfl

theorem append_forall {α : Type} {p : α → Prop} {l l' : List α} (h : l.Forall p) (h' : l'.Forall p) : (l ++ l').Forall p :=
  List.forall_iff_forall_mem.mpr fun x hx => (List.mem_append.mp hx).elim
    (List.forall_iff_forall_mem.mp h x) (List.forall_iff_forall_mem.mp h' x)

theorem ops_sub : (ops (F := F)).Forall fun op => op.bufs ⊆ tcRefs τ sig :=
  append_forall opsMix_sub (append_forall opsFfn_sub (append_forall opsNorm_sub (append_forall opsNorm2_sub
    (append_forall opsAttn_sub opsAttn2_sub))))

theorem ops_fresh : ∀ op ∈ (ops (F := F)), op.fresh = ∅ :=
  List.forall_iff_forall_mem.mp (append_forall (forall_fresh_of_map opsMix_fresh) (append_forall (forall_fresh_of_map opsFfn_fresh)
    (append_forall (forall_fresh_of_map opsNorm_fresh) (append_forall (forall_fresh_of_map opsNorm2_fresh)
    (append_forall (forall_fresh_of_map opsAttn_fresh) (forall_fresh_of_map opsAttn2_fresh))))))

/-- Two lines in a row: the second's fold over the first's. -/
theorem after_two : ∀ (l l' : List (HloOp τ sig (Elt F))) (V : Valuation τ sig (Elt F)), after (l ++ l') V = after l' (after l V)
  | [], _, _ => rfl
  | op :: l, l', V => after_two l l' (op.result V)

/-- What every buffer holds after all the operations, list by list. -/
theorem after_ops (V : Valuation τ sig (Elt F)) : after ops V
    = after opsAttn2 (after opsAttn (after opsNorm2 (after opsNorm (after opsFfn (after opsMix V))))) := by
  rw [ops, after_two, after_two, after_two, after_two, after_two]

/-- A buffer that no operation writes keeps its contents. -/
theorem keep (V : Valuation τ sig (Elt F)) (r : Ref sig .tc)
    (hr : r ∉ opsMixW ∧ r ∉ opsFfnW ∧ r ∉ opsNormW ∧ r ∉ opsNorm2W ∧ r ∉ opsAttnW ∧ r ∉ opsAttn2W) :
    after ops V (Proc.devRef .tc r) = V (Proc.devRef .tc r) := by
  obtain ⟨h1, h2, h3, h4, h5, h6⟩ := hr
  rw [after_ops, opsAttn2_keep _ _ h6, opsAttn_keep _ _ h5, opsNorm2_keep _ _ h4, opsNorm_keep _ _ h3, opsFfn_keep _ _ h2,
    opsMix_keep _ _ h1]

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- The run: every buffer ends at the fold of the operations over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The counters are zero at every state: no semaphore is declared. -/
theorem sems (s : MemSt nD τ sig (Elt F)) : s.sem = fun _ => 0 := sem_eq_zero_of_no_sems (by decide) s

/-- The arguments end unchanged. -/
theorem args_kept (m : (ℓ : Loc nD τ sig) → Buf (Elt F) ℓ) (r : PUnit × MemSt nD τ sig (Elt F))
    (h : ∀ (d : Dev nD) (b : Ref sig .tc), r.2.mem ((d.tc : Thread nD τ).loc b) = after ops (launchContents m d) (Proc.devRef .tc b))
    (c : Dev nD) : r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨(h c main_arg0).trans (keep _ _ (by decide +kernel)),
    (h c main_arg1).trans (keep _ _ (by decide +kernel)),
    (h c main_arg2).trans (keep _ _ (by decide +kernel)),
    (h c main_arg3).trans (keep _ _ (by decide +kernel)),
    (h c main_arg4).trans (keep _ _ (by decide +kernel)),
    (h c main_arg5).trans (keep _ _ (by decide +kernel)),
    (h c main_arg6).trans (keep _ _ (by decide +kernel)),
    (h c main_arg7).trans (keep _ _ (by decide +kernel)),
    (h c main_arg8).trans (keep _ _ (by decide +kernel)),
    (h c main_arg9).trans (keep _ _ (by decide +kernel)),
    (h c main_arg10).trans (keep _ _ (by decide +kernel)),
    (h c main_arg11).trans (keep _ _ (by decide +kernel)),
    (h c main_arg12).trans (keep _ _ (by decide +kernel)),
    (h c main_arg13).trans (keep _ _ (by decide +kernel)),
    (h c main_arg14).trans (keep _ _ (by decide +kernel)),
    (h c main_arg15).trans (keep _ _ (by decide +kernel)),
    (h c main_arg16).trans (keep _ _ (by decide +kernel)),
    (h c main_arg17).trans (keep _ _ (by decide +kernel)),
    (h c main_arg18).trans (keep _ _ (by decide +kernel))⟩

end Cert.Proof.Ref

end
-- ==== Proof.Finish.RefRows.lean ====
/-
  The reference program over the extended reals, one row at a time: its first result's rows are the row functions of
  the tokens' rows and of the weights.
-/
module

public import proofs.«01_k».proof.Proof.Finish.Ref
public import proofs.«01_k».proof.Proof.Finish.Rows
public import Idealize.ShloMosaic.Lib.StableHlo.ReadAt
public import Idealize.ShloMosaic.Lib.IdealHost

@[expose] public section

set_option maxRecDepth 100000
set_option maxHeartbeats 4000000

noncomputable section

namespace Cert.Proof.Ref

open Cert.ReferenceIdeal Cert.ReferenceIdeal.Gen
open Idealize.ShloMosaic Idealize.ShloMosaic.TcCoe Idealize.ShloMosaic.StableHlo Idealize.SL.Sem
open Cert.Finish (lnRow meanRow resRow mixRow x1Row ffnRow hidTerm gatedOf yRow)
open scoped BigOperators

variable {F : FTy → Type} [FloatOps F]

/-- `opsMix` to the residual sum. -/
abbrev opsProj : List (HloOp τ sig (Elt F)) :=
  [ reshape main_arg3 main_v0 (rfl : (.f32 : EltTy) = .f32) shapeCasts_S1x1024x1024_S1024x1024,
    reshape main_arg4 main_v1 (rfl : (.f32 : EltTy) = .f32) shapeCasts_S1x1024_S1024,
    reshape main_arg5 main_v2 (rfl : (.f32 : EltTy) = .f32) shapeCasts_S1x1024_S1024,
    reshape main_arg6 main_v3 (rfl : (.f32 : EltTy) = .f32) shapeCasts_S1x1024x2816_S1024x2816,
    reshape main_arg7 main_v4 (rfl : (.f32 : EltTy) = .f32) shapeCasts_S1x1024x2816_S1024x2816,
    reshape main_arg8 main_v5 (rfl : (.f32 : EltTy) = .f32) shapeCasts_S1x2816x1024_S2816x1024,
    reshape main_arg9 main_v6 (rfl : (.f32 : EltTy) = .f32) shapeCasts_S1x1024_S1024,
    reshape main_arg10 main_v7 (rfl : (.f32 : EltTy) = .f32) shapeCasts_S1x1024_S1024,
    unary main_arg1 main_v8 ((extf .f32 · bitsLt_bf16_f32) : (⟨S8x4096x512, .bf16⟩ : BufTy).Contents (Elt F) → (⟨S8x4096x512, .f32⟩ : BufTy).Contents (Elt F)),
    unary main_arg2 main_v9 ((extf .f32 · bitsLt_bf16_f32) : (⟨S8x4096x512, .bf16⟩ : BufTy).Contents (Elt F) → (⟨S8x4096x512, .f32⟩ : BufTy).Contents (Elt F)),
    binary main_v8 main_v9 main_v10 ((fun a b => concatenate S8x4096x1024 2 [⟨S8x4096x512, a⟩, ⟨S8x4096x512, b⟩] concatenates_S8x4096x512_S8x4096x512_S8x4096x1024_d2) : (⟨S8x4096x512, .f32⟩ : BufTy).Contents (Elt F) → (⟨S8x4096x512, .f32⟩ : BufTy).Contents (Elt F) → (⟨S8x4096x1024, .f32⟩ : BufTy).Contents (Elt F)),
    binary main_v10 main_v0 main_v11 ((fun l r => Host.dotGeneral dot_S8x4096x1024_S1024x1024_S8x4096x1024_2_0_01_1_n_n none l r) : (⟨S8x4096x1024, .f32⟩ : BufTy).Contents (Elt F) → (⟨S1024x1024, .f32⟩ : BufTy).Contents (Elt F) → (⟨S8x4096x1024, .f32⟩ : BufTy).Contents (Elt F)),
    nullary main_cst (constant S_ .f32 0x3F9837F0#32),
    unary main_cst main_v12 (broadcastInDim S8x4096x1024 ![] bcast_S_S8x4096x1024 : (⟨S_, .f32⟩ : BufTy).Contents (Elt F) → (⟨S8x4096x1024, .f32⟩ : BufTy).Contents (Elt F)),
    binary main_v12 main_arg0 main_v13 (mulf : (⟨S8x4096x1024, .f32⟩ : BufTy).Contents (Elt F) → (⟨S8x4096x1024, .f32⟩ : BufTy).Contents (Elt F) → (⟨S8x4096x1024, .f32⟩ : BufTy).Contents (Elt F)),
    binary main_v13 main_v11 main_v14 (addf : (⟨S8x4096x1024, .f32⟩ : BufTy).Contents (Elt F) → (⟨S8x4096x1024, .f32⟩ : BufTy).Contents (Elt F) → (⟨S8x4096x1024, .f32⟩ : BufTy).Contents (Elt F)) ]

/-- `opsMix`'s layer norm. -/
abbrev opsNorm1 : List (HloOp τ sig (Elt F)) :=
  [ nullary main_cst_0 (constant S_ .f32 0x00000000#32),
    binary main_v14 main_cst_0 main_v15 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v15 main_v16 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_1 (constant S_ .f32 0x44800000#32),
    unary main_cst_1 main_v17 (broadcastInDim S8x4096x1 ![] bcast_S_S8x4096x1 : (⟨S_, .f32⟩ : BufTy).Contents (Elt F) → (⟨S8x4096x1, .f32⟩ : BufTy).Contents (Elt F)),
    binary main_v16 main_v17 main_v18 (Host.divf : (⟨S8x4096x1, .f32⟩ : BufTy).Contents (Elt F) → (⟨S8x4096x1, .f32⟩ : BufTy).Contents (Elt F) → (⟨S8x4096x1, .f32⟩ : BufTy).Contents (Elt F)),
    unary main_v18 main_v19 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v14 main_v19 main_v20 (subf : (⟨S8x4096x1024, .f32⟩ : BufTy).Contents (Elt F) → (⟨S8x4096x1024, .f32⟩ : BufTy).Contents (Elt F) → (⟨S8x4096x1024, .f32⟩ : BufTy).Contents (Elt F)),
    binary main_v20 main_v20 main_v21 (mulf : (⟨S8x4096x1024, .f32⟩ : BufTy).Contents (Elt F) → (⟨S8x4096x1024, .f32⟩ : BufTy).Contents (Elt F) → (⟨S8x4096x1024, .f32⟩ : BufTy).Contents (Elt F)),
    nullary main_cst_2 (constant S_ .f32 0x00000000#32),
    binary main_v21 main_cst_2 main_v22 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v22 main_v23 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_3 (constant S_ .f32 0x44800000#32),
    unary main_cst_3 main_v24 (broadcastInDim S8x4096x1 ![] bcast_S_S8x4096x1 : (⟨S_, .f32⟩ : BufTy).Contents (Elt F) → (⟨S8x4096x1, .f32⟩ : BufTy).Contents (Elt F)),
    binary main_v23 main_v24 main_v25 (Host.divf : (⟨S8x4096x1, .f32⟩ : BufTy).Contents (Elt F) → (⟨S8x4096x1, .f32⟩ : BufTy).Contents (Elt F) → (⟨S8x4096x1, .f32⟩ : BufTy).Contents (Elt F)),
    unary main_v18 main_v26 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v14 main_v26 main_v27 (subf : (⟨S8x4096x1024, .f32⟩ : BufTy).Contents (Elt F) → (⟨S8x4096x1024, .f32⟩ : BufTy).Contents (Elt F) → (⟨S8x4096x1024, .f32⟩ : BufTy).Contents (Elt F)),
    nullary main_cst_4 (constant S_ .f32 0x3727C5AC#32),
    unary main_cst_4 main_v28 (broadcastInDim S8x4096x1 ![] bcast_S_S8x4096x1 : (⟨S_, .f32⟩ : BufTy).Contents (Elt F) → (⟨S8x4096x1, .f32⟩ : BufTy).Contents (Elt F)),
    binary main_v25 main_v28 main_v29 (addf : (⟨S8x4096x1, .f32⟩ : BufTy).Contents (Elt F) → (⟨S8x4096x1, .f32⟩ : BufTy).Contents (Elt F) → (⟨S8x4096x1, .f32⟩ : BufTy).Contents (Elt F)),
    unary main_v29 main_v30 (Host.rsqrt : (⟨S8x4096x1, .f32⟩ : BufTy).Contents (Elt F) → (⟨S8x4096x1, .f32⟩ : BufTy).Contents (Elt F)),
    unary main_v30 main_v31 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v27 main_v31 main_v32 (mulf : (⟨S8x4096x1024, .f32⟩ : BufTy).Contents (Elt F) → (⟨S8x4096x1024, .f32⟩ : BufTy).Contents (Elt F) → (⟨S8x4096x1024, .f32⟩ : BufTy).Contents (Elt F)),
    unary main_v1 main_v33 (broadcastInDim S1x1x1024 ![2] bcast_S1024_S1x1x1024_2 : (⟨S1024, .f32⟩ : BufTy).Contents (Elt F) → (⟨S1x1x1024, .f32⟩ : BufTy).Contents (Elt F)),
    unary main_v33 main_v34 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v32 main_v34 main_v35 (mulf : (⟨S8x4096x1024, .f32⟩ : BufTy).Contents (Elt F) → (⟨S8x4096x1024, .f32⟩ : BufTy).Contents (Elt F) → (⟨S8x4096x1024, .f32⟩ : BufTy).Contents (Elt F)),
    unary main_v2 main_v36 (broadcastInDim S1x1x1024 ![2] bcast_S1024_S1x1x1024_2 : (⟨S1024, .f32⟩ : BufTy).Contents (Elt F) → (⟨S1x1x1024, .f32⟩ : BufTy).Contents (Elt F)),
    unary main_v36 main_v37 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v35 main_v37 main_v38 (addf : (⟨S8x4096x1024, .f32⟩ : BufTy).Contents (Elt F) → (⟨S8x4096x1024, .f32⟩ : BufTy).Contents (Elt F) → (⟨S8x4096x1024, .f32⟩ : BufTy).Contents (Elt F)) ]

theorem after_mix (V : Valuation τ sig (Elt F)) : after opsMix V = after opsNorm1 (after opsProj V) := rfl

variable (V : Valuation τ sig (Elt Ideal)) (s : Fin 8) (q : Fin 4096) (j : Fin 1024)

/-- The contents as an array of extended reals. -/
abbrev at3 {A B C : ℕ} (x : (⟨3, ![A, B, C]⟩ : Shape).Idx → EReal) (a : Fin A) (b : Fin B) (c : Fin C) : EReal := x (ix3 a b c)
abbrev at2 {A B : ℕ} (x : (⟨2, ![A, B]⟩ : Shape).Idx → EReal) (a : Fin A) (b : Fin B) : EReal := x (ix2 a b)
abbrev at1 {A : ℕ} (x : (⟨1, ![A]⟩ : Shape).Idx → EReal) (a : Fin A) : EReal := x (ix1 a)

theorem proj_row : at3 (after opsProj V (Proc.devRef .tc main_v14)) s q j
    = resRow (at3 (V (Proc.devRef .tc main_arg0)) s q)
        (mixRow (at3 (V (Proc.devRef .tc main_arg1)) s q) (at3 (V (Proc.devRef .tc main_arg2)) s q) (at3 (V (Proc.devRef .tc main_arg3)) 0)) j := by
  unfold at3 resRow mixRow
  after_reads_at
  rfl

theorem norm1_row : at3 (after opsNorm1 V (Proc.devRef .tc main_v38)) s q j
    = lnRow (at3 (V (Proc.devRef .tc main_v14)) s q) (at1 (V (Proc.devRef .tc main_v1))) (at1 (V (Proc.devRef .tc main_v2))) j := by
  unfold at3 at1 lnRow meanRow
  after_reads_at

theorem ffn_row : at3 (after opsFfn V (Proc.devRef .tc main_v46)) s q j
    = resRow (at3 (V (Proc.devRef .tc main_v38)) s q)
        (ffnRow (at3 (V (Proc.devRef .tc main_v38)) s q) (at2 (V (Proc.devRef .tc main_v3))) (at2 (V (Proc.devRef .tc main_v4))) (at2 (V (Proc.devRef .tc main_v5)))) j := by
  unfold at3 at2 resRow ffnRow hidTerm gatedOf
  after_reads_at
  rfl

theorem norm2_row : at3 (after opsNorm2 (after opsNorm V) (Proc.devRef .tc main_v70)) s q j
    = lnRow (at3 (V (Proc.devRef .tc main_v46)) s q) (at1 (V (Proc.devRef .tc main_v6))) (at1 (V (Proc.devRef .tc main_v7))) j := by
  unfold at3 at1 lnRow meanRow
  after_reads_at

/-! ## The weights, and the first result -/

theorem v6_at (k : Fin 1024) : at1 (after opsMix V (Proc.devRef .tc main_v6)) k = at2 (V (Proc.devRef .tc main_arg9)) 0 k := by
  unfold at1 at2
  after_reads_at

theorem v7_at (k : Fin 1024) : at1 (after opsMix V (Proc.devRef .tc main_v7)) k = at2 (V (Proc.devRef .tc main_arg10)) 0 k := by
  unfold at1 at2
  after_reads_at

theorem v3_at (k : Fin 1024) (l : Fin 2816) : at2 (after opsMix V (Proc.devRef .tc main_v3)) k l = at3 (V (Proc.devRef .tc main_arg6)) 0 k l := by
  unfold at2 at3
  after_reads_at

theorem v4_at (k : Fin 1024) (l : Fin 2816) : at2 (after opsMix V (Proc.devRef .tc main_v4)) k l = at3 (V (Proc.devRef .tc main_arg7)) 0 k l := by
  unfold at2 at3
  after_reads_at

theorem v5_at (k : Fin 2816) (l : Fin 1024) : at2 (after opsMix V (Proc.devRef .tc main_v5)) k l = at3 (V (Proc.devRef .tc main_arg8)) 0 k l := by
  unfold at2 at3
  after_reads_at

theorem v1_at (k : Fin 1024) : at1 (after opsProj V (Proc.devRef .tc main_v1)) k = at2 (V (Proc.devRef .tc main_arg4)) 0 k := by
  unfold at1 at2
  after_reads_at

theorem v2_at (k : Fin 1024) : at1 (after opsProj V (Proc.devRef .tc main_v2)) k = at2 (V (Proc.devRef .tc main_arg5)) 0 k := by
  unfold at1 at2
  after_reads_at

theorem v138_at (R : Fin 32768) : at2 (after opsAttn2 V (Proc.devRef .tc main_v138)) R j
    = at3 (V (Proc.devRef .tc main_v70)) ⟨R.val / 4096, by omega⟩ ⟨R.val % 4096, by omega⟩ j := by
  unfold at2 at3
  after_reads_at

/-- Rows after the first layer norm. -/
theorem x1_row : at3 (after opsMix V (Proc.devRef .tc main_v38)) s q
    = x1Row (at3 (V (Proc.devRef .tc main_arg0)) s q) (at3 (V (Proc.devRef .tc main_arg1)) s q) (at3 (V (Proc.devRef .tc main_arg2)) s q)
        (at3 (V (Proc.devRef .tc main_arg3)) 0) (at2 (V (Proc.devRef .tc main_arg4)) 0) (at2 (V (Proc.devRef .tc main_arg5)) 0) := by
  funext j
  rw [after_mix, norm1_row, funext fun k => proj_row V s q k, funext fun k => v1_at V k, funext fun k => v2_at V k]
  rfl

/-- The reference's first result, at a row and column, of the arguments. -/
theorem y_row (R : Fin 32768) : at2 (after ops V (Proc.devRef .tc main_v138)) R j
    = yRow (at3 (V (Proc.devRef .tc main_arg0)) ⟨R.val / 4096, by omega⟩ ⟨R.val % 4096, by omega⟩)
        (at3 (V (Proc.devRef .tc main_arg1)) ⟨R.val / 4096, by omega⟩ ⟨R.val % 4096, by omega⟩)
        (at3 (V (Proc.devRef .tc main_arg2)) ⟨R.val / 4096, by omega⟩ ⟨R.val % 4096, by omega⟩)
        (at3 (V (Proc.devRef .tc main_arg3)) 0) (at2 (V (Proc.devRef .tc main_arg4)) 0) (at2 (V (Proc.devRef .tc main_arg5)) 0)
        (at3 (V (Proc.devRef .tc main_arg6)) 0) (at3 (V (Proc.devRef .tc main_arg7)) 0) (at3 (V (Proc.devRef .tc main_arg8)) 0)
        (at2 (V (Proc.devRef .tc main_arg9)) 0) (at2 (V (Proc.devRef .tc main_arg10)) 0) j := by
  have key : ∀ (s : Fin 8) (q : Fin 4096), at3 (after opsNorm2 (after opsNorm (after opsFfn (after opsMix V))) (Proc.devRef .tc main_v70)) s q j
      = yRow (at3 (V (Proc.devRef .tc main_arg0)) s q) (at3 (V (Proc.devRef .tc main_arg1)) s q) (at3 (V (Proc.devRef .tc main_arg2)) s q)
        (at3 (V (Proc.devRef .tc main_arg3)) 0) (at2 (V (Proc.devRef .tc main_arg4)) 0) (at2 (V (Proc.devRef .tc main_arg5)) 0)
        (at3 (V (Proc.devRef .tc main_arg6)) 0) (at3 (V (Proc.devRef .tc main_arg7)) 0) (at3 (V (Proc.devRef .tc main_arg8)) 0)
        (at2 (V (Proc.devRef .tc main_arg9)) 0) (at2 (V (Proc.devRef .tc main_arg10)) 0) j := fun s q => by
    rw [norm2_row, funext fun k => ffn_row (after opsMix V) s q k, x1_row,
      opsFfn_keep _ main_v6 (by decide), opsFfn_keep _ main_v7 (by decide),
      funext fun k => v6_at V k, funext fun k => v7_at V k, funext₂ fun k l => v3_at V k l, funext₂ fun k l => v4_at V k l, funext₂ fun k l => v5_at V k l]
    rfl
  rw [after_ops, v138_at, opsAttn_keep _ _ (by decide)]
  exact key _ _

end Cert.Proof.Ref

end
-- ==== Proof.FinishBits.Vals.lean ====
module

public import proofs.«01_k».proof.Proof.FinishBits.Body
public import Idealize.ShloMosaic.Lib.Pipeline.DatRel
public import Idealize.ShloMosaic.Lib.Pipeline.ArrRel
public import Idealize.ShloMosaic.Lib.Pipeline.FrameSuffix
public import Idealize.ShloMosaic.Lib.WordCmp

/-! # A grid point leaves its inputs -/

@[expose] public section

set_option maxRecDepth 16384
set_option maxHeartbeats 4000000

noncomputable section

namespace Cert.FinishBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Kernel Cert.Kernel.Gen

variable {F : FTy → Type} [FloatOps F]
variable (m : (ℓ : Loc nD τ sig) → Buf (Elt F) ℓ) (ρ : Dev nD → PrngReg) (hO : Ok m) (c : Dev nD)

theorem val_st (Y : Vals m hO) (s : Sc F) : ∀ w, valOf m hO (stOf m hO Y s) w = Y w :=
  all63 ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem val_step (t : Fin grid0.N) (σ : St F) : ∀ w : Fin 63, w.val < 61 → valOf m hO (stepSt t σ) w = valOf m hO σ w :=
  all63 ⟨fun _ => step_x σ t, fun _ => step_a σ t, fun _ => step_p σ t, fun _ => step_wo σ t, fun _ => step_g1 σ t, fun _ => step_b1 σ t, fun _ => step_wg σ t, fun _ => step_wu σ t, fun _ => step_wd σ t, fun _ => step_g2 σ t, fun _ => step_b2 σ t, fun _ => step_qkv σ t, fun _ => step_lfn σ t, fun _ => congrFun (step_k σ t) 0, fun _ => congrFun (step_k σ t) 1, fun _ => congrFun (step_k σ t) 2, fun _ => congrFun (step_k σ t) 3, fun _ => congrFun (step_k σ t) 4, fun _ => congrFun (step_k σ t) 5, fun _ => congrFun (step_k σ t) 6, fun _ => congrFun (step_k σ t) 7, fun _ => congrFun (step_k σ t) 8, fun _ => congrFun (step_k σ t) 9, fun _ => congrFun (step_k σ t) 10, fun _ => congrFun (step_k σ t) 11, fun _ => congrFun (step_k σ t) 12, fun _ => congrFun (step_k σ t) 13, fun _ => congrFun (step_k σ t) 14, fun _ => congrFun (step_k σ t) 15, fun _ => congrFun (step_v σ t) 0, fun _ => congrFun (step_v σ t) 1, fun _ => congrFun (step_v σ t) 2, fun _ => congrFun (step_v σ t) 3, fun _ => congrFun (step_v σ t) 4, fun _ => congrFun (step_v σ t) 5, fun _ => congrFun (step_v σ t) 6, fun _ => congrFun (step_v σ t) 7, fun _ => congrFun (step_v σ t) 8, fun _ => congrFun (step_v σ t) 9, fun _ => congrFun (step_v σ t) 10, fun _ => congrFun (step_v σ t) 11, fun _ => congrFun (step_v σ t) 12, fun _ => congrFun (step_v σ t) 13, fun _ => congrFun (step_v σ t) 14, fun _ => congrFun (step_v σ t) 15, fun _ => congrFun (step_lf σ t) 0, fun _ => congrFun (step_lf σ t) 1, fun _ => congrFun (step_lf σ t) 2, fun _ => congrFun (step_lf σ t) 3, fun _ => congrFun (step_lf σ t) 4, fun _ => congrFun (step_lf σ t) 5, fun _ => congrFun (step_lf σ t) 6, fun _ => congrFun (step_lf σ t) 7, fun _ => congrFun (step_lf σ t) 8, fun _ => congrFun (step_lf σ t) 9, fun _ => congrFun (step_lf σ t) 10, fun _ => congrFun (step_lf σ t) 11, fun _ => congrFun (step_lf σ t) 12, fun _ => congrFun (step_lf σ t) 13, fun _ => congrFun (step_lf σ t) 14, fun _ => congrFun (step_lf σ t) 15, fun h => absurd h (by decide), fun h => absurd h (by decide)⟩

end Cert.FinishBits

end
-- ==== Proof.FinishBits.Found.lean ====
module

public import proofs.«01_k».proof.Proof.FinishBits.Body
public import Idealize.ShloMosaic.Lib.Pipeline.DatRel
public import Idealize.ShloMosaic.Lib.Pipeline.ArrRel
public import Idealize.ShloMosaic.Lib.Pipeline.FrameSuffix
public import Idealize.ShloMosaic.Lib.WordCmp

/-! # A grid point finds the blocks of its inputs -/

@[expose] public section

set_option maxRecDepth 16384
set_option maxHeartbeats 4000000

noncomputable section

namespace Cert.FinishBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Kernel Cert.Kernel.Gen

variable {F : FTy → Type} [FloatOps F]
variable (m : (ℓ : Loc nD τ sig) → Buf (Elt F) ℓ) (ρ : Dev nD → PrngReg) (hO : Ok m) (c : Dev nD)

theorem found (t : Fin (cfgM m hO).N) : ∀ (w : Fin 63), w.val < 61 → ∀ d, (dats m hO 0 c).before w t d = (dats m hO 0 c).after w t :=
  all63 ⟨fun _ d => (before0 m hO c t d).trans (after0 m hO c t).symm, fun _ d => (before1 m hO c t d).trans (after1 m hO c t).symm, fun _ d => (before2 m hO c t d).trans (after2 m hO c t).symm, fun _ d => (before3 m hO c t d).trans (after3 m hO c t).symm, fun _ d => (before4 m hO c t d).trans (after4 m hO c t).symm, fun _ d => (before5 m hO c t d).trans (after5 m hO c t).symm, fun _ d => (before6 m hO c t d).trans (after6 m hO c t).symm, fun _ d => (before7 m hO c t d).trans (after7 m hO c t).symm, fun _ d => (before8 m hO c t d).trans (after8 m hO c t).symm, fun _ d => (before9 m hO c t d).trans (after9 m hO c t).symm, fun _ d => (before10 m hO c t d).trans (after10 m hO c t).symm, fun _ d => (before11 m hO c t d).trans (after11 m hO c t).symm, fun _ d => (before12 m hO c t d).trans (after12 m hO c t).symm, fun _ d => (before13 m hO c t d).trans (after13 m hO c t).symm, fun _ d => (before14 m hO c t d).trans (after14 m hO c t).symm, fun _ d => (before15 m hO c t d).trans (after15 m hO c t).symm, fun _ d => (before16 m hO c t d).trans (after16 m hO c t).symm, fun _ d => (before17 m hO c t d).trans (after17 m hO c t).symm, fun _ d => (before18 m hO c t d).trans (after18 m hO c t).symm, fun _ d => (before19 m hO c t d).trans (after19 m hO c t).symm, fun _ d => (before20 m hO c t d).trans (after20 m hO c t).symm, fun _ d => (before21 m hO c t d).trans (after21 m hO c t).symm, fun _ d => (before22 m hO c t d).trans (after22 m hO c t).symm, fun _ d => (before23 m hO c t d).trans (after23 m hO c t).symm, fun _ d => (before24 m hO c t d).trans (after24 m hO c t).symm, fun _ d => (before25 m hO c t d).trans (after25 m hO c t).symm, fun _ d => (before26 m hO c t d).trans (after26 m hO c t).symm, fun _ d => (before27 m hO c t d).trans (after27 m hO c t).symm, fun _ d => (before28 m hO c t d).trans (after28 m hO c t).symm, fun _ d => (before29 m hO c t d).trans (after29 m hO c t).symm, fun _ d => (before30 m hO c t d).trans (after30 m hO c t).symm, fun _ d => (before31 m hO c t d).trans (after31 m hO c t).symm, fun _ d => (before32 m hO c t d).trans (after32 m hO c t).symm, fun _ d => (before33 m hO c t d).trans (after33 m hO c t).symm, fun _ d => (before34 m hO c t d).trans (after34 m hO c t).symm, fun _ d => (before35 m hO c t d).trans (after35 m hO c t).symm, fun _ d => (before36 m hO c t d).trans (after36 m hO c t).symm, fun _ d => (before37 m hO c t d).trans (after37 m hO c t).symm, fun _ d => (before38 m hO c t d).trans (after38 m hO c t).symm, fun _ d => (before39 m hO c t d).trans (after39 m hO c t).symm, fun _ d => (before40 m hO c t d).trans (after40 m hO c t).symm, fun _ d => (before41 m hO c t d).trans (after41 m hO c t).symm, fun _ d => (before42 m hO c t d).trans (after42 m hO c t).symm, fun _ d => (before43 m hO c t d).trans (after43 m hO c t).symm, fun _ d => (before44 m hO c t d).trans (after44 m hO c t).symm, fun _ d => (before45 m hO c t d).trans (after45 m hO c t).symm, fun _ d => (before46 m hO c t d).trans (after46 m hO c t).symm, fun _ d => (before47 m hO c t d).trans (after47 m hO c t).symm, fun _ d => (before48 m hO c t d).trans (after48 m hO c t).symm, fun _ d => (before49 m hO c t d).trans (after49 m hO c t).symm, fun _ d => (before50 m hO c t d).trans (after50 m hO c t).symm, fun _ d => (before51 m hO c t d).trans (after51 m hO c t).symm, fun _ d => (before52 m hO c t d).trans (after52 m hO c t).symm, fun _ d => (before53 m hO c t d).trans (after53 m hO c t).symm, fun _ d => (before54 m hO c t d).trans (after54 m hO c t).symm, fun _ d => (before55 m hO c t d).trans (after55 m hO c t).symm, fun _ d => (before56 m hO c t d).trans (after56 m hO c t).symm, fun _ d => (before57 m hO c t d).trans (after57 m hO c t).symm, fun _ d => (before58 m hO c t d).trans (after58 m hO c t).symm, fun _ d => (before59 m hO c t d).trans (after59 m hO c t).symm, fun _ d => (before60 m hO c t d).trans (after60 m hO c t).symm, fun h => absurd h (by decide), fun h => absurd h (by decide)⟩

end Cert.FinishBits

end
-- ==== Proof.FinishBits.Left.lean ====
module

public import proofs.«01_k».proof.Proof.FinishBits.Body
public import Idealize.ShloMosaic.Lib.Pipeline.DatRel
public import Idealize.ShloMosaic.Lib.Pipeline.ArrRel
public import Idealize.ShloMosaic.Lib.Pipeline.FrameSuffix
public import Idealize.ShloMosaic.Lib.WordCmp

/-! # What a grid point may leave in its inputs -/

@[expose] public section

set_option maxRecDepth 16384
set_option maxHeartbeats 4000000

noncomputable section

namespace Cert.FinishBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Kernel Cert.Kernel.Gen

variable {F : FTy → Type} [FloatOps F]
variable (m : (ℓ : Loc nD τ sig) → Buf (Elt F) ℓ) (ρ : Dev nD → PrngReg) (hO : Ok m) (c : Dev nD)

theorem left (t : Fin (cfgM m hO).N) : ∀ (w : Fin 63), w.val < 61 → (dats m hO 0 c).Leaves w t ((dats m hO 0 c).after w t) :=
  all63 ⟨fun _ => (rfl : (dats m hO 0 c).after 0 t = (dats m hO 0 c).after 0 t), fun _ => (rfl : (dats m hO 0 c).after 1 t = (dats m hO 0 c).after 1 t), fun _ => (rfl : (dats m hO 0 c).after 2 t = (dats m hO 0 c).after 2 t), fun _ => (rfl : (dats m hO 0 c).after 3 t = (dats m hO 0 c).after 3 t), fun _ => (rfl : (dats m hO 0 c).after 4 t = (dats m hO 0 c).after 4 t), fun _ => (rfl : (dats m hO 0 c).after 5 t = (dats m hO 0 c).after 5 t), fun _ => (rfl : (dats m hO 0 c).after 6 t = (dats m hO 0 c).after 6 t), fun _ => (rfl : (dats m hO 0 c).after 7 t = (dats m hO 0 c).after 7 t), fun _ => (rfl : (dats m hO 0 c).after 8 t = (dats m hO 0 c).after 8 t), fun _ => (rfl : (dats m hO 0 c).after 9 t = (dats m hO 0 c).after 9 t), fun _ => (rfl : (dats m hO 0 c).after 10 t = (dats m hO 0 c).after 10 t), fun _ => (rfl : (dats m hO 0 c).after 11 t = (dats m hO 0 c).after 11 t), fun _ => (rfl : (dats m hO 0 c).after 12 t = (dats m hO 0 c).after 12 t), fun _ => (rfl : (dats m hO 0 c).after 13 t = (dats m hO 0 c).after 13 t), fun _ => (rfl : (dats m hO 0 c).after 14 t = (dats m hO 0 c).after 14 t), fun _ => (rfl : (dats m hO 0 c).after 15 t = (dats m hO 0 c).after 15 t), fun _ => (rfl : (dats m hO 0 c).after 16 t = (dats m hO 0 c).after 16 t), fun _ => (rfl : (dats m hO 0 c).after 17 t = (dats m hO 0 c).after 17 t), fun _ => (rfl : (dats m hO 0 c).after 18 t = (dats m hO 0 c).after 18 t), fun _ => (rfl : (dats m hO 0 c).after 19 t = (dats m hO 0 c).after 19 t), fun _ => (rfl : (dats m hO 0 c).after 20 t = (dats m hO 0 c).after 20 t), fun _ => (rfl : (dats m hO 0 c).after 21 t = (dats m hO 0 c).after 21 t), fun _ => (rfl : (dats m hO 0 c).after 22 t = (dats m hO 0 c).after 22 t), fun _ => (rfl : (dats m hO 0 c).after 23 t = (dats m hO 0 c).after 23 t), fun _ => (rfl : (dats m hO 0 c).after 24 t = (dats m hO 0 c).after 24 t), fun _ => (rfl : (dats m hO 0 c).after 25 t = (dats m hO 0 c).after 25 t), fun _ => (rfl : (dats m hO 0 c).after 26 t = (dats m hO 0 c).after 26 t), fun _ => (rfl : (dats m hO 0 c).after 27 t = (dats m hO 0 c).after 27 t), fun _ => (rfl : (dats m hO 0 c).after 28 t = (dats m hO 0 c).after 28 t), fun _ => (rfl : (dats m hO 0 c).after 29 t = (dats m hO 0 c).after 29 t), fun _ => (rfl : (dats m hO 0 c).after 30 t = (dats m hO 0 c).after 30 t), fun _ => (rfl : (dats m hO 0 c).after 31 t = (dats m hO 0 c).after 31 t), fun _ => (rfl : (dats m hO 0 c).after 32 t = (dats m hO 0 c).after 32 t), fun _ => (rfl : (dats m hO 0 c).after 33 t = (dats m hO 0 c).after 33 t), fun _ => (rfl : (dats m hO 0 c).after 34 t = (dats m hO 0 c).after 34 t), fun _ => (rfl : (dats m hO 0 c).after 35 t = (dats m hO 0 c).after 35 t), fun _ => (rfl : (dats m hO 0 c).after 36 t = (dats m hO 0 c).after 36 t), fun _ => (rfl : (dats m hO 0 c).after 37 t = (dats m hO 0 c).after 37 t), fun _ => (rfl : (dats m hO 0 c).after 38 t = (dats m hO 0 c).after 38 t), fun _ => (rfl : (dats m hO 0 c).after 39 t = (dats m hO 0 c).after 39 t), fun _ => (rfl : (dats m hO 0 c).after 40 t = (dats m hO 0 c).after 40 t), fun _ => (rfl : (dats m hO 0 c).after 41 t = (dats m hO 0 c).after 41 t), fun _ => (rfl : (dats m hO 0 c).after 42 t = (dats m hO 0 c).after 42 t), fun _ => (rfl : (dats m hO 0 c).after 43 t = (dats m hO 0 c).after 43 t), fun _ => (rfl : (dats m hO 0 c).after 44 t = (dats m hO 0 c).after 44 t), fun _ => (rfl : (dats m hO 0 c).after 45 t = (dats m hO 0 c).after 45 t), fun _ => (rfl : (dats m hO 0 c).after 46 t = (dats m hO 0 c).after 46 t), fun _ => (rfl : (dats m hO 0 c).after 47 t = (dats m hO 0 c).after 47 t), fun _ => (rfl : (dats m hO 0 c).after 48 t = (dats m hO 0 c).after 48 t), fun _ => (rfl : (dats m hO 0 c).after 49 t = (dats m hO 0 c).after 49 t), fun _ => (rfl : (dats m hO 0 c).after 50 t = (dats m hO 0 c).after 50 t), fun _ => (rfl : (dats m hO 0 c).after 51 t = (dats m hO 0 c).after 51 t), fun _ => (rfl : (dats m hO 0 c).after 52 t = (dats m hO 0 c).after 52 t), fun _ => (rfl : (dats m hO 0 c).after 53 t = (dats m hO 0 c).after 53 t), fun _ => (rfl : (dats m hO 0 c).after 54 t = (dats m hO 0 c).after 54 t), fun _ => (rfl : (dats m hO 0 c).after 55 t = (dats m hO 0 c).after 55 t), fun _ => (rfl : (dats m hO 0 c).after 56 t = (dats m hO 0 c).after 56 t), fun _ => (rfl : (dats m hO 0 c).after 57 t = (dats m hO 0 c).after 57 t), fun _ => (rfl : (dats m hO 0 c).after 58 t = (dats m hO 0 c).after 58 t), fun _ => (rfl : (dats m hO 0 c).after 59 t = (dats m hO 0 c).after 59 t), fun _ => (rfl : (dats m hO 0 c).after 60 t = (dats m hO 0 c).after 60 t), fun h => absurd h (by decide), fun h => absurd h (by decide)⟩

end Cert.FinishBits

end
-- ==== Proof.FinishBits.Obl.lean ====
module

public import proofs.«01_k».proof.Proof.FinishBits.Own
public import proofs.«01_k».proof.Proof.FinishBits.Vals
public import proofs.«01_k».proof.Proof.FinishBits.Found
public import proofs.«01_k».proof.Proof.FinishBits.Left
public import proofs.«01_k».proof.Proof.FinishBits.Inv
public import proofs.«01_k».proof.Proof.FinishBits.ProgEq
public import Idealize.ShloMosaic.Lib.Pipeline.DatRel
public import Idealize.ShloMosaic.Lib.Pipeline.ArrRel
public import Idealize.ShloMosaic.Lib.Pipeline.FrameSuffix
public import Idealize.ShloMosaic.Lib.WordCmp

/-! # Every grid point meets the body obligation -/

@[expose] public section

set_option maxRecDepth 16384
set_option maxHeartbeats 4000000

noncomputable section

namespace Cert.FinishBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Kernel Cert.Kernel.Gen

variable {F : FTy → Type} [FloatOps F]
variable (m : (ℓ : Loc nD τ sig) → Buf (Elt F) ℓ) (ρ : Dev nD → PrngReg) (hO : Ok m) (c : Dev nD)

theorem row (t : Fin (cfgM m hO).N) :
    defs₀ (F := F) .tc (cfgM m hO).body ((cfgM m hO).bodyArgs t ((cfgM m hO).slots t)) = body (grid0.coords t) (memsAt m hO t) := by
  unfold defs₀; rw [Defs.onTc_tc]
  exact body_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- The proof data: an input keeps its block, the results' windows are held to `Rl`. -/
abbrev rdat (c : Dev nD) : RDat τ (Elt F) Unit ℕ (UR sig nD τ) ℕ (cfgM m hO) c := (dats m hO 0 c).toRRel (fgt m hO) (Rl m hO c)

theorem fgt_in (w : Fin 63) (h : w.val < 61) : fgt m hO w = false := decide_eq_false (Nat.not_le.2 h)
theorem fgt_out (w : Fin 63) (h : ¬ w.val < 61) : fgt m hO w = true := decide_eq_true (Nat.not_lt.1 h)

theorem finds_in (t : Fin (cfgM m hO).N) (Y : Vals m hO) (hY : ∀ w, (rdat m hO c).Finds w t (Y w)) (w : Fin 63) (h : w.val < 61) :
    Y w = (dats m hO 0 c).after w t := by
  obtain ⟨d, e⟩ := (dats m hO 0 c).toRRel_finds (fgt_in m hO w h) t (Y w) (hY w)
  exact e.trans (found m hO c t w h d)

theorem blocks_of (t : Fin (cfgM m hO).N) (Y : Vals m hO) (s : Sc F) (hY : ∀ w : Fin 63, w.val < 61 → Y w = (dats m hO 0 c).after w t) :
    Blocks m hO c t (stOf m hO Y s) :=
  ⟨(hY 0 (by decide)).trans (after0 m hO c t), (hY 1 (by decide)).trans (after1 m hO c t), (hY 2 (by decide)).trans (after2 m hO c t), (hY 3 (by decide)).trans (after3 m hO c t), (hY 4 (by decide)).trans (after4 m hO c t), (hY 5 (by decide)).trans (after5 m hO c t), (hY 6 (by decide)).trans (after6 m hO c t), (hY 7 (by decide)).trans (after7 m hO c t), (hY 8 (by decide)).trans (after8 m hO c t), (hY 9 (by decide)).trans (after9 m hO c t), (hY 10 (by decide)).trans (after10 m hO c t)⟩

theorem after_ok (t : Fin (cfgM m hO).N) (Y : Vals m hO) (s : Sc F) (hY : ∀ w : Fin 63, w.val < 61 → Y w = (dats m hO 0 c).after w t)
    (hy : t.val % 4 = 3 → (stepSt t (stOf m hO Y s)).y = tileOut m hO c (tile0 t.val)) (w : Fin 63) :
    (rdat m hO c).after w t (Y w) (valOf m hO (stepSt t (stOf m hO Y s)) w) := by
  by_cases h : w.val < 61
  · rw [(dats m hO 0 c).toRRel_after_of_eq_false (fgt_in m hO w h), val_step m hO t _ w h, val_st, hY w h]
    exact left m hO c t w h
  · rw [(dats m hO 0 c).toRRel_after_of_eq_true (fgt_out m hO w h)]
    by_cases h61 : w = 61
    · subst h61; exact hy
    · have h62 : w = 62 := Fin.ext (by have := w.isLt; have : w.val ≠ 61 := fun e => h61 (Fin.ext e); show w.val = 62; omega)
      subst h62; exact trivial

theorem own_st (t : Fin (cfgM m hO).N) (Y : Vals m hO) (s : Sc F) :
    Own c (memsAt m hO t) (stOf m hO Y s) = iprop((bigSep Finset.univ fun w => owns (c : Thread nD τ) (stg m hO t w) fullShare (Y w)) ∗ ScOwn c s) := by
  rw [own_eq]; simp only [val_st]; rfl

theorem body_obligation : (rdat m hO c).BodyObligation (defs₀ (F := F)) Variants.none () Set.univ := fun t Y hF => by
  have hY := finds_in m hO c t Y hF
  rw [row]
  have e1 : (rdat m hO c).Φ t.castSucc = Phi m hO c t.val := rfl
  have e2 : (rdat m hO c).Φ t.succ = Phi m hO c (t.val + 1) := rfl
  have e3 : (rdat m hO c).owesAt () t.succ = (rdat m hO c).owesAt () t.castSucc := rfl
  rw [e1, e2, e3]
  generalize (rdat m hO c).owesAt () t.castSucc = O
  unfold Phi
  iintro ⟨⟨⟨%s, %hs, HS⟩, HR⟩, HO, HW⟩
  have hst := own_st m hO c t Y s
  obtain ⟨hI, hy⟩ := inv_step t (stOf m hO Y s) (blocks_of m hO c t Y s hY) hs
  have hrun := runs_body c (memsAt m hO t) (stOf m hO Y s) t
  iapply (hrun _)
  isplitl [HS HW]
  · rw [hst]; isplitl [HW]
    · iexact HW
    · iexact HS
  rw [own_eq]
  iintro ⟨HW, HS⟩
  isplitl [HS HR]
  · isplitl [HS]
    · iexists (scOf (stepSt t (stOf m hO Y s)))
      isplitr
      · ipureintro; exact hI
      · iexact HS
    · iexact HR
  isplitl [HO]
  · iexact HO
  have hpost : (bigSep Finset.univ fun w : Fin 63 => owns (c : Thread nD τ) (stg m hO t w) fullShare (valOf m hO (stepSt t (stOf m hO Y s)) w) : SP F)
      ⊢ bigSep Finset.univ fun w : Fin 63 => iprop(∃ X, ⌜(rdat m hO c).after w t (Y w) X⌝ ∗ owns (c : Thread nD τ) (stg m hO t w) fullShare X) :=
    Idealize.SL.BI.bigSep_mono fun w _ => by
      show (owns (c : Thread nD τ) (stg m hO t w) fullShare (valOf m hO (stepSt t (stOf m hO Y s)) w) : SP F) ⊢ iprop(∃ X, ⌜(rdat m hO c).after w t (Y w) X⌝ ∗ owns (c : Thread nD τ) (stg m hO t w) fullShare X)
      iintro H; iexists (valOf m hO (stepSt t (stOf m hO Y s)) w); isplitr
      · ipureintro; exact after_ok m hO c t Y s hY hy w
      · iexact H
  iapply hpost
  iexact HW

end Cert.FinishBits

end
-- ==== Proof.FinishBits.Pages.lean ====
/-
  The precondition of the page table, read as the bit-exact launch needs it: every page that the table names lies in the pool of
  5120 pages, so every page window's block lies inside its array.
-/
module

public import proofs.«01_k».proof.Defs
public import proofs.«01_k».proof.Proof.Finish.Pages
public import proofs.«01_k».proof.Proof.FinishBits.Setup

@[expose] public section

set_option maxRecDepth 100000

noncomputable section

namespace Cert.FinishBits

open Idealize.ShloMosaic Idealize.ShloMosaic.TcCoe
open Cert.Kernel Cert.Kernel.Gen
open Cert.Finish (inb4 inb3 small_of_fn)

variable {F : FTy → Type} [FloatOps F]

/-- Every word of the table, read as a page. -/
def Small (pf : pre0.Contents (Elt F)) : Prop := ∀ x : S32x128.Idx, (pf 0 x : BitVec 32).toNat < 5120

theorem small_at (pf : pre0.Contents (Elt F)) (h : Small pf) (r) (hn) : (pf.at 0 r hn : BitVec 32).toNat < 5120 := h _

theorem ok_of_small (pf : pre0.Contents (Elt F)) (h : Small pf) : ok0 pf :=
  ⟨
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb4 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩,
    fun i => ⟨inb3 _ (small_at pf h _ _), .inl rfl⟩⟩

/-- So the pages of a launch memory's table lie in the pool. -/
theorem ok_of_words (m : (ℓ : Loc nD τ sig) → Buf (Elt F) ℓ)
    (h : ∀ x : S32x128.Idx, (m (((0 : Dev nD) : Thread nD τ).loc main_arg11) x : BitVec 32).toNat < 5120) : Ok m :=
  ok_of_small _ fun x => by
    have e : tbl m 0 = m (((0 : Dev nD) : Thread nD τ).loc main_arg11) := V_main_arg11 m 0
    rw [e]
    exact h x

/-- The claims' precondition gives it. -/
theorem ok_bits (m : (ℓ : Loc nD τ sig) → Buf (Elt Bits) ℓ) (h : Cert.Pre_Kernel m) : Ok m :=
  ok_of_words m (small_of_fn (h 0))

end Cert.FinishBits

end
-- ==== Proof.lean ====
/-
  The proof of the claims: the frames of the call and of the reference, and the prompt tokens' result, equal over the
  extended reals. Both programs' results are the row function of the arguments' rows (Finish/Rows.lean): the call's by
  Finish/Result.lean, the reference's by Finish/RefRows.lean. FinishBits/ holds the run of the bit-exact program, whose names are its own.
-/
module

public import proofs.«01_k».proof.Defs
public import proofs.«01_k».proof.Proof.Gen.Kernel
public import proofs.«01_k».proof.Proof.Finish.Pages
public import proofs.«01_k».proof.Proof.Finish.Result
public import proofs.«01_k».proof.Proof.Finish.RefRows
public import proofs.«01_k».proof.Proof.FinishBits.Frames
public import proofs.«01_k».proof.Proof.FinishBits.Pages

@[expose] public section

set_option maxRecDepth 16384

noncomputable section

namespace Cert.Proof

open Idealize.ShloMosaic Idealize.SL.Sem
open Cert.Finish (yAt yArr yRow_congr)

theorem frame_kernel : Cert.quiescent_Kernel := fun m ρ h => Cert.FinishBits.frame m ρ (Cert.FinishBits.ok_bits m h)

theorem frame_kernelIdeal : Cert.quiescent_KernelIdeal := fun m ρ h => Cert.Finish.frame m ρ (Cert.Finish.ok_ideal m h)

theorem frame_referenceIdeal : Cert.quiescent_ReferenceIdeal := fun m ρ _ =>
  (θ_run Cert.ReferenceIdeal.defs _ _).mono (fun r h => ⟨Ref.args_kept m r h, Ref.sems r.2⟩) (Ref.run_all m ρ)

theorem frame_referenceIdeal_pre : Cert.quiescent_ReferenceIdeal_pre_pages_in_pool := fun m ρ _ =>
  (θ_run Cert.ReferenceIdeal.defs _ _).mono (fun r h => ⟨Ref.args_kept m r h, Ref.sems r.2⟩) (Ref.run_all m ρ)

/-- From equal arguments the reference's first result is the same row function of them. -/
theorem reference_y (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (R : Fin 32768) (j : Fin 1024) :
    Ref.at2 (StableHlo.after Ref.ops (StableHlo.launchContents m' c) (Proc.devRef .tc Cert.ReferenceIdeal.main_v138)) R j = yAt m c R j := by
  obtain ⟨h0, h1, h2, h3, h4, h5, h6, h7, h8, h9, h10, -⟩ := h
  exact (Ref.y_row _ j R).trans (yRow_congr j (fun k => congrFun h0 _) (fun k => congrFun h1 _) (fun k => congrFun h2 _) (fun k l => congrFun h3 _)
    (fun k => congrFun h4 _) (fun k => congrFun h5 _) (fun k l => congrFun h6 _) (fun k l => congrFun h7 _) (fun k l => congrFun h8 _)
    (fun k => congrFun h9 _) (fun k => congrFun h10 _))

theorem value : Cert.algebraic_KernelIdeal_ReferenceIdeal_on_prompt_result := fun m g m' g' hpre hargs =>
  have hO := Cert.Finish.ok_ideal m hpre
  ⟨fun c => yArr m c, fun c => m ((c.tc : Thread Cert.KernelIdeal.nD Cert.KernelIdeal.τ).loc Cert.KernelIdeal.main_v28_1),
    (θ_run Cert.KernelIdeal.defs _ _).mono (fun r h c => ⟨fun i _ => congrFun (Cert.Finish.y_eq m hO c h.1) i,
      fun i hi => absurd hi (show ¬ (0#1 : BitVec 1) = 1#1 by decide), Cert.Finish.args_kept m hO h.1 c⟩) (Cert.Finish.run_main m g hO),
    (θ_run Cert.ReferenceIdeal.defs _ _).mono (fun r h c => ⟨fun i _ => by
        have e : i = Idealize.ShloMosaic.ix2 (i 0) (i 1) := funext (Fin.forall_fin_two.mpr ⟨rfl, rfl⟩)
        rw [e]
        exact (congrFun (h c Cert.ReferenceIdeal.main_v138) _).trans ((reference_y m m' c (hargs c) (i 0) (i 1)).trans (Cert.Finish.yArr_at m c _ _).symm),
      fun i hi => absurd hi (show ¬ (0#1 : BitVec 1) = 1#1 by decide), Ref.args_kept m' r h c⟩) (Ref.run_all m' g')⟩

theorem claim : Cert.Claim :=
  ⟨Cert.Kernel.Gen.facts, Cert.KernelIdeal.Gen.facts, Cert.ReferenceIdeal.Gen.facts, inferInstance, inferInstance,
    frame_kernel, frame_kernelIdeal, frame_referenceIdeal, frame_referenceIdeal_pre, trivial, value⟩

end Cert.Proof

end
